-- ==== Defs.lean ====
def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_operands_a [hPre_operands_a : Cert.Pre_operands_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_operands_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2))).1 = (fun _ => 1#1)
    ∧ (Cert.Pre_operands_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2))).2.1 = (fun _ => 1#1)
    ∧ (Cert.Pre_operands_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2))).2.2 = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_operands_a [hPre_operands_a : Cert.Pre_operands_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_operands_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2))).1 = (fun _ => 1#1)
    ∧ (Cert.Pre_operands_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2))).2.1 = (fun _ => 1#1)
    ∧ (Cert.Pre_operands_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2))).2.2 = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_operands_b [hPre_operands_b : Cert.Pre_operands_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_operands_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))).1 = (fun _ => 1#1)
    ∧ (Cert.Pre_operands_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))).2.1 = (fun _ => 1#1)
    ∧ (Cert.Pre_operands_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))).2.2 = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_operands_b [hPre_operands_b : Cert.Pre_operands_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_operands_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))).1 = (fun _ => 1#1)
    ∧ (Cert.Pre_operands_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))).2.1 = (fun _ => 1#1)
    ∧ (Cert.Pre_operands_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))).2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_KernelAIdeal_pre_operands_a [hKernelAIdeal : Cert.KernelAIdeal.Facts] [hPre_operands_a : Cert.Pre_operands_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_operands_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_ReferenceAIdeal_pre_operands_a [hReferenceAIdeal : Cert.ReferenceAIdeal.Facts] [hPre_operands_a : Cert.Pre_operands_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_operands_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_KernelBIdeal_pre_operands_b [hKernelBIdeal : Cert.KernelBIdeal.Facts] [hPre_operands_b : Cert.Pre_operands_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_operands_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_ReferenceBIdeal_pre_operands_b [hReferenceBIdeal : Cert.ReferenceBIdeal.Facts] [hPre_operands_b : Cert.Pre_operands_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_operands_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8)
      ∧ r.2.mem ((c.tc : Thread Cert.KernelIn.nD Cert.KernelIn.τ).loc Cert.KernelIn.main_arg9) = m ((c.tc : Thread Cert.KernelIn.nD Cert.KernelIn.τ).loc Cert.KernelIn.main_arg9)
      ∧ r.2.mem ((c.tc : Thread Cert.KernelIn.nD Cert.KernelIn.τ).loc Cert.KernelIn.main_arg10) = m ((c.tc : Thread Cert.KernelIn.nD Cert.KernelIn.τ).loc Cert.KernelIn.main_arg10)
      ∧ r.2.mem ((c.tc : Thread Cert.KernelIn.nD Cert.KernelIn.τ).loc Cert.KernelIn.main_arg11) = m ((c.tc : Thread Cert.KernelIn.nD Cert.KernelIn.τ).loc Cert.KernelIn.main_arg11)
      ∧ r.2.mem ((c.tc : Thread Cert.KernelIn.nD Cert.KernelIn.τ).loc Cert.KernelIn.main_arg12) = m ((c.tc : Thread Cert.KernelIn.nD Cert.KernelIn.τ).loc Cert.KernelIn.main_arg12)
      ∧ r.2.mem ((c.tc : Thread Cert.KernelIn.nD Cert.KernelIn.τ).loc Cert.KernelIn.main_arg13) = m ((c.tc : Thread Cert.KernelIn.nD Cert.KernelIn.τ).loc Cert.KernelIn.main_arg13))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
      ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
      ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
      ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11)
      ∧ r.2.mem ((c.tc : Thread Cert.KernelInIdeal.nD Cert.KernelInIdeal.τ).loc Cert.KernelInIdeal.main_arg12) = m ((c.tc : Thread Cert.KernelInIdeal.nD Cert.KernelInIdeal.τ).loc Cert.KernelInIdeal.main_arg12)
      ∧ r.2.mem ((c.tc : Thread Cert.KernelInIdeal.nD Cert.KernelInIdeal.τ).loc Cert.KernelInIdeal.main_arg13) = m ((c.tc : Thread Cert.KernelInIdeal.nD Cert.KernelInIdeal.τ).loc Cert.KernelInIdeal.main_arg13))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8)
      ∧ r.2.mem ((c.tc : Thread Cert.ReferenceInIdeal.nD Cert.ReferenceInIdeal.τ).loc Cert.ReferenceInIdeal.main_arg9) = m ((c.tc : Thread Cert.ReferenceInIdeal.nD Cert.ReferenceInIdeal.τ).loc Cert.ReferenceInIdeal.main_arg9)
      ∧ r.2.mem ((c.tc : Thread Cert.ReferenceInIdeal.nD Cert.ReferenceInIdeal.τ).loc Cert.ReferenceInIdeal.main_arg10) = m ((c.tc : Thread Cert.ReferenceInIdeal.nD Cert.ReferenceInIdeal.τ).loc Cert.ReferenceInIdeal.main_arg10)
      ∧ r.2.mem ((c.tc : Thread Cert.ReferenceInIdeal.nD Cert.ReferenceInIdeal.τ).loc Cert.ReferenceInIdeal.main_arg11) = m ((c.tc : Thread Cert.ReferenceInIdeal.nD Cert.ReferenceInIdeal.τ).loc Cert.ReferenceInIdeal.main_arg11)
      ∧ r.2.mem ((c.tc : Thread Cert.ReferenceInIdeal.nD Cert.ReferenceInIdeal.τ).loc Cert.ReferenceInIdeal.main_arg12) = m ((c.tc : Thread Cert.ReferenceInIdeal.nD Cert.ReferenceInIdeal.τ).loc Cert.ReferenceInIdeal.main_arg12)
      ∧ r.2.mem ((c.tc : Thread Cert.ReferenceInIdeal.nD Cert.ReferenceInIdeal.τ).loc Cert.ReferenceInIdeal.main_arg13) = m ((c.tc : Thread Cert.ReferenceInIdeal.nD Cert.ReferenceInIdeal.τ).loc Cert.ReferenceInIdeal.main_arg13))
      ∧ r.2.sem = fun _ => 0)

def preserves_KernelA_KernelAIdeal : Prop :=
  True

def algebraic_KernelAIdeal_ReferenceAIdeal_pre_operands_a [hKernelAIdeal : Cert.KernelAIdeal.Facts] [hReferenceAIdeal : Cert.ReferenceAIdeal.Facts] [hPre_operands_a : Cert.Pre_operands_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_operands_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v0)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v25) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelB_KernelBIdeal : Prop :=
  True

def algebraic_KernelBIdeal_ReferenceBIdeal_pre_operands_b [hKernelBIdeal : Cert.KernelBIdeal.Facts] [hReferenceBIdeal : Cert.ReferenceBIdeal.Facts] [hPre_operands_b : Cert.Pre_operands_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_operands_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v0)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v0) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v24) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelIn_KernelInIdeal : Prop :=
  IdealRules.named_const.Statement Cert.KernelInIdeal.κ "mean_latent" .f32 0x3B2AAAAB#32 ((1 / 384 : ℝ) : EReal)

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)
      ∧ m' ((c.tc : Thread Cert.ReferenceInIdeal.nD Cert.ReferenceInIdeal.τ).loc Cert.ReferenceInIdeal.main_arg9) = m ((c.tc : Thread Cert.KernelInIdeal.nD Cert.KernelInIdeal.τ).loc Cert.KernelInIdeal.main_arg9)
      ∧ m' ((c.tc : Thread Cert.ReferenceInIdeal.nD Cert.ReferenceInIdeal.τ).loc Cert.ReferenceInIdeal.main_arg10) = m ((c.tc : Thread Cert.KernelInIdeal.nD Cert.KernelInIdeal.τ).loc Cert.KernelInIdeal.main_arg10)
      ∧ m' ((c.tc : Thread Cert.ReferenceInIdeal.nD Cert.ReferenceInIdeal.τ).loc Cert.ReferenceInIdeal.main_arg11) = m ((c.tc : Thread Cert.KernelInIdeal.nD Cert.KernelInIdeal.τ).loc Cert.KernelInIdeal.main_arg11)
      ∧ m' ((c.tc : Thread Cert.ReferenceInIdeal.nD Cert.ReferenceInIdeal.τ).loc Cert.ReferenceInIdeal.main_arg12) = m ((c.tc : Thread Cert.KernelInIdeal.nD Cert.KernelInIdeal.τ).loc Cert.KernelInIdeal.main_arg12)
      ∧ m' ((c.tc : Thread Cert.ReferenceInIdeal.nD Cert.ReferenceInIdeal.τ).loc Cert.ReferenceInIdeal.main_arg13) = m ((c.tc : Thread Cert.KernelInIdeal.nD Cert.KernelInIdeal.τ).loc Cert.KernelInIdeal.main_arg13)) →
    ∃ (v0 : (c : Dev Cert.KernelInIdeal.nD) → Buf (Elt Ideal) ((c.tc : Thread Cert.KernelInIdeal.nD Cert.KernelInIdeal.τ).loc Cert.KernelInIdeal.main_v112_6)) (v1 : (c : Dev Cert.KernelInIdeal.nD) → Buf (Elt Ideal) ((c.tc : Thread Cert.KernelInIdeal.nD Cert.KernelInIdeal.τ).loc Cert.KernelInIdeal.main_v112_7)) (v2 : (c : Dev Cert.KernelInIdeal.nD) → Buf (Elt Ideal) ((c.tc : Thread Cert.KernelInIdeal.nD Cert.KernelInIdeal.τ).loc Cert.KernelInIdeal.main_v112_2)) (v3 : (c : Dev Cert.KernelInIdeal.nD) → Buf (Elt Ideal) ((c.tc : Thread Cert.KernelInIdeal.nD Cert.KernelInIdeal.τ).loc Cert.KernelInIdeal.main_v112_5)) (v4 : (c : Dev Cert.KernelInIdeal.nD) → Buf (Elt Ideal) ((c.tc : Thread Cert.KernelInIdeal.nD Cert.KernelInIdeal.τ).loc Cert.KernelInIdeal.main_v112_4)) (v5 : (c : Dev Cert.KernelInIdeal.nD) → Buf (Elt Ideal) ((c.tc : Thread Cert.KernelInIdeal.nD Cert.KernelInIdeal.τ).loc Cert.KernelInIdeal.main_v112_3)) (v6 : (c : Dev Cert.KernelInIdeal.nD) → Buf (Elt Ideal) ((c.tc : Thread Cert.KernelInIdeal.nD Cert.KernelInIdeal.τ).loc Cert.KernelInIdeal.main_v112_0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v112_6) = v0 c
          ∧ r.2.mem ((c.tc : Thread Cert.KernelInIdeal.nD Cert.KernelInIdeal.τ).loc Cert.KernelInIdeal.main_v112_7) = v1 c
          ∧ r.2.mem ((c.tc : Thread Cert.KernelInIdeal.nD Cert.KernelInIdeal.τ).loc Cert.KernelInIdeal.main_v112_2) = v2 c
          ∧ r.2.mem ((c.tc : Thread Cert.KernelInIdeal.nD Cert.KernelInIdeal.τ).loc Cert.KernelInIdeal.main_v112_5) = v3 c
          ∧ r.2.mem ((c.tc : Thread Cert.KernelInIdeal.nD Cert.KernelInIdeal.τ).loc Cert.KernelInIdeal.main_v112_4) = v4 c
          ∧ r.2.mem ((c.tc : Thread Cert.KernelInIdeal.nD Cert.KernelInIdeal.τ).loc Cert.KernelInIdeal.main_v112_3) = v5 c
          ∧ r.2.mem ((c.tc : Thread Cert.KernelInIdeal.nD Cert.KernelInIdeal.τ).loc Cert.KernelInIdeal.main_v112_0) = v6 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
          ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
          ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
          ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11)
          ∧ r.2.mem ((c.tc : Thread Cert.KernelInIdeal.nD Cert.KernelInIdeal.τ).loc Cert.KernelInIdeal.main_arg12) = m ((c.tc : Thread Cert.KernelInIdeal.nD Cert.KernelInIdeal.τ).loc Cert.KernelInIdeal.main_arg12)
          ∧ r.2.mem ((c.tc : Thread Cert.KernelInIdeal.nD Cert.KernelInIdeal.τ).loc Cert.KernelInIdeal.main_arg13) = m ((c.tc : Thread Cert.KernelInIdeal.nD Cert.KernelInIdeal.τ).loc Cert.KernelInIdeal.main_arg13))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v36) = v0 c
          ∧ r.2.mem ((c.tc : Thread Cert.ReferenceInIdeal.nD Cert.ReferenceInIdeal.τ).loc Cert.ReferenceInIdeal.main_v43) = v1 c
          ∧ r.2.mem ((c.tc : Thread Cert.ReferenceInIdeal.nD Cert.ReferenceInIdeal.τ).loc Cert.ReferenceInIdeal.main_v49) = v2 c
          ∧ r.2.mem ((c.tc : Thread Cert.ReferenceInIdeal.nD Cert.ReferenceInIdeal.τ).loc Cert.ReferenceInIdeal.main_v71) = v3 c
          ∧ r.2.mem ((c.tc : Thread Cert.ReferenceInIdeal.nD Cert.ReferenceInIdeal.τ).loc Cert.ReferenceInIdeal.main_v94) = v4 c
          ∧ r.2.mem ((c.tc : Thread Cert.ReferenceInIdeal.nD Cert.ReferenceInIdeal.τ).loc Cert.ReferenceInIdeal.main_v138) = v5 c
          ∧ r.2.mem ((c.tc : Thread Cert.ReferenceInIdeal.nD Cert.ReferenceInIdeal.τ).loc Cert.ReferenceInIdeal.main_v177) = v6 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8)
          ∧ r.2.mem ((c.tc : Thread Cert.ReferenceInIdeal.nD Cert.ReferenceInIdeal.τ).loc Cert.ReferenceInIdeal.main_arg9) = m' ((c.tc : Thread Cert.ReferenceInIdeal.nD Cert.ReferenceInIdeal.τ).loc Cert.ReferenceInIdeal.main_arg9)
          ∧ r.2.mem ((c.tc : Thread Cert.ReferenceInIdeal.nD Cert.ReferenceInIdeal.τ).loc Cert.ReferenceInIdeal.main_arg10) = m' ((c.tc : Thread Cert.ReferenceInIdeal.nD Cert.ReferenceInIdeal.τ).loc Cert.ReferenceInIdeal.main_arg10)
          ∧ r.2.mem ((c.tc : Thread Cert.ReferenceInIdeal.nD Cert.ReferenceInIdeal.τ).loc Cert.ReferenceInIdeal.main_arg11) = m' ((c.tc : Thread Cert.ReferenceInIdeal.nD Cert.ReferenceInIdeal.τ).loc Cert.ReferenceInIdeal.main_arg11)
          ∧ r.2.mem ((c.tc : Thread Cert.ReferenceInIdeal.nD Cert.ReferenceInIdeal.τ).loc Cert.ReferenceInIdeal.main_arg12) = m' ((c.tc : Thread Cert.ReferenceInIdeal.nD Cert.ReferenceInIdeal.τ).loc Cert.ReferenceInIdeal.main_arg12)
          ∧ r.2.mem ((c.tc : Thread Cert.ReferenceInIdeal.nD Cert.ReferenceInIdeal.τ).loc Cert.ReferenceInIdeal.main_arg13) = m' ((c.tc : Thread Cert.ReferenceInIdeal.nD Cert.ReferenceInIdeal.τ).loc Cert.ReferenceInIdeal.main_arg13))

def Claim : Prop :=
  ∃ (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelIn : Cert.KernelIn.Facts) (hKernelInIdeal : Cert.KernelInIdeal.Facts) (hReferenceInIdeal : Cert.ReferenceInIdeal.Facts) (hPre_operands_a : Cert.Pre_operands_a.Facts) (hPre_operands_b : Cert.Pre_operands_b.Facts),
    quiescent_KernelA (hKernelA := hKernelA)
    ∧ quiescent_KernelAIdeal (hKernelAIdeal := hKernelAIdeal)
    ∧ quiescent_KernelAIdeal_pre_operands_a (hKernelAIdeal := hKernelAIdeal) (hPre_operands_a := hPre_operands_a)
    ∧ quiescent_ReferenceAIdeal (hReferenceAIdeal := hReferenceAIdeal)
    ∧ quiescent_ReferenceAIdeal_pre_operands_a (hReferenceAIdeal := hReferenceAIdeal) (hPre_operands_a := hPre_operands_a)
    ∧ quiescent_KernelB (hKernelB := hKernelB)
    ∧ quiescent_KernelBIdeal (hKernelBIdeal := hKernelBIdeal)
    ∧ quiescent_KernelBIdeal_pre_operands_b (hKernelBIdeal := hKernelBIdeal) (hPre_operands_b := hPre_operands_b)
    ∧ quiescent_ReferenceBIdeal (hReferenceBIdeal := hReferenceBIdeal)
    ∧ quiescent_ReferenceBIdeal_pre_operands_b (hReferenceBIdeal := hReferenceBIdeal) (hPre_operands_b := hPre_operands_b)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_KernelA_KernelAIdeal
    ∧ algebraic_KernelAIdeal_ReferenceAIdeal_pre_operands_a (hKernelAIdeal := hKernelAIdeal) (hReferenceAIdeal := hReferenceAIdeal) (hPre_operands_a := hPre_operands_a)
    ∧ preserves_KernelB_KernelBIdeal
    ∧ algebraic_KernelBIdeal_ReferenceBIdeal_pre_operands_b (hKernelBIdeal := hKernelBIdeal) (hReferenceBIdeal := hReferenceBIdeal) (hPre_operands_b := hPre_operands_b)
    ∧ preserves_KernelIn_KernelInIdeal
    ∧ algebraic_KernelInIdeal_ReferenceInIdeal (hKernelInIdeal := hKernelInIdeal) (hReferenceInIdeal := hReferenceInIdeal)
-- ==== Pre_operands_a.lean ====
abbrev S8x4096x1024 : Shape := ⟨3, ![8, 4096, 1024]⟩
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  bitsLt_bf16_f32 : FTy.bits .bf16 < FTy.bits .f32
  bcast_S_S8x4096x1024 : S_.BroadcastsInDim S8x4096x1024 (![] : Fin 0 → Fin S8x4096x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8x4096x256 32) (arg1 : IVec S_ 32) : IVec S8x4096x256 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8x4096x256 32 := broadcastInDim S8x4096x256 ![] bcast_S_S8x4096x256 v2
  let v4 : IVec S8x4096x256 32 := Host.remsi arg0 v3
  let c_1 : IVec S_ 32 := constantI S_ 32 0#32
  let v5 : IVec S8x4096x256 32 := broadcastInDim S8x4096x256 ![] bcast_S_S8x4096x256 c_1
  let v6 : IVec S8x4096x256 1 := cmpi .ne v4 v5
  let c_2 : IVec S_ 32 := constantI S_ 32 0#32
  let v7 : IVec S8x4096x256 32 := broadcastInDim S8x4096x256 ![] bcast_S_S8x4096x256 c_2
  let v8 : IVec S8x4096x256 1 := cmpi .slt v4 v7
  let c_3 : IVec S_ 32 := constantI S_ 32 0#32
  let v9 : IVec S_ 1 := cmpi .slt v2 c_3
  let v10 : IVec S8x4096x256 1 := broadcastInDim S8x4096x256 ![] bcast_S_S8x4096x256 v9
  let v11 : IVec S8x4096x256 1 := cmpi .ne v8 v10
  let v12 : IVec S8x4096x256 1 := andi v11 v6
  let v13 : IVec S8x4096x256 32 := broadcastInDim S8x4096x256 ![] bcast_S_S8x4096x256 v2
  let v14 : IVec S8x4096x256 32 := addi v4 v13
  let v15 : IVec S8x4096x256 32 := select v12 v14 v4
  v15

def fn {F : FTy → Type} [FloatOps F] (main_arg0 : FVec F S8x4096x1024 .bf16) (main_arg1 : FVec F S8x4096x256 .bf16) (main_arg2 : FVec F S8x4096x256 .bf16) : IVec S8x4096x1024 1 × IVec S8x4096x256 1 × IVec S8x4096x256 1 :=
  let main_v0 : IVec S8x4096x256 32 := iotaInDim S8x4096x256 32 2
  let main_c : IVec S_ 32 := constantI S_ 32 128#32
  let main_v1 : IVec S8x4096x256 32 := fn_remainder (F := F) main_v0 main_c
  let main_v2 : FVec F S8x4096x1024 .f32 := (extf .f32 · bitsLt_bf16_f32) main_arg0
  let main_v3 : FVec F S8x4096x1024 .f32 := Host.absf main_v2
  let main_cst : FVec F S_ .f32 := constant S_ .f32 0x7F800000#32
  let main_v4 : FVec F S8x4096x1024 .f32 := broadcastInDim S8x4096x1024 ![] bcast_S_S8x4096x1024 main_cst
  let main_v5 : IVec S8x4096x1024 1 := cmpf .olt main_v3 main_v4
  let main_v6 : FVec F S8x4096x256 .f32 := (extf .f32 · bitsLt_bf16_f32) main_arg1
  let main_v7 : FVec F S8x4096x256 .f32 := Host.absf main_v6
  let main_cst_0 : FVec F S_ .f32 := constant S_ .f32 0x7F800000#32
  let main_v8 : FVec F S8x4096x256 .f32 := broadcastInDim S8x4096x256 ![] bcast_S_S8x4096x256 main_cst_0
  let main_v9 : IVec S8x4096x256 1 := cmpf .olt main_v7 main_v8
  let main_c_1 : IVec S_ 32 := constantI S_ 32 64#32
  let main_v10 : IVec S8x4096x256 32 := broadcastInDim S8x4096x256 ![] bcast_S_S8x4096x256 main_c_1
  let main_v11 : IVec S8x4096x256 1 := cmpi .ne main_v1 main_v10
  let main_v12 : FVec F S8x4096x256 .f32 := (extf .f32 · bitsLt_bf16_f32) main_arg2
  let main_cst_2 : FVec F S_ .f32 := constant S_ .f32 0x3F800000#32
  let main_v13 : FVec F S8x4096x256 .f32 := broadcastInDim S8x4096x256 ![] bcast_S_S8x4096x256 main_cst_2
  let main_v14 : IVec S8x4096x256 1 := cmpf .oeq main_v12 main_v13
  let main_v15 : IVec S8x4096x256 1 := ori main_v11 main_v14
  (main_v5, main_v9, main_v15)
-- ==== Pre_operands_b.lean ====
abbrev S8x4096x1024 : Shape := ⟨3, ![8, 4096, 1024]⟩
abbrev S_ : Shape := ⟨0, ![]⟩

class Facts : Prop where
  bcast_S_S8x4096x1024 : S_.BroadcastsInDim S8x4096x1024 (![] : Fin 0 → Fin S8x4096x1024.rank)
  bitsLt_bf16_f32 : FTy.bits .bf16 < FTy.bits .f32

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8x4096x1024 32) (arg1 : IVec S_ 32) : IVec S8x4096x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8x4096x1024 32 := broadcastInDim S8x4096x1024 ![] bcast_S_S8x4096x1024 v2
  let v4 : IVec S8x4096x1024 32 := Host.remsi arg0 v3
  let c_1 : IVec S_ 32 := constantI S_ 32 0#32
  let v5 : IVec S8x4096x1024 32 := broadcastInDim S8x4096x1024 ![] bcast_S_S8x4096x1024 c_1
  let v6 : IVec S8x4096x1024 1 := cmpi .ne v4 v5
  let c_2 : IVec S_ 32 := constantI S_ 32 0#32
  let v7 : IVec S8x4096x1024 32 := broadcastInDim S8x4096x1024 ![] bcast_S_S8x4096x1024 c_2
  let v8 : IVec S8x4096x1024 1 := cmpi .slt v4 v7
  let c_3 : IVec S_ 32 := constantI S_ 32 0#32
  let v9 : IVec S_ 1 := cmpi .slt v2 c_3
  let v10 : IVec S8x4096x1024 1 := broadcastInDim S8x4096x1024 ![] bcast_S_S8x4096x1024 v9
  let v11 : IVec S8x4096x1024 1 := cmpi .ne v8 v10
  let v12 : IVec S8x4096x1024 1 := andi v11 v6
  let v13 : IVec S8x4096x1024 32 := broadcastInDim S8x4096x1024 ![] bcast_S_S8x4096x1024 v2
  let v14 : IVec S8x4096x1024 32 := addi v4 v13
  let v15 : IVec S8x4096x1024 32 := select v12 v14 v4
  v15

def fn {F : FTy → Type} [FloatOps F] (main_arg0 : FVec F S8x4096x1024 .bf16) (main_arg1 : FVec F S8x4096x1024 .bf16) (main_arg2 : FVec F S8x4096x1024 .bf16) : IVec S8x4096x1024 1 × IVec S8x4096x1024 1 × IVec S8x4096x1024 1 :=
  let main_v0 : IVec S8x4096x1024 32 := iotaInDim S8x4096x1024 32 2
  let main_c : IVec S_ 32 := constantI S_ 32 128#32
  let main_v1 : IVec S8x4096x1024 32 := fn_remainder (F := F) main_v0 main_c
  let main_v2 : FVec F S8x4096x1024 .f32 := (extf .f32 · bitsLt_bf16_f32) main_arg0
  let main_v3 : FVec F S8x4096x1024 .f32 := Host.absf main_v2
  let main_cst : FVec F S_ .f32 := constant S_ .f32 0x7F800000#32
  let main_v4 : FVec F S8x4096x1024 .f32 := broadcastInDim S8x4096x1024 ![] bcast_S_S8x4096x1024 main_cst
  let main_v5 : IVec S8x4096x1024 1 := cmpf .olt main_v3 main_v4
  let main_v6 : FVec F S8x4096x1024 .f32 := (extf .f32 · bitsLt_bf16_f32) main_arg1
  let main_v7 : FVec F S8x4096x1024 .f32 := Host.absf main_v6
  let main_cst_0 : FVec F S_ .f32 := constant S_ .f32 0x7F800000#32
  let main_v8 : FVec F S8x4096x1024 .f32 := broadcastInDim S8x4096x1024 ![] bcast_S_S8x4096x1024 main_cst_0
  let main_v9 : IVec S8x4096x1024 1 := cmpf .olt main_v7 main_v8
  let main_c_1 : IVec S_ 32 := constantI S_ 32 64#32
  let main_v10 : IVec S8x4096x1024 32 := broadcastInDim S8x4096x1024 ![] bcast_S_S8x4096x1024 main_c_1
  let main_v11 : IVec S8x4096x1024 1 := cmpi .ne main_v1 main_v10
  let main_v12 : FVec F S8x4096x1024 .f32 := (extf .f32 · bitsLt_bf16_f32) main_arg2
  let main_cst_2 : FVec F S_ .f32 := constant S_ .f32 0x3F800000#32
  let main_v13 : FVec F S8x4096x1024 .f32 := broadcastInDim S8x4096x1024 ![] bcast_S_S8x4096x1024 main_cst_2
  let main_v14 : IVec S8x4096x1024 1 := cmpf .oeq main_v12 main_v13
  let main_v15 : IVec S8x4096x1024 1 := ori main_v11 main_v14
  (main_v5, main_v9, main_v15)
-- ==== KernelA.lean ====
abbrev S8x4096x1024 : Shape := ⟨3, ![8, 4096, 1024]⟩
abbrev S8x4096x256 : Shape := ⟨3, ![8, 4096, 256]⟩
abbrev S1x256x512 : Shape := ⟨3, ![1, 256, 512]⟩
abbrev S1x4096x128 : Shape := ⟨3, ![1, 4096, 128]⟩
abbrev S1x256x128 : Shape := ⟨3, ![1, 256, 128]⟩
abbrev S256x128 : Shape := ⟨2, ![256, 128]⟩
abbrev S1024x128 : Shape := ⟨2, ![1024, 128]⟩
abbrev S1024x1 : Shape := ⟨2, ![1024, 1]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x512, .bf16⟩
  | .local _ .vmem, ⟨7, _⟩ => ⟨S1x256x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_mult1 : BitVec 32 :=
  let c0_i32 : BitVec 32 := 0#32
  let c512_i32 : BitVec 32 := 512#32
  let v11 : BitVec 32 := Scalar.muli c0_i32 c512_i32
  v11
def k0_off1 (c0_i32 : BitVec 32) : Fin 3 → Nat :=
  let c0_9 : Index := 0#32
  let c512_i32 : BitVec 32 := 512#32
  let v11 : BitVec 32 := Scalar.muli c0_i32 c512_i32
  let v12 : BitVec 32 := v11
  let v13 : Index := Scalar.indexCast v12
  let c0_10 : Index := 0#32
  ![0, v13.toNat, 0]
def k0_mult2 : BitVec 32 :=
  let c1_i32 : BitVec 32 := 1#32
  let c512_i32_16 : BitVec 32 := 512#32
  let v33 : BitVec 32 := Scalar.muli c1_i32 c512_i32_16
  v33
def k0_mult3 : BitVec 32 :=
  let c2_i32 : BitVec 32 := 2#32
  let c512_i32_24 : BitVec 32 := 512#32
  let v55 : BitVec 32 := Scalar.muli c2_i32 c512_i32_24
  v55
def k0_mult4 : BitVec 32 :=
  let c3_i32 : BitVec 32 := 3#32
  let c512_i32_32 : BitVec 32 := 512#32
  let v77 : BitVec 32 := Scalar.muli c3_i32 c512_i32_32
  v77
def k0_mult5 : BitVec 32 :=
  let c4_i32 : BitVec 32 := 4#32
  let c512_i32_40 : BitVec 32 := 512#32
  let v99 : BitVec 32 := Scalar.muli c4_i32 c512_i32_40
  v99
def k0_mult6 : BitVec 32 :=
  let c5_i32 : BitVec 32 := 5#32
  let c512_i32_48 : BitVec 32 := 512#32
  let v121 : BitVec 32 := Scalar.muli c5_i32 c512_i32_48
  v121
def k0_mult7 : BitVec 32 :=
  let c6_i32 : BitVec 32 := 6#32
  let c512_i32_56 : BitVec 32 := 512#32
  let v143 : BitVec 32 := Scalar.muli c6_i32 c512_i32_56
  v143
def k0_mult8 : BitVec 32 :=
  let c7_i32 : BitVec 32 := 7#32
  let c512_i32_64 : BitVec 32 := 512#32
  let v165 : BitVec 32 := Scalar.muli c7_i32 c512_i32_64
  v165
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceAIdeal.lean ====
abbrev S8x4096x1024 : Shape := ⟨3, ![8, 4096, 1024]⟩
abbrev S8x4096x256 : Shape := ⟨3, ![8, 4096, 256]⟩
abbrev S8x4096x2x4x128 : Shape := ⟨5, ![8, 4096, 2, 4, 128]⟩
abbrev S8x4096x2x128 : Shape := ⟨4, ![8, 4096, 2, 128]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8x4096x1024, .f32⟩
  | .hbm, ⟨4, _⟩ => ⟨S8x4096x2x4x128, .f32⟩
  | .hbm, ⟨5, _⟩ => ⟨S8x4096x256, .f32⟩
  | .hbm, ⟨6, _⟩ => ⟨S8x4096x2x128, .f32⟩
  | .hbm, ⟨7, _⟩ => ⟨S8x4096x256, .f32⟩
  | .hbm, ⟨8, _⟩ => ⟨S8x4096x2x128, .f32⟩
  | .hbm, ⟨9, _⟩ => ⟨S8x2x4096x4096x4, .f32⟩
  | .hbm, ⟨10, _⟩ => ⟨S8x2x4x4096x4096, .f32⟩
  | .hbm, ⟨11, _⟩ => ⟨S_, .f32⟩
  | .hbm, ⟨12, _⟩ => ⟨S_, .f32⟩
  | .hbm, ⟨13, _⟩ => ⟨S8x2x4x4096x4096, .f32⟩
  | .hbm, ⟨14, _⟩ => ⟨S8x2x4x4096x4096, .f32⟩
  | .hbm, ⟨15, _⟩ => ⟨S_, .f32⟩
  | .hbm, ⟨16, _⟩ => ⟨S8x2x4x4096, .f32⟩
  | .hbm, ⟨17, _⟩ => ⟨S_, .f32⟩
  | .hbm, ⟨18, _⟩ => ⟨S8x2x4x4096, .f32⟩
  | .hbm, ⟨19, _⟩ => ⟨S8x2x4x4096, .f32⟩
  | .hbm, ⟨20, _⟩ => ⟨S8x2x4x4096x1, .f32⟩
  | .hbm, ⟨21, _⟩ => ⟨S8x2x4x4096x4096, .f32⟩
  | .hbm, ⟨22, _⟩ => ⟨S8x2x4x4096x4096, .f32⟩
  | .hbm, ⟨23, _⟩ => ⟨S8x2x4x4096x4096, .f32⟩
  | .hbm, ⟨24, _⟩ => ⟨S_, .f32⟩
  | .hbm, ⟨25, _⟩ => ⟨S8x2x4x4096, .f32⟩
  | .hbm, ⟨26, _⟩ => ⟨S8x2x4x4096x1, .f32⟩
  | .hbm, ⟨27, _⟩ => ⟨S8x2x4x4096x4096, .f32⟩
  | .hbm, ⟨28, _⟩ => ⟨S8x2x4x4096x4096, .f32⟩
  | .hbm, ⟨29, _⟩ => ⟨S8x2x128x4x4096, .f32⟩
  | .hbm, ⟨30, _⟩ => ⟨S8x4096x2x4x128, .f32⟩
  | .hbm, ⟨31, _⟩ => ⟨S8x4096x1024, .f32⟩
  | .hbm, ⟨32, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== KernelB.lean ====
abbrev S8x4096x1024 : Shape := ⟨3, ![8, 4096, 1024]⟩
abbrev S1x1024x128 : Shape := ⟨3, ![1, 1024, 128]⟩
abbrev S1x4096x128 : Shape := ⟨3, ![1, 4096, 128]⟩
abbrev S1024x128 : Shape := ⟨2, ![1024, 128]⟩
abbrev S1024x1 : Shape := ⟨2, ![1024, 1]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x4096x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x128, .bf16⟩
  | .local _ .vmem, ⟨7, _⟩ => ⟨S1x1024x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 3 → Nat :=
  let c0_3 : Index := 0#32
  let c512_i32 : BitVec 32 := 512#32
  let v4 : BitVec 32 := Scalar.muli c0_i32 c512_i32
  let v5 : BitVec 32 := v4
  let v6 : Index := Scalar.indexCast v5
  let c0_4 : Index := 0#32
  ![0, v6.toNat, 0]
def k0_mult2 : BitVec 32 :=
  let c1_i32 : BitVec 32 := 1#32
  let c512_i32_10 : BitVec 32 := 512#32
  let v26 : BitVec 32 := Scalar.muli c1_i32 c512_i32_10
  v26
def k0_mult3 : BitVec 32 :=
  let c2_i32 : BitVec 32 := 2#32
  let c512_i32_18 : BitVec 32 := 512#32
  let v48 : BitVec 32 := Scalar.muli c2_i32 c512_i32_18
  v48
def k0_mult4 : BitVec 32 :=
  let c3_i32 : BitVec 32 := 3#32
  let c512_i32_26 : BitVec 32 := 512#32
  let v70 : BitVec 32 := Scalar.muli c3_i32 c512_i32_26
  v70
def k0_mult5 : BitVec 32 :=
  let c4_i32 : BitVec 32 := 4#32
  let c512_i32_34 : BitVec 32 := 512#32
  let v92 : BitVec 32 := Scalar.muli c4_i32 c512_i32_34
  v92
def k0_mult6 : BitVec 32 :=
  let c5_i32 : BitVec 32 := 5#32
  let c512_i32_42 : BitVec 32 := 512#32
  let v114 : BitVec 32 := Scalar.muli c5_i32 c512_i32_42
  v114
def k0_mult7 : BitVec 32 :=
  let c6_i32 : BitVec 32 := 6#32
  let c512_i32_50 : BitVec 32 := 512#32
  let v136 : BitVec 32 := Scalar.muli c6_i32 c512_i32_50
  v136
def k0_mult8 : BitVec 32 :=
  let c7_i32 : BitVec 32 := 7#32
  let c512_i32_58 : BitVec 32 := 512#32
  let v158 : BitVec 32 := Scalar.muli c7_i32 c512_i32_58
  v158
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceBIdeal.lean ====
abbrev S8x4096x1024 : Shape := ⟨3, ![8, 4096, 1024]⟩
abbrev S8x4096x8x128 : Shape := ⟨4, ![8, 4096, 8, 128]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x4096x1024, .f32⟩
  | .hbm, ⟨4, _⟩ => ⟨S8x4096x8x128, .f32⟩
  | .hbm, ⟨5, _⟩ => ⟨S8x4096x1024, .f32⟩
  | .hbm, ⟨6, _⟩ => ⟨S8x4096x8x128, .f32⟩
  | .hbm, ⟨7, _⟩ => ⟨S8x4096x1024, .f32⟩
  | .hbm, ⟨8, _⟩ => ⟨S8x4096x8x128, .f32⟩
  | .hbm, ⟨9, _⟩ => ⟨S8x8x4096x4096, .f32⟩
  | .hbm, ⟨10, _⟩ => ⟨S_, .f32⟩
  | .hbm, ⟨11, _⟩ => ⟨S_, .f32⟩
  | .hbm, ⟨12, _⟩ => ⟨S8x8x4096x4096, .f32⟩
  | .hbm, ⟨13, _⟩ => ⟨S8x8x4096x4096, .f32⟩
  | .hbm, ⟨14, _⟩ => ⟨S_, .f32⟩
  | .hbm, ⟨15, _⟩ => ⟨S8x8x4096, .f32⟩
  | .hbm, ⟨16, _⟩ => ⟨S_, .f32⟩
  | .hbm, ⟨17, _⟩ => ⟨S8x8x4096, .f32⟩
  | .hbm, ⟨18, _⟩ => ⟨S8x8x4096, .f32⟩
  | .hbm, ⟨19, _⟩ => ⟨S8x8x4096x1, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096, .f32⟩
  | .hbm, ⟨25, _⟩ => ⟨S8x8x4096x1, .f32⟩
  | .hbm, ⟨26, _⟩ => ⟨S8x8x4096x4096, .f32⟩
  | .hbm, ⟨27, _⟩ => ⟨S8x8x4096x4096, .f32⟩
  | .hbm, ⟨28, _⟩ => ⟨S8x8x128x4096, .f32⟩
  | .hbm, ⟨29, _⟩ => ⟨S8x4096x8x128, .f32⟩
  | .hbm, ⟨30, _⟩ => ⟨S8x4096x1024, .f32⟩
  | .hbm, ⟨31, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== KernelIn.lean ====
abbrev S8x4096x1024 : Shape := ⟨3, ![8, 4096, 1024]⟩
abbrev S8x6x1024 : Shape := ⟨3, ![8, 6, 1024]⟩
abbrev S1024 : Shape := ⟨1, ![1024]⟩
abbrev S1024x3488 : Shape := ⟨2, ![1024, 3488]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S4096x16 : Shape := ⟨2, ![4096, 16]⟩
abbrev S_ : Shape := ⟨0, ![]⟩
abbrev S4096x128 : Shape := ⟨2, ![4096, 128]⟩
abbrev S1 : Shape := ⟨1, ![1]⟩
abbrev S1x4096x128 : Shape := ⟨3, ![1, 4096, 128]⟩
abbrev S3x4096x128 : Shape := ⟨3, ![3, 4096, 128]⟩
abbrev S4096x64 : Shape := ⟨2, ![4096, 64]⟩
abbrev S6x4096x128 : Shape := ⟨3, ![6, 4096, 128]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x1024 : Shape := ⟨2, ![1024, 1024]⟩
abbrev S1024x2x64 : Shape := ⟨3, ![1024, 2, 64]⟩
abbrev S1024x2x128 : Shape := ⟨3, ![1024, 2, 128]⟩
abbrev S1024x1x32 : Shape := ⟨3, ![1024, 1, 32]⟩
abbrev S1024x1x128 : Shape := ⟨3, ![1024, 1, 128]⟩
abbrev S1024x3840 : Shape := ⟨2, ![1024, 3840]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S1x1024 : Shape := ⟨2, ![1, 1024]⟩
abbrev S1x128 : Shape := ⟨2, ![1, 128]⟩
abbrev S2 : Shape := ⟨1, ![2]⟩
abbrev S1x384 : Shape := ⟨2, ![1, 384]⟩
abbrev S1x256 : Shape := ⟨2, ![1, 256]⟩
abbrev S8x4096x256 : Shape := ⟨3, ![8, 4096, 256]⟩
abbrev S1x512x1024 : Shape := ⟨3, ![1, 512, 1024]⟩
abbrev S1x6x1024 : Shape := ⟨3, ![1, 6, 1024]⟩
abbrev S3x512x128 : Shape := ⟨3, ![3, 512, 128]⟩
abbrev S6x512x128 : Shape := ⟨3, ![6, 512, 128]⟩
abbrev S1x512x256 : Shape := ⟨3, ![1, 512, 256]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S512x512 : Shape := ⟨2, ![512, 512]⟩
abbrev S512x256 : Shape := ⟨2, ![512, 256]⟩
abbrev S1024x768 : Shape := ⟨2, ![1024, 768]⟩
abbrev S512x768 : Shape := ⟨2, ![512, 768]⟩
abbrev S512x384 : Shape := ⟨2, ![512, 384]⟩

abbrev nBuf : Space → Nat
  | .hbm => 175
  | .vmem => 33
  | .smem => 0
  | _ => 0

abbrev hbmTy0_0 (i : Nat) : BufTy := match i % 128 with
  | 0 => ⟨S8x4096x1024, .f32⟩
  | 1 => ⟨S8x6x1024, .f32⟩
  | 2 => ⟨S1024, .f32⟩
  | 3 => ⟨S1024x3488, .f32⟩
  | 4 => ⟨S64, .f32⟩
  | 5 => ⟨S64, .f32⟩
  | 6 => ⟨S384, .f32⟩
  | 7 => ⟨S256, .f32⟩
  | 8 => ⟨S384x768, .f32⟩
  | 9 => ⟨S256x1024, .f32⟩
  | 10 => ⟨S4096x32, .f32⟩
  | 11 => ⟨S4096x32, .f32⟩
  | 12 => ⟨S4096x16, .f32⟩
  | 13 => ⟨S4096x16, .f32⟩
  | 14 => ⟨S_, .f32⟩
  | 15 => ⟨S4096x128, .f32⟩
  | 16 => ⟨S_, .i32⟩
  | 17 => ⟨S1, .i32⟩
  | 18 => ⟨S4096x128, .f32⟩
  | 19 => ⟨S_, .i32⟩
  | 20 => ⟨S1, .i32⟩
  | 21 => ⟨S4096x128, .f32⟩
  | 22 => ⟨S4096x32, .f32⟩
  | 23 => ⟨S_, .f32⟩
  | 24 => ⟨S4096x128, .f32⟩
  | 25 => ⟨S_, .i32⟩
  | 26 => ⟨S1, .i32⟩
  | 27 => ⟨S4096x128, .f32⟩
  | 28 => ⟨S_, .f32⟩
  | 29 => ⟨S4096x128, .f32⟩
  | 30 => ⟨S_, .i32⟩
  | 31 => ⟨S1, .i32⟩
  | 32 => ⟨S4096x128, .f32⟩
  | 33 => ⟨S1x4096x128, .f32⟩
  | 34 => ⟨S1x4096x128, .f32⟩
  | 35 => ⟨S1x4096x128, .f32⟩
  | 36 => ⟨S3x4096x128, .f32⟩
  | 37 => ⟨S_, .f32⟩
  | 38 => ⟨S3x4096x128, .f32⟩
  | 39 => ⟨S3x4096x128, .f32⟩
  | 40 => ⟨S_, .f32⟩
  | 41 => ⟨S4096x64, .f32⟩
  | 42 => ⟨S_, .f32⟩
  | 43 => ⟨S4096x128, .f32⟩
  | 44 => ⟨S_, .i32⟩
  | 45 => ⟨S1, .i32⟩
  | 46 => ⟨S4096x128, .f32⟩
  | 47 => ⟨S_, .i32⟩
  | 48 => ⟨S1, .i32⟩
  | 49 => ⟨S4096x128, .f32⟩
  | 50 => ⟨S_, .i32⟩
  | 51 => ⟨S1, .i32⟩
  | 52 => ⟨S4096x128, .f32⟩
  | 53 => ⟨S_, .f32⟩
  | 54 => ⟨S4096x128, .f32⟩
  | 55 => ⟨S4096x128, .f32⟩
  | 56 => ⟨S4096x16, .f32⟩
  | 57 => ⟨S_, .f32⟩
  | 58 => ⟨S4096x128, .f32⟩
  | 59 => ⟨S_, .i32⟩
  | 60 => ⟨S1, .i32⟩
  | 61 => ⟨S4096x128, .f32⟩
  | 62 => ⟨S_, .f32⟩
  | 63 => ⟨S4096x128, .f32⟩
  | 64 => ⟨S_, .i32⟩
  | 65 => ⟨S1, .i32⟩
  | 66 => ⟨S4096x128, .f32⟩
  | 67 => ⟨S_, .f32⟩
  | 68 => ⟨S4096x128, .f32⟩
  | 69 => ⟨S_, .i32⟩
  | 70 => ⟨S1, .i32⟩
  | 71 => ⟨S4096x128, .f32⟩
  | 72 => ⟨S_, .i32⟩
  | 73 => ⟨S1, .i32⟩
  | 74 => ⟨S4096x128, .f32⟩
  | 75 => ⟨S_, .f32⟩
  | 76 => ⟨S4096x128, .f32⟩
  | 77 => ⟨S4096x128, .f32⟩
  | 78 => ⟨S_, .f32⟩
  | 79 => ⟨S4096x128, .f32⟩
  | 80 => ⟨S4096x128, .f32⟩
  | 81 => ⟨S1x4096x128, .f32⟩
  | 82 => ⟨S1x4096x128, .f32⟩
  | 83 => ⟨S1x4096x128, .f32⟩
  | 84 => ⟨S1x4096x128, .f32⟩
  | 85 => ⟨S1x4096x128, .f32⟩
  | 86 => ⟨S1x4096x128, .f32⟩
  | 87 => ⟨S6x4096x128, .f32⟩
  | 88 => ⟨S1024x512, .f32⟩
  | 89 => ⟨S1024x128, .f32⟩
  | 90 => ⟨S1024x128, .f32⟩
  | 91 => ⟨S1024x384, .f32⟩
  | 92 => ⟨S1024x256, .f32⟩
  | 93 => ⟨S1024x32, .f32⟩
  | 94 => ⟨S1024x1024, .f32⟩
  | 95 => ⟨S1024x1024, .f32⟩
  | 96 => ⟨S1024x2x64, .f32⟩
  | 97 => ⟨S_, .f32⟩
  | 98 => ⟨S1024x2x128, .f32⟩
  | 99 => ⟨S_, .i32⟩
  | 100 => ⟨S1, .i32⟩
  | 101 => ⟨S1024x2x128, .f32⟩
  | 102 => ⟨S1024x256, .f32⟩
  | 103 => ⟨S1024x2x64, .f32⟩
  | 104 => ⟨S_, .f32⟩
  | 105 => ⟨S1024x2x128, .f32⟩
  | 106 => ⟨S_, .i32⟩
  | 107 => ⟨S1, .i32⟩
  | 108 => ⟨S1024x2x128, .f32⟩
  | 109 => ⟨S1024x256, .f32⟩
  | 110 => ⟨S1024x1x32, .f32⟩
  | 111 => ⟨S_, .f32⟩
  | 112 => ⟨S1024x1x128, .f32⟩
  | 113 => ⟨S_, .i32⟩
  | 114 => ⟨S1, .i32⟩
  | 115 => ⟨S1024x1x128, .f32⟩
  | 116 => ⟨S1024x128, .f32⟩
  | 117 => ⟨S1024x3840, .f32⟩
  | 118 => ⟨S1024x3840, .bf16⟩
  | 119 => ⟨S384x8x96, .f32⟩
  | 120 => ⟨S_, .f32⟩
  | 121 => ⟨S384x8x128, .f32⟩
  | 122 => ⟨S_, .i32⟩
  | 123 => ⟨S1, .i32⟩
  | 124 => ⟨S384x8x128, .f32⟩
  | 125 => ⟨S384x1024, .f32⟩
  | 126 => ⟨S384x1024, .bf16⟩
  | 127 => ⟨S256x8x128, .f32⟩
  | _ => ⟨S8x4096x1024, .f32⟩

abbrev hbmTy0_1 (i : Nat) : BufTy := match i % 128 with
  | 0 => ⟨S256x8x64, .f32⟩
  | 1 => ⟨S256x512, .f32⟩
  | 2 => ⟨S256x8x64, .f32⟩
  | 3 => ⟨S_, .f32⟩
  | 4 => ⟨S256x8x128, .f32⟩
  | 5 => ⟨S_, .i32⟩
  | 6 => ⟨S1, .i32⟩
  | 7 => ⟨S256x8x128, .f32⟩
  | 8 => ⟨S256x1024, .f32⟩
  | 9 => ⟨S256x1024, .bf16⟩
  | 10 => ⟨S256x8x64, .f32⟩
  | 11 => ⟨S256x512, .f32⟩
  | 12 => ⟨S256x8x64, .f32⟩
  | 13 => ⟨S_, .f32⟩
  | 14 => ⟨S256x8x128, .f32⟩
  | 15 => ⟨S_, .i32⟩
  | 16 => ⟨S1, .i32⟩
  | 17 => ⟨S256x8x128, .f32⟩
  | 18 => ⟨S256x1024, .f32⟩
  | 19 => ⟨S256x1024, .bf16⟩
  | 20 => ⟨S1x1024, .f32⟩
  | 21 => ⟨S_, .f32⟩
  | 22 => ⟨S1x128, .f32⟩
  | 23 => ⟨S_, .i32⟩
  | 24 => ⟨S1, .i32⟩
  | 25 => ⟨S_, .i32⟩
  | 26 => ⟨S1, .i32⟩
  | 27 => ⟨S2, .i32⟩
  | 28 => ⟨S1x128, .f32⟩
  | 29 => ⟨S_, .f32⟩
  | 30 => ⟨S1x128, .f32⟩
  | 31 => ⟨S_, .i32⟩
  | 32 => ⟨S1, .i32⟩
  | 33 => ⟨S_, .i32⟩
  | 34 => ⟨S1, .i32⟩
  | 35 => ⟨S2, .i32⟩
  | 36 => ⟨S1x128, .f32⟩
  | 37 => ⟨S1x384, .f32⟩
  | 38 => ⟨S1x256, .f32⟩
  | 39 => ⟨S8x4096x1024, .bf16⟩
  | 40 => ⟨S8x4096x256, .bf16⟩
  | 41 => ⟨S8x4096x256, .bf16⟩
  | 42 => ⟨S8x4096x1024, .bf16⟩
  | 43 => ⟨S8x4096x1024, .bf16⟩
  | 44 => ⟨S8x4096x1024, .bf16⟩
  | 45 => ⟨S8x4096x1024, .bf16⟩
  | 46 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3840, .bf16⟩
  | .local _ .vmem, ⟨6, _⟩ => ⟨S1x128, .f32⟩
  | .local _ .vmem, ⟨7, _⟩ => ⟨S1x128, .f32⟩
  | .local _ .vmem, ⟨8, _⟩ => ⟨S1x384, .f32⟩
  | .local _ .vmem, ⟨9, _⟩ => ⟨S1x256, .f32⟩
  | .local _ .vmem, ⟨10, _⟩ => ⟨S384x1024, .bf16⟩
  | .local _ .vmem, ⟨11, _⟩ => ⟨S256x1024, .bf16⟩
  | .local _ .vmem, ⟨12, _⟩ => ⟨S256x1024, .bf16⟩
  | .local _ .vmem, ⟨13, _⟩ => ⟨S3x512x128, .f32⟩
  | .local _ .vmem, ⟨14, _⟩ => ⟨S3x512x128, .f32⟩
  | .local _ .vmem, ⟨15, _⟩ => ⟨S6x512x128, .f32⟩
  | .local _ .vmem, ⟨16, _⟩ => ⟨S6x512x128, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_c_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_c_8 : Ref sig .tc := ⟨.hbm, 44, rfl⟩
abbrev main_v20 : Ref sig .tc := ⟨.hbm, 45, rfl⟩
abbrev main_v21 : Ref sig .tc := ⟨.hbm, 46, rfl⟩
abbrev main_c_9 : Ref sig .tc := ⟨.hbm, 47, rfl⟩
abbrev main_v22 : Ref sig .tc := ⟨.hbm, 48, rfl⟩
abbrev main_v23 : Ref sig .tc := ⟨.hbm, 49, rfl⟩
abbrev main_c_10 : Ref sig .tc := ⟨.hbm, 50, rfl⟩
abbrev main_v24 : Ref sig .tc := ⟨.hbm, 51, rfl⟩
abbrev main_v25 : Ref sig .tc := ⟨.hbm, 52, rfl⟩
abbrev main_cst_11 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_12 : Ref sig .tc := ⟨.hbm, 57, rfl⟩
abbrev main_v29 : Ref sig .tc := ⟨.hbm, 58, rfl⟩
abbrev main_c_13 : Ref sig .tc := ⟨.hbm, 59, rfl⟩
abbrev main_v30 : Ref sig .tc := ⟨.hbm, 60, rfl⟩
abbrev main_v31 : Ref sig .tc := ⟨.hbm, 61, rfl⟩
abbrev main_cst_14 : Ref sig .tc := ⟨.hbm, 62, rfl⟩
abbrev main_v32 : Ref sig .tc := ⟨.hbm, 63, rfl⟩
abbrev main_c_15 : Ref sig .tc := ⟨.hbm, 64, rfl⟩
abbrev main_v33 : Ref sig .tc := ⟨.hbm, 65, rfl⟩
abbrev main_v34 : Ref sig .tc := ⟨.hbm, 66, rfl⟩
abbrev main_cst_16 : Ref sig .tc := ⟨.hbm, 67, rfl⟩
abbrev main_v35 : Ref sig .tc := ⟨.hbm, 68, rfl⟩
abbrev main_c_17 : Ref sig .tc := ⟨.hbm, 69, rfl⟩
abbrev main_v36 : Ref sig .tc := ⟨.hbm, 70, rfl⟩
abbrev main_v37 : Ref sig .tc := ⟨.hbm, 71, rfl⟩
abbrev main_c_18 : Ref sig .tc := ⟨.hbm, 72, rfl⟩
abbrev main_v38 : Ref sig .tc := ⟨.hbm, 73, rfl⟩
abbrev main_v39 : Ref sig .tc := ⟨.hbm, 74, rfl⟩
abbrev main_cst_19 : Ref sig .tc := ⟨.hbm, 75, rfl⟩
abbrev main_v40 : Ref sig .tc := ⟨.hbm, 76, rfl⟩
abbrev main_v41 : Ref sig .tc := ⟨.hbm, 77, rfl⟩
abbrev main_cst_20 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_21 : Ref sig .tc := ⟨.hbm, 97, rfl⟩
abbrev main_v60 : Ref sig .tc := ⟨.hbm, 98, rfl⟩
abbrev main_c_22 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_23 : Ref sig .tc := ⟨.hbm, 104, rfl⟩
abbrev main_v65 : Ref sig .tc := ⟨.hbm, 105, rfl⟩
abbrev main_c_24 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_25 : Ref sig .tc := ⟨.hbm, 111, rfl⟩
abbrev main_v70 : Ref sig .tc := ⟨.hbm, 112, rfl⟩
abbrev main_c_26 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_27 : Ref sig .tc := ⟨.hbm, 120, rfl⟩
abbrev main_v77 : Ref sig .tc := ⟨.hbm, 121, rfl⟩
abbrev main_c_28 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_29 : Ref sig .tc := ⟨.hbm, 131, rfl⟩
abbrev main_v86 : Ref sig .tc := ⟨.hbm, 132, rfl⟩
abbrev main_c_30 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_31 : Ref sig .tc := ⟨.hbm, 141, rfl⟩
abbrev main_v94 : Ref sig .tc := ⟨.hbm, 142, rfl⟩
abbrev main_c_32 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_33 : Ref sig .tc := ⟨.hbm, 149, rfl⟩
abbrev main_v100 : Ref sig .tc := ⟨.hbm, 150, rfl⟩
abbrev main_c_34 : Ref sig .tc := ⟨.hbm, 151, rfl⟩
abbrev main_v101 : Ref sig .tc := ⟨.hbm, 152, rfl⟩
abbrev main_c_35 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_36 : Ref sig .tc := ⟨.hbm, 157, rfl⟩
abbrev main_v105 : Ref sig .tc := ⟨.hbm, 158, rfl⟩
abbrev main_c_37 : Ref sig .tc := ⟨.hbm, 159, rfl⟩
abbrev main_v106 : Ref sig .tc := ⟨.hbm, 160, rfl⟩
abbrev main_c_38 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112_0 : Ref sig .tc := ⟨.hbm, 167, rfl⟩
abbrev main_v112_1 : Ref sig .tc := ⟨.hbm, 168, rfl⟩
abbrev main_v112_2 : Ref sig .tc := ⟨.hbm, 169, rfl⟩
abbrev main_v112_3 : Ref sig .tc := ⟨.hbm, 170, rfl⟩
abbrev main_v112_4 : Ref sig .tc := ⟨.hbm, 171, rfl⟩
abbrev main_v112_5 : Ref sig .tc := ⟨.hbm, 172, rfl⟩
abbrev main_v112_6 : Ref sig .tc := ⟨.hbm, 173, rfl⟩
abbrev main_v112_7 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S6x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== KernelInIdeal.lean ====
variable {F : FTy → Type} [FloatOps F] [Named F]
def κ : String → Option EReal := fun
  | "mean_latent" => some ((1 / 384 : ℝ) : EReal)
  | _ => none
-- ==== ReferenceInIdeal.lean ====
abbrev S8x4096x1024 : Shape := ⟨3, ![8, 4096, 1024]⟩
abbrev S8x6x1024 : Shape := ⟨3, ![8, 6, 1024]⟩
abbrev S1024 : Shape := ⟨1, ![1024]⟩
abbrev S1024x3488 : Shape := ⟨2, ![1024, 3488]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S4096x16 : Shape := ⟨2, ![4096, 16]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3488 : Shape := ⟨3, ![8, 4096, 3488]⟩
abbrev S8x4096x512 : Shape := ⟨3, ![8, 4096, 512]⟩
abbrev S8x4096x128 : Shape := ⟨3, ![8, 4096, 128]⟩
abbrev S8x4096x384 : Shape := ⟨3, ![8, 4096, 384]⟩
abbrev S8x4096x256 : Shape := ⟨3, ![8, 4096, 256]⟩
abbrev S8x4096x32 : Shape := ⟨3, ![8, 4096, 32]⟩
abbrev S8x4096x2x64 : Shape := ⟨4, ![8, 4096, 2, 64]⟩
abbrev S8x4096x2x1 : Shape := ⟨4, ![8, 4096, 2, 1]⟩
abbrev S8x4096x2x63 : Shape := ⟨4, ![8, 4096, 2, 63]⟩
abbrev S8x4096x2x128 : Shape := ⟨4, ![8, 4096, 2, 128]⟩
abbrev S1x1x256 : Shape := ⟨3, ![1, 1, 256]⟩
abbrev S8x4096x8x128 : Shape := ⟨4, ![8, 4096, 8, 128]⟩
abbrev S8x4096x8x64 : Shape := ⟨4, ![8, 4096, 8, 64]⟩
abbrev S8x4096x8x1 : Shape := ⟨4, ![8, 4096, 8, 1]⟩
abbrev S8x4096x8x63 : Shape := ⟨4, ![8, 4096, 8, 63]⟩
abbrev S8x4096x16 : Shape := ⟨3, ![8, 4096, 16]⟩
abbrev S1x4096x16 : Shape := ⟨3, ![1, 4096, 16]⟩
abbrev S8x4096x1x32 : Shape := ⟨4, ![8, 4096, 1, 32]⟩
abbrev S8x4096x8x32 : Shape := ⟨4, ![8, 4096, 8, 32]⟩
abbrev S1x1x384 : Shape := ⟨3, ![1, 1, 384]⟩
abbrev S8x4096x768 : Shape := ⟨3, ![8, 4096, 768]⟩
abbrev S8x4096x8x96 : Shape := ⟨4, ![8, 4096, 8, 96]⟩
abbrev S4096x1x16 : Shape := ⟨3, ![4096, 1, 16]⟩
abbrev S8x4096x8x16 : Shape := ⟨4, ![8, 4096, 8, 16]⟩
abbrev S1x4096x1x16 : Shape := ⟨4, ![1, 4096, 1, 16]⟩
abbrev S8x4096x8 : Shape := ⟨3, ![8, 4096, 8]⟩
abbrev S1x1x1x64 : Shape := ⟨4, ![1, 1, 1, 64]⟩
abbrev S4096x1x32 : Shape := ⟨3, ![4096, 1, 32]⟩
abbrev S1x4096x1x32 : Shape := ⟨4, ![1, 4096, 1, 32]⟩

abbrev nBuf : Space → Nat
  | .hbm => 219
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1024, .f32⟩
  | 3 => ⟨S1024x3488, .f32⟩
  | 4 => ⟨S64, .f32⟩
  | 5 => ⟨S64, .f32⟩
  | 6 => ⟨S384, .f32⟩
  | 7 => ⟨S256, .f32⟩
  | 8 => ⟨S384x768, .f32⟩
  | 9 => ⟨S256x1024, .f32⟩
  | 10 => ⟨S4096x32, .f32⟩
  | 11 => ⟨S4096x32, .f32⟩
  | 12 => ⟨S4096x16, .f32⟩
  | 13 => ⟨S4096x16, .f32⟩
  | 14 => ⟨S8x1x1024, .f32⟩
  | 15 => ⟨S8x1x1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S_, .f32⟩
  | 33 => ⟨S8x1x1024, .f32⟩
  | 34 => ⟨S8x1x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x3488, .f32⟩
  | 40 => ⟨S8x4096x512, .f32⟩
  | 41 => ⟨S8x4096x128, .f32⟩
  | 42 => ⟨S8x4096x128, .f32⟩
  | 43 => ⟨S8x4096x384, .f32⟩
  | 44 => ⟨S8x4096x256, .f32⟩
  | 45 => ⟨S8x4096x32, .f32⟩
  | 46 => ⟨S8x4096x1024, .f32⟩
  | 47 => ⟨S8x4096x1024, .f32⟩
  | 48 => ⟨S8x4096x1024, .f32⟩
  | 49 => ⟨S8x4096x1024, .f32⟩
  | 50 => ⟨S_, .f32⟩
  | 51 => ⟨S8x4096x1024, .f32⟩
  | 52 => ⟨S8x4096x1024, .f32⟩
  | 53 => ⟨S_, .f32⟩
  | 54 => ⟨S8x4096x1024, .f32⟩
  | 55 => ⟨S8x4096x1024, .f32⟩
  | 56 => ⟨S8x4096x1024, .bf16⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S_, .f32⟩
  | 63 => ⟨S8x4096x1024, .f32⟩
  | 64 => ⟨S8x4096x1024, .f32⟩
  | 65 => ⟨S8x4096x1024, .bf16⟩
  | 66 => ⟨S8x4096x2x64, .f32⟩
  | 67 => ⟨S_, .f32⟩
  | 68 => ⟨S8x4096x2x1, .f32⟩
  | 69 => ⟨S_, .f32⟩
  | 70 => ⟨S8x4096x2x63, .f32⟩
  | 71 => ⟨S8x4096x2x128, .f32⟩
  | 72 => ⟨S8x4096x256, .f32⟩
  | 73 => ⟨S8x4096x256, .bf16⟩
  | 74 => ⟨S8x4096x256, .f32⟩
  | 75 => ⟨S_, .f32⟩
  | 76 => ⟨S8x4096, .f32⟩
  | 77 => ⟨S8x4096x1, .f32⟩
  | 78 => ⟨S_, .f32⟩
  | 79 => ⟨S8x4096x1, .f32⟩
  | 80 => ⟨S8x4096x1, .f32⟩
  | 81 => ⟨S_, .f32⟩
  | 82 => ⟨S8x4096x1, .f32⟩
  | 83 => ⟨S8x4096x1, .f32⟩
  | 84 => ⟨S8x4096x1, .f32⟩
  | 85 => ⟨S8x4096x256, .f32⟩
  | 86 => ⟨S8x4096x256, .f32⟩
  | 87 => ⟨S1x1x256, .f32⟩
  | 88 => ⟨S8x4096x256, .f32⟩
  | 89 => ⟨S8x4096x256, .f32⟩
  | 90 => ⟨S8x4096x1024, .f32⟩
  | 91 => ⟨S8x4096x8x128, .f32⟩
  | 92 => ⟨S8x4096x8x64, .f32⟩
  | 93 => ⟨S8x4096x8x64, .f32⟩
  | 94 => ⟨S_, .f32⟩
  | 95 => ⟨S8x4096x8x1, .f32⟩
  | 96 => ⟨S_, .f32⟩
  | 97 => ⟨S8x4096x8x63, .f32⟩
  | 98 => ⟨S8x4096x8x128, .f32⟩
  | 99 => ⟨S8x4096x1024, .f32⟩
  | 100 => ⟨S8x4096x1024, .bf16⟩
  | 101 => ⟨S8x4096x16, .f32⟩
  | 102 => ⟨S8x4096x16, .f32⟩
  | 103 => ⟨S1x4096x16, .f32⟩
  | 104 => ⟨S8x4096x16, .f32⟩
  | 105 => ⟨S8x4096x16, .f32⟩
  | 106 => ⟨S1x4096x16, .f32⟩
  | 107 => ⟨S8x4096x16, .f32⟩
  | 108 => ⟨S8x4096x16, .f32⟩
  | 109 => ⟨S8x4096x16, .f32⟩
  | 110 => ⟨S1x4096x16, .f32⟩
  | 111 => ⟨S8x4096x16, .f32⟩
  | 112 => ⟨S8x4096x16, .f32⟩
  | 113 => ⟨S1x4096x16, .f32⟩
  | 114 => ⟨S8x4096x16, .f32⟩
  | 115 => ⟨S8x4096x16, .f32⟩
  | 116 => ⟨S8x4096x16, .f32⟩
  | 117 => ⟨S8x4096x32, .f32⟩
  | 118 => ⟨S8x4096x1x32, .f32⟩
  | 119 => ⟨S8x4096x8x32, .f32⟩
  | 120 => ⟨S_, .f32⟩
  | 121 => ⟨S8x4096x8x32, .f32⟩
  | 122 => ⟨S8x4096x8x128, .f32⟩
  | 123 => ⟨S8x4096x1024, .f32⟩
  | 124 => ⟨S8x4096x1024, .bf16⟩
  | 125 => ⟨S8x4096x384, .f32⟩
  | 126 => ⟨S_, .f32⟩
  | 127 => ⟨S8x4096, .f32⟩
  | _ => ⟨S8x4096x1024, .f32⟩

abbrev hbmTy0_1 (i : Nat) : BufTy := match i % 128 with
  | 0 => ⟨S8x4096x1, .f32⟩
  | 1 => ⟨S_, .f32⟩
  | 2 => ⟨S8x4096x1, .f32⟩
  | 3 => ⟨S8x4096x1, .f32⟩
  | 4 => ⟨S_, .f32⟩
  | 5 => ⟨S8x4096x1, .f32⟩
  | 6 => ⟨S8x4096x1, .f32⟩
  | 7 => ⟨S8x4096x1, .f32⟩
  | 8 => ⟨S8x4096x384, .f32⟩
  | 9 => ⟨S8x4096x384, .f32⟩
  | 10 => ⟨S1x1x384, .f32⟩
  | 11 => ⟨S8x4096x384, .f32⟩
  | 12 => ⟨S8x4096x384, .f32⟩
  | 13 => ⟨S8x4096x768, .f32⟩
  | 14 => ⟨S8x4096x8x96, .f32⟩
  | 15 => ⟨S8x4096x8x32, .f32⟩
  | 16 => ⟨S4096x1x16, .f32⟩
  | 17 => ⟨S4096x1x16, .f32⟩
  | 18 => ⟨S8x4096x8x16, .f32⟩
  | 19 => ⟨S8x4096x8x16, .f32⟩
  | 20 => ⟨S1x4096x1x16, .f32⟩
  | 21 => ⟨S8x4096x8x16, .f32⟩
  | 22 => ⟨S8x4096x8x16, .f32⟩
  | 23 => ⟨S1x4096x1x16, .f32⟩
  | 24 => ⟨S8x4096x8x16, .f32⟩
  | 25 => ⟨S8x4096x8x16, .f32⟩
  | 26 => ⟨S8x4096x8x16, .f32⟩
  | 27 => ⟨S1x4096x1x16, .f32⟩
  | 28 => ⟨S8x4096x8x16, .f32⟩
  | 29 => ⟨S8x4096x8x16, .f32⟩
  | 30 => ⟨S1x4096x1x16, .f32⟩
  | 31 => ⟨S8x4096x8x16, .f32⟩
  | 32 => ⟨S8x4096x8x16, .f32⟩
  | 33 => ⟨S8x4096x8x16, .f32⟩
  | 34 => ⟨S8x4096x8x32, .f32⟩
  | 35 => ⟨S8x4096x8x64, .f32⟩
  | 36 => ⟨S_, .f32⟩
  | 37 => ⟨S8x4096x8x64, .f32⟩
  | 38 => ⟨S8x4096x8x64, .f32⟩
  | 39 => ⟨S_, .f32⟩
  | 40 => ⟨S8x4096x8x32, .f32⟩
  | 41 => ⟨S8x4096x8x32, .f32⟩
  | 42 => ⟨S_, .f32⟩
  | 43 => ⟨S8x4096x8x32, .f32⟩
  | 44 => ⟨S8x4096x8x128, .f32⟩
  | 45 => ⟨S8x4096x1024, .f32⟩
  | 46 => ⟨S8x4096x1024, .bf16⟩
  | 47 => ⟨S8x4096x8x64, .f32⟩
  | 48 => ⟨S8x4096x8x64, .f32⟩
  | 49 => ⟨S_, .f32⟩
  | 50 => ⟨S8x4096x8, .f32⟩
  | 51 => ⟨S8x4096x8x1, .f32⟩
  | 52 => ⟨S_, .f32⟩
  | 53 => ⟨S8x4096x8x1, .f32⟩
  | 54 => ⟨S8x4096x8x1, .f32⟩
  | 55 => ⟨S_, .f32⟩
  | 56 => ⟨S8x4096x8x1, .f32⟩
  | 57 => ⟨S8x4096x8x1, .f32⟩
  | 58 => ⟨S8x4096x8x1, .f32⟩
  | 59 => ⟨S8x4096x8x64, .f32⟩
  | 60 => ⟨S8x4096x8x64, .f32⟩
  | 61 => ⟨S1x1x1x64, .f32⟩
  | 62 => ⟨S8x4096x8x64, .f32⟩
  | 63 => ⟨S8x4096x8x64, .f32⟩
  | 64 => ⟨S4096x1x32, .f32⟩
  | 65 => ⟨S4096x1x32, .f32⟩
  | 66 => ⟨S8x4096x8x32, .f32⟩
  | 67 => ⟨S8x4096x8x32, .f32⟩
  | 68 => ⟨S1x4096x1x32, .f32⟩
  | 69 => ⟨S8x4096x8x32, .f32⟩
  | 70 => ⟨S8x4096x8x32, .f32⟩
  | 71 => ⟨S1x4096x1x32, .f32⟩
  | 72 => ⟨S8x4096x8x32, .f32⟩
  | 73 => ⟨S8x4096x8x32, .f32⟩
  | 74 => ⟨S8x4096x8x32, .f32⟩
  | 75 => ⟨S1x4096x1x32, .f32⟩
  | 76 => ⟨S8x4096x8x32, .f32⟩
  | 77 => ⟨S8x4096x8x32, .f32⟩
  | 78 => ⟨S1x4096x1x32, .f32⟩
  | 79 => ⟨S8x4096x8x32, .f32⟩
  | 80 => ⟨S8x4096x8x32, .f32⟩
  | 81 => ⟨S8x4096x8x32, .f32⟩
  | 82 => ⟨S8x4096x8x64, .f32⟩
  | 83 => ⟨S_, .f32⟩
  | 84 => ⟨S8x4096x8x64, .f32⟩
  | 85 => ⟨S8x4096x8x64, .f32⟩
  | 86 => ⟨S_, .f32⟩
  | 87 => ⟨S8x4096x8x64, .f32⟩
  | 88 => ⟨S8x4096x8x128, .f32⟩
  | 89 => ⟨S8x4096x1024, .f32⟩
  | 90 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_15 : Ref sig .tc := ⟨.hbm, 126, rfl⟩
abbrev main_v96 : Ref sig .tc := ⟨.hbm, 127, rfl⟩
abbrev main_v97 : Ref sig .tc := ⟨.hbm, 128, rfl⟩
abbrev main_cst_16 : Ref sig .tc := ⟨.hbm, 129, rfl⟩
abbrev main_v98 : Ref sig .tc := ⟨.hbm, 130, rfl⟩
abbrev main_v99 : Ref sig .tc := ⟨.hbm, 131, rfl⟩
abbrev main_cst_17 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_18 : Ref sig .tc := ⟨.hbm, 164, rfl⟩
abbrev main_v131 : Ref sig .tc := ⟨.hbm, 165, rfl⟩
abbrev main_v132 : Ref sig .tc := ⟨.hbm, 166, rfl⟩
abbrev main_cst_19 : Ref sig .tc := ⟨.hbm, 167, rfl⟩
abbrev main_v133 : Ref sig .tc := ⟨.hbm, 168, rfl⟩
abbrev main_v134 : Ref sig .tc := ⟨.hbm, 169, rfl⟩
abbrev main_cst_20 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_21 : Ref sig .tc := ⟨.hbm, 177, rfl⟩
abbrev main_v141 : Ref sig .tc := ⟨.hbm, 178, rfl⟩
abbrev main_v142 : Ref sig .tc := ⟨.hbm, 179, rfl⟩
abbrev main_cst_22 : Ref sig .tc := ⟨.hbm, 180, rfl⟩
abbrev main_v143 : Ref sig .tc := ⟨.hbm, 181, rfl⟩
abbrev main_v144 : Ref sig .tc := ⟨.hbm, 182, rfl⟩
abbrev main_cst_23 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_24 : Ref sig .tc := ⟨.hbm, 211, rfl⟩
abbrev main_v172 : Ref sig .tc := ⟨.hbm, 212, rfl⟩
abbrev main_v173 : Ref sig .tc := ⟨.hbm, 213, rfl⟩
abbrev main_cst_25 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩

abbrev nD : Nat := 1
abbrev τ : Topo := Topo.v7x

variable {F : FTy → Type} [FloatOps F]
-- ==== Proof.Online.lean ====
/- The arithmetic of a softmax row over the extended reals, free of any program: the weighted mean
   `soft` that the reference computes in one pass, and the running form of it the kernel computes
   block by block (a running maximum, every earlier contribution rescaled when the maximum moves).
   The scores are real numbers; the values may be any extended reals. -/
module

public import Idealize.ShloMosaic.PureOps.Ideal.Laws

@[expose] public section

noncomputable section

namespace Cert.Attn

open Idealize.ShloMosaic

/-- A nonnegative real factor passes into a finite sum of extended reals. -/
theorem coe_mul_sum {ι : Type*} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A finite sum of reals, as an extended real. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greater of two reals, as an extended real. -/
theorem coe_max (x y : ℝ) : ((max x y : ℝ) : EReal) = max (x : EReal) y := EReal.coe_strictMono.monotone.map_max

/-- The maximum of a nonempty finite family of reals, folded from `⊥`, is real. -/
theorem fold_max_real {ι : Type*} (S : Finset ι) (hS : S.Nonempty) (f : ι → ℝ) :
    ∃ M : ℝ, S.fold max (⊥ : EReal) (fun i => (f i : EReal)) = M := by
  classical
  induction hS using Finset.Nonempty.cons_induction with
  | singleton a => exact ⟨f a, by simp⟩
  | cons a S ha hS ih =>
    obtain ⟨M, hM⟩ := ih
    refine ⟨max (f a) M, ?_⟩
    rw [Finset.fold_cons, hM, coe_max]

/-- The softmax row over the first `N` keys, in base two: the values' mean weighted by `2 ^ score`. -/
def soft (N : ℕ) (s : ℕ → ℝ) (v : ℕ → EReal) : EReal :=
  ∑ j ∈ Finset.range N, (((2 : ℝ) ^ s j / ∑ i ∈ Finset.range N, (2 : ℝ) ^ s i : ℝ) : EReal) * v j

/-- The running state after the first `N` keys: no key seen and nothing accumulated, or some real maximum
    and the contributions of the keys seen, scaled by it. -/
def Running (s : ℕ → ℝ) (v : ℕ → EReal) (N : ℕ) (m a : EReal) : Prop :=
  (N = 0 ∧ m = ⊥ ∧ a = 0) ∨
    ∃ M : ℝ, m = M ∧ a = ∑ j ∈ Finset.range N, (((2 : ℝ) ^ (s j - M) : ℝ) : EReal) * v j

/-- One block of `B` keys keeps the running state. -/
theorem Running.step {s : ℕ → ℝ} {v : ℕ → EReal} {N B : ℕ} {m a : EReal} (h : Running s v N m a) (hB : 0 < B) :
    let m' := max m ((Finset.univ : Finset (Fin B)).fold max (⊥ : EReal) fun j : Fin B => (s (N + j) : EReal))
    Running s v (N + B) m'
      (Ideal.exp2 (m - m') * a + ∑ j : Fin B, Ideal.exp2 ((s (N + j) : EReal) - m') * v (N + j)) := by
  intro m'
  obtain ⟨b, hb⟩ := fold_max_real (Finset.univ : Finset (Fin B)) ⟨⟨0, hB⟩, Finset.mem_univ _⟩ (fun j : Fin B => s (N + j))
  have hm' : m' = max m b := congrArg (max m) hb
  clear_value m'
  right
  have tail : ∀ M' : ℝ, ∑ j : Fin B, Ideal.exp2 ((s (N + j) : EReal) - (M' : EReal)) * v (N + j)
      = ∑ j ∈ Finset.range B, (((2 : ℝ) ^ (s (N + j) - M') : ℝ) : EReal) * v (N + j) := fun M' => by
    rw [Finset.sum_range fun j => (((2 : ℝ) ^ (s (N + j) - M') : ℝ) : EReal) * v (N + j)]
    refine Finset.sum_congr rfl fun j _ => ?_
    rw [← EReal.coe_sub, Ideal.exp2_coe]; rfl
  rcases h with ⟨rfl, rfl, rfl⟩ | ⟨M, rfl, rfl⟩
  · refine ⟨b, by rw [hm', max_eq_right bot_le], ?_⟩
    rw [hm', max_eq_right bot_le, tail, mul_zero, zero_add, zero_add]
    simp only [zero_add]
  · refine ⟨max M b, by rw [hm', coe_max], ?_⟩
    rw [hm', ← coe_max, tail, Finset.sum_range_add, ← EReal.coe_sub, Ideal.exp2_coe]
    congr 1
    rw [coe_mul_sum _ _ (show 0 ≤ Real.rpow 2 _ from Real.rpow_nonneg (by norm_num) _)]
    refine Finset.sum_congr rfl fun j _ => ?_
    rw [← mul_assoc, ← EReal.coe_mul]
    congr 2
    show (2 : ℝ) ^ (M - max M b) * (2 : ℝ) ^ (s j - M) = _
    rw [← Real.rpow_add (by norm_num)]
    congr 1; ring

/-- What a running state holds at the end, divided by what it holds for the values that are all one, is the
    softmax row. -/
theorem Running.finish {s : ℕ → ℝ} {v w : ℕ → EReal} {N : ℕ} {m a l : EReal} (hN : 0 < N)
    (h : Running s v N m a) (h1 : Running s w N m l) (hw : ∀ j < N, w j = 1) :
    Ideal.div a l = soft N s v := by
  rcases h with ⟨rfl, _⟩ | ⟨M, rfl, rfl⟩
  · exact absurd hN (lt_irrefl 0)
  rcases h1 with ⟨rfl, _⟩ | ⟨M', hM, rfl⟩
  · exact absurd hN (lt_irrefl 0)
  obtain rfl : M = M' := EReal.coe_injective hM
  have hl : (∑ j ∈ Finset.range N, (((2 : ℝ) ^ (s j - M) : ℝ) : EReal) * w j)
      = ((∑ j ∈ Finset.range N, (2 : ℝ) ^ (s j - M) : ℝ) : EReal) := by
    rw [coe_sum]
    exact Finset.sum_congr rfl fun j hj => by rw [hw j (Finset.mem_range.mp hj), mul_one]
  have hpos : 0 < ∑ j ∈ Finset.range N, (2 : ℝ) ^ (s j - M) :=
    Finset.sum_pos (fun j _ => Real.rpow_pos_of_pos (by norm_num) _) ⟨0, Finset.mem_range.mpr hN⟩
  rw [hl, Ideal.div_coe hpos.ne', mul_comm, coe_mul_sum _ _ (by positivity), soft]
  refine Finset.sum_congr rfl fun j _ => ?_
  rw [← mul_assoc, ← EReal.coe_mul]
  congr 2
  have hf : ∀ i, (2 : ℝ) ^ (s i - M) = (2 : ℝ) ^ s i / (2 : ℝ) ^ M := fun i => Real.rpow_sub (by norm_num) _ _
  have h2 : (2 : ℝ) ^ M ≠ 0 := (Real.rpow_pos_of_pos (by norm_num) _).ne'
  simp only [hf]
  rw [← Finset.sum_div]
  have hs : (∑ i ∈ Finset.range N, (2 : ℝ) ^ s i) ≠ 0 :=
    (Finset.sum_pos (fun j _ => Real.rpow_pos_of_pos (by norm_num) _) ⟨0, Finset.mem_range.mpr hN⟩).ne'
  field_simp

/-- The one-pass form: the scores times the logarithm of two, their maximum subtracted, exponentials divided by
    their sum. -/
theorem soft_onepass {N : ℕ} (hN : 0 < N) (s : ℕ → ℝ) (v : ℕ → EReal) :
    let M := max ⊥ ((Finset.univ : Finset (Fin N)).fold max (⊥ : EReal)
      fun j : Fin N => (s j : EReal) * ((Real.log 2 : ℝ) : EReal))
    ∑ j : Fin N, v j * Ideal.div (Ideal.exp ((s j : EReal) * ((Real.log 2 : ℝ) : EReal) - M))
        (0 + ∑ i : Fin N, Ideal.exp ((s i : EReal) * ((Real.log 2 : ℝ) : EReal) - M)) = soft N s v := by
  intro M
  obtain ⟨b, hb⟩ := fold_max_real (Finset.univ : Finset (Fin N)) ⟨⟨0, hN⟩, Finset.mem_univ _⟩
    (fun j : Fin N => s j * Real.log 2)
  have hM : M = b := by
    show max ⊥ _ = _
    rw [max_eq_right bot_le, ← hb]
    rfl
  clear_value M
  subst hM
  have he : ∀ j : ℕ, Ideal.exp ((s j : EReal) * ((Real.log 2 : ℝ) : EReal) - (b : EReal))
      = (((2 : ℝ) ^ s j * Real.exp (-b) : ℝ) : EReal) := fun j => by
    rw [← EReal.coe_mul, ← EReal.coe_sub, Ideal.exp_coe, sub_eq_add_neg, Real.exp_add,
      Real.rpow_def_of_pos (by norm_num), mul_comm (Real.log 2)]
  simp only [he]
  have hsum : (∑ i : Fin N, (((2 : ℝ) ^ s i * Real.exp (-b) : ℝ) : EReal))
      = (((∑ i ∈ Finset.range N, (2 : ℝ) ^ s i) * Real.exp (-b) : ℝ) : EReal) := by
    rw [Finset.sum_mul, coe_sum, Finset.sum_range]
  have hs : 0 < ∑ i ∈ Finset.range N, (2 : ℝ) ^ s i :=
    Finset.sum_pos (fun j _ => Real.rpow_pos_of_pos (by norm_num) _) ⟨0, Finset.mem_range.mpr hN⟩
  have hb' := Real.exp_pos (-b)
  rw [zero_add, hsum, soft, Finset.sum_range (n := N)
    (f := fun j => (((2 : ℝ) ^ s j / ∑ i ∈ Finset.range N, (2 : ℝ) ^ s i : ℝ) : EReal) * v j)]
  refine Finset.sum_congr rfl fun j _ => ?_
  rw [Ideal.div_coe (mul_pos hs hb').ne', ← EReal.coe_mul, mul_comm]
  congr 2
  field_simp

/-- A product of two rows of finite extended reals is the real product of their real parts. -/
theorem dot_real {n : ℕ} (x y : Fin n → EReal) (hx : ∀ d, x d = ((x d).toReal : EReal))
    (hy : ∀ d, y d = ((y d).toReal : EReal)) :
    ∑ d, x d * y d = ((∑ d, (x d).toReal * (y d).toReal : ℝ) : EReal) := by
  rw [coe_sum]
  refine Finset.sum_congr rfl fun d _ => ?_
  rw [EReal.coe_mul, ← hx, ← hy]

end Cert.Attn

end
-- ==== Proof.Step.lean ====
/- One block of the kernel's loop as operations on whole vectors, read at a row and a lane: the running
   maximum and the running weighted sum take exactly the step of the running softmax row. -/
module

public import proofs.«01_k».proof.Proof.Gen.KernelAIdeal.Skeleton
public import proofs.«01_k».proof.Proof.Online
public import Idealize.ShloMosaic.Lib.Pointwise

@[expose] public section

set_option maxRecDepth 16384

noncomputable section

namespace Cert.Attn

open Cert.KernelAIdeal Cert.KernelAIdeal.Gen Idealize.ShloMosaic Idealize.ShloMosaic.Pointwise

/-- The scores of every row against one block of keys. -/
def scoreV (q : FVec Ideal S1024x128 .bf16) (k : FVec Ideal S1x512x128 .bf16) : FVec Ideal S1024x512 .f32 :=
  matmul dot_S1024x128_S512x128_S1024x512_1_1_0_0_n_n none q (shapeCast S512x128 k shapeCasts_S1x512x128_S512x128)
    (constant S1024x512 .f32 0x00000000#32)

/-- The running maximum after the block. -/
def maxV (q : FVec Ideal S1024x128 .bf16) (m : FVec Ideal S1024x1 .f32) (k : FVec Ideal S1x512x128 .bf16) : FVec Ideal S1024x1 .f32 :=
  maximumf m (shapeCast S1024x1 (multiReduction .maximumf [1] S1024 (scoreV q k) 0xFF800000#32 reduces_S1024x512_S1024 (.inl rfl) rfl)
    shapeCasts_S1024_S1024x1)

/-- The running weighted sum after the block. -/
def accV (q : FVec Ideal S1024x128 .bf16) (m : FVec Ideal S1024x1 .f32) (a : FVec Ideal S1024x128 .f32)
    (k v : FVec Ideal S1x512x128 .bf16) : FVec Ideal S1024x128 .f32 :=
  addf (mulf (broadcastTo S1024x128 (exp2 (subf m (maxV q m k))) broadcasts_S1024x1_S1024x128) a)
    (matmul dot_S1024x512_S512x128_S1024x128_1_0_0_1_n_n none
      (exp2 (truncf .bf16 (subf (scoreV q k) (broadcastTo S1024x512 (maxV q m k) broadcasts_S1024x1_S1024x512)) bitsLt_bf16_f32))
      (shapeCast S512x128 v shapeCasts_S1x512x128_S512x128) (constant S1024x128 .f32 0x00000000#32))

theorem scoreV_apply (q : FVec Ideal S1024x128 .bf16) (k : FVec Ideal S1x512x128 .bf16) (r : Fin 1024) (j : Fin 512) :
    scoreV q k (ix2 r j) = ∑ d : Fin 128, q (ix2 r d) * k (ix3 0 j d) := by
  pointwise [scoreV]

theorem maxV_apply (q : FVec Ideal S1024x128 .bf16) (m : FVec Ideal S1024x1 .f32) (k : FVec Ideal S1x512x128 .bf16) (r : Fin 1024) :
    maxV q m k (ix2 r 0) = max (m (ix2 r 0)) ((Finset.univ : Finset (Fin 512)).fold max (⊥ : EReal) fun j => ∑ d : Fin 128, q (ix2 r d) * k (ix3 0 j d)) := by
  pointwise [maxV]
  simp only [scoreV_apply]
  rw [show Ideal.ofBits .f32 0xFF800000#32 = ⊥ by simp [Ideal.ofBits, Ideal.ieee]]

theorem accV_apply (q : FVec Ideal S1024x128 .bf16) (m : FVec Ideal S1024x1 .f32) (a : FVec Ideal S1024x128 .f32)
    (k v : FVec Ideal S1x512x128 .bf16) (r : Fin 1024) (d : Fin 128) :
    accV q m a k v (ix2 r d) = Ideal.exp2 (m (ix2 r 0) - maxV q m k (ix2 r 0)) * a (ix2 r d)
      + ∑ j : Fin 512, Ideal.exp2 (scoreV q k (ix2 r j) - maxV q m k (ix2 r 0)) * v (ix3 0 j d) := by
  pointwise [accV]
  rfl

/-- The running maximum after `n` blocks of keys, from minus infinity. -/
def runM (q : FVec Ideal S1024x128 .bf16) (k : ℕ → FVec Ideal S1x512x128 .bf16) : ℕ → FVec Ideal S1024x1 .f32
  | 0 => broadcast S1024x1 (Scalar.ofBits (F := Ideal) .f32 0xFF800000#32)
  | n + 1 => maxV q (runM q k n) (k n)

/-- The running weighted sum after `n` blocks, from zero. -/
def runA (q : FVec Ideal S1024x128 .bf16) (k v : ℕ → FVec Ideal S1x512x128 .bf16) : ℕ → FVec Ideal S1024x128 .f32
  | 0 => broadcast S1024x128 (Scalar.ofBits (F := Ideal) .f32 0x00000000#32)
  | n + 1 => accV q (runM q k n) (runA q k v n) (k n) (v n)

/-- What the loop leaves: the running weighted sum after eight blocks divided by its own lane 64. -/
def outV (q : FVec Ideal S1024x128 .bf16) (k v : ℕ → FVec Ideal S1x512x128 .bf16) : FVec Ideal S1024x128 .bf16 :=
  truncf .bf16 (divf (runA q k v 8) (broadcastTo S1024x128
    (extractStridedSlice S1024x1 ![0, 64] (runA q k v 8) slices_S1024x128_o0_64_S1024x1) broadcasts_S1024x1_S1024x128)) bitsLt_bf16_f32

theorem outV_apply (q : FVec Ideal S1024x128 .bf16) (k v : ℕ → FVec Ideal S1x512x128 .bf16) (r : Fin 1024) (d : Fin 128) :
    outV q k v (ix2 r d) = Ideal.div (runA q k v 8 (ix2 r d)) (runA q k v 8 (ix2 r 64)) := by
  pointwise [outV]

/-- After `n` blocks, a row's running maximum and a lane's running sum are the running softmax row's. -/
theorem running (q : FVec Ideal S1024x128 .bf16) (k v : ℕ → FVec Ideal S1x512x128 .bf16) (r : Fin 1024) (d : Fin 128)
    (s : ℕ → ℝ) (w : ℕ → EReal)
    (hs : ∀ n < 8, ∀ j : Fin 512, ∑ e : Fin 128, q (ix2 r e) * k n (ix3 0 j e) = (s (512 * n + j) : EReal))
    (hw : ∀ n < 8, ∀ j : Fin 512, v n (ix3 0 j d) = w (512 * n + j)) :
    ∀ n ≤ 8, Running s w (512 * n) (runM q k n (ix2 r 0)) (runA q k v n (ix2 r d))
  | 0, _ => .inl ⟨rfl, by show Ideal.ofBits .f32 0xFF800000#32 = ⊥; simp [Ideal.ofBits, Ideal.ieee],
      by show Ideal.ofBits .f32 0x00000000#32 = 0; simp [Ideal.ofBits, Ideal.ieee]⟩
  | n + 1, hn => by
    have h := (running q k v r d s w hs hw n (by omega)).step (B := 512) (by norm_num)
    have hm : runM q k (n + 1) (ix2 r 0) = max (runM q k n (ix2 r 0))
        ((Finset.univ : Finset (Fin 512)).fold max (⊥ : EReal) fun j : Fin 512 => (s (512 * n + j) : EReal)) := by
      rw [runM, maxV_apply]
      simp only [hs n (by omega)]
    rw [runA, accV_apply]
    simp only [scoreV_apply, hs n (by omega), hw n (by omega)]
    show Running s w (512 * n + 512) _ _
    rw [show maxV q (runM q k n) (k n) (ix2 r 0) = _ from hm, hm]
    exact h

/-- The loop's result at a row and a lane is the softmax row, when lane 64 of the values is one. -/
theorem outV_eq_soft (q : FVec Ideal S1024x128 .bf16) (k v : ℕ → FVec Ideal S1x512x128 .bf16) (r : Fin 1024) (d : Fin 128)
    (s : ℕ → ℝ) (w : ℕ → EReal)
    (hs : ∀ n < 8, ∀ j : Fin 512, ∑ e : Fin 128, q (ix2 r e) * k n (ix3 0 j e) = (s (512 * n + j) : EReal))
    (hw : ∀ n < 8, ∀ j : Fin 512, v n (ix3 0 j d) = w (512 * n + j))
    (h1 : ∀ n < 8, ∀ j : Fin 512, v n (ix3 0 j 64) = 1) :
    outV q k v (ix2 r d) = soft 4096 s w := by
  rw [outV_apply]
  exact (running q k v r d s w hs hw 8 le_rfl).finish (N := 4096) (by norm_num)
    (running q k v r 64 s (fun _ => 1) hs h1 8 le_rfl) fun _ _ => rfl

end Cert.Attn

end
-- ==== Proof.Loads.lean ====
/- The loop's loads: 512 rows of a head's keys or values at a time. -/
module

public import proofs.«01_k».proof.Proof.Step
public import Idealize.ShloMosaic.Lib.Tactic

@[expose] public section

set_option maxRecDepth 16384

noncomputable section

namespace Cert.Attn

open Cert.KernelAIdeal Cert.KernelAIdeal.Gen Idealize.ShloMosaic Idealize.ShloMosaic.TcCoe Idealize.ShloMosaic.Tactic Idealize.SL.Sem
open Idealize.ShloMosaic.Pointwise

theorem blk_inside (n : ℕ) : ∀ a : Fin S1x4096x128.rank, (![0, 512 * n % 4096, 0] : Fin 3 → ℕ) a + (![1, 512, 128] : Fin 3 → ℕ) a ≤ S1x4096x128.size a := by
  intro a
  match a with
  | ⟨0, _⟩ => show 0 + 1 ≤ 1; omega
  | ⟨1, _⟩ => show 512 * n % 4096 + 512 ≤ 4096; omega
  | ⟨2, _⟩ => show 0 + 128 ≤ 128; omega

/-- Block `n` of a head's keys or values, as the kernel loads it: rows `512 * n` to `512 * n + 511`. -/
def blkAt (x : FVec Ideal S1x4096x128 .bf16) (n : ℕ) : FVec Ideal S1x512x128 .bf16 :=
  View.ld (Val := Elt Ideal) (e' := .bf16) x (Rect.unit ![0, 512 * n % 4096, 0] ![1, 512, 128] (blk_inside n))

theorem blkAt_apply (x : FVec Ideal S1x4096x128 .bf16) (n : ℕ) (hn : n < 8) (j : Fin 512) (d : Fin 128) :
    blkAt x n (ix3 0 j d) = x (ix3 0 ⟨512 * n + j.val, by omega⟩ d) := by
  show x _ = x _
  congr 1
  funext a
  apply Fin.ext
  match a with
  | ⟨0, _⟩ => show 0 + 1 * 0 = 0; omega
  | ⟨1, _⟩ => show 512 * n % 4096 + 1 * j.val = 512 * n + j.val; omega
  | ⟨2, _⟩ => show 0 + 1 * d.val = d.val; omega

/-- The loop over a head's keys and values, row by row: the softmax of the row's scores in base two, applied to the
    values. -/
theorem outV_blk (q : FVec Ideal S1024x128 .bf16) (k v : FVec Ideal S1x4096x128 .bf16) (r : Fin 1024) (d : Fin 128)
    (hq : ∀ e : Fin 128, q (ix2 r e) = ((q (ix2 r e)).toReal : EReal))
    (hk : ∀ (j : Fin 4096) (e : Fin 128), k (ix3 0 j e) = ((k (ix3 0 j e)).toReal : EReal))
    (h1 : ∀ j : Fin 4096, v (ix3 0 j 64) = 1) :
    outV q (blkAt k) (blkAt v) (ix2 r d)
      = soft 4096 (fun j => ∑ e : Fin 128, (q (ix2 r e)).toReal * (k (ix3 0 (Fin.ofNat 4096 j) e)).toReal)
          (fun j => v (ix3 0 (Fin.ofNat 4096 j) d)) := by
  have hj : ∀ (n : ℕ) (hn : n < 8) (j : Fin 512), (⟨512 * n + j.val, by omega⟩ : Fin 4096) = Fin.ofNat 4096 (512 * n + j.val) := by
    intro n hn j
    apply Fin.ext
    show 512 * n + j.val = (512 * n + j.val) % 4096
    omega
  refine outV_eq_soft q (blkAt k) (blkAt v) r d _ _ (fun n hn j => ?_) (fun n hn j => ?_) (fun n hn j => ?_)
  · simp only [blkAt_apply _ n hn, hj n hn]
    exact dot_real _ _ hq (fun e => hk _ e)
  · simp only [blkAt_apply _ n hn, hj n hn]
  · rw [blkAt_apply _ n hn]; exact h1 _

end Cert.Attn

end
-- ==== Proof.BlockB.lean ====
/- The latent attention call's block: what a grid point leaves in the output's staging buffer is the loop's
   result for the point's queries and its head's keys and values. -/
module

public import proofs.«01_k».proof.Proof.Loads
public import proofs.«01_k».proof.Proof.Gen.KernelBIdeal.Value
public import Idealize.ShloMosaic.Lib.Tactic

@[expose] public section

set_option maxRecDepth 16384

noncomputable section

namespace Cert.KernelBIdeal.Block

open Cert.KernelBIdeal Cert.KernelBIdeal.Gen Idealize.ShloMosaic Idealize.ShloMosaic.TcCoe Idealize.ShloMosaic.Tactic Idealize.SL.Sem
open Idealize.ShloMosaic.Pointwise
open Idealize.ShloMosaic.Pipeline (Dat)
open Cert.Attn (outV blkAt soft)

theorem hz : (![0, 0, 0] : Fin 3 → Nat) = fun _ => 0 := funext fun a => by fin_cases a <;> rfl

theorem out_eq (c : Dev nD) (i : grid0.Coords) (a3 : Memref sig .tc .vmem S1x1024x128 .bf16) (h3 : a3.IsWhole) (a4 : Memref sig .tc .vmem S1x4096x128 .bf16) (h4 : a4.IsWhole) (a5 : Memref sig .tc .vmem S1x4096x128 .bf16) (h5 : a5.IsWhole) (a6 : Memref sig .tc .vmem S1x1024x128 .bf16) (h6 : a6.IsWhole)
    (q : Vec Ideal S1x1024x128 .bf16) (k v : Vec Ideal S1x4096x128 .bf16) :
    out0_A_3 c i a3 h3 a4 h4 a5 h5 a6 h6 q k v
      = shapeCast S1x1024x128 (outV (shapeCast S1024x128 q shapeCasts_S1x1024x128_S1024x128) (blkAt k) (blkAt v)) shapeCasts_S1024x128_S1x1024x128 := by
  unfold out0_A_3
  rw [View.read_writes_eq_canon _ _ _ (cover0_A_3 c i a3 h3 a4 h4 a5 h5 a6 h6 q k v)]
  unfold kernelRun0_A; dsimp only; sl_unfold_words
  rw [View.canon_unit_zero hz]
  simp only [View.readAt_eq_ld, h3.read_unread, h4.read_unread, h5.read_unread, View.ld_unit_zero (S := S1x1024x128) hz]
  rfl

/-- The lane of head `h`'s feature `e`. -/
abbrev lane (l : Fin 1024) (e : Fin 128) : Fin 1024 := ⟨128 * (l.val / 128) + e.val, by omega⟩

/-- The attention of the latent call: every query row's softmax over its own head's 4096 keys, applied to the head's values. -/
def attn (q k v : FVec Ideal S8x4096x1024 .bf16) : FVec Ideal S8x4096x1024 .bf16 := fun i =>
  soft 4096 (fun j => ∑ e : Fin 128, (q (ix3 (i 0) (i 1) (lane (i 2) e))).toReal * (k (ix3 (i 0) (Fin.ofNat 4096 j) (lane (i 2) e))).toReal)
    (fun j => v (ix3 (i 0) (Fin.ofNat 4096 j) (i 2)))

theorem fold_apply (x : FVec Ideal S1x1024x128 .bf16) (r : Fin 1024) (e : Fin 128) :
    shapeCast S1024x128 x shapeCasts_S1x1024x128_S1024x128 (ix2 r e) = x (ix3 0 r e) := by
  pointwise []

theorem unfold_apply (x : FVec Ideal S1024x128 .bf16) (r : Fin 1024) (e : Fin 128) :
    shapeCast S1x1024x128 x shapeCasts_S1024x128_S1x1024x128 (ix3 0 r e) = x (ix2 r e) := by
  pointwise []

theorem index_eq : ∀ t : Fin cfg0.N,
    (win0_0.index t 0 = t.val / 32 ∧ win0_0.index t 1 = t.val % 4 ∧ win0_0.index t 2 = t.val / 4 % 8)
    ∧ (win0_1.index t 0 = t.val / 32 ∧ win0_1.index t 1 = 0 ∧ win0_1.index t 2 = t.val / 4 % 8)
    ∧ (win0_2.index t 0 = t.val / 32 ∧ win0_2.index t 1 = 0 ∧ win0_2.index t 2 = t.val / 4 % 8)
    ∧ (win0_3.index t 0 = t.val / 32 ∧ win0_3.index t 1 = t.val % 4 ∧ win0_3.index t 2 = t.val / 4 % 8) := by
  decide +kernel

variable (m : (ℓ : Loc nD τ sig) → Buf (Elt Ideal) ℓ)

theorem lt_N (t : Fin cfg0.N) : t.val < 256 := by have h : cfg0.N = 256 := N_0; have := t.isLt; omega

theorem q_blk (c : Dev nD) (t : Fin cfg0.N) (r : Fin 1024) (e : Fin 128) :
    (iblk m c 0 t : Vec Ideal S1x1024x128 .bf16) (ix3 0 r e)
      = m (c.tc.loc main_arg0) (ix3 (⟨t.val / 32, by have := lt_N t; omega⟩ : Fin 8) (⟨1024 * (t.val % 4) + r.val, by omega⟩ : Fin 4096)
          (⟨128 * (t.val / 4 % 8) + e.val, by omega⟩ : Fin 1024)) := by
  obtain ⟨⟨h0, h1, h2⟩, -⟩ := index_eq t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 32; rw [h0]; omega
  | ⟨1, _⟩ => show win0_0.index t 1 * 1024 + 1 * r.val = 1024 * (t.val % 4) + r.val; rw [h1]; omega
  | ⟨2, _⟩ => show win0_0.index t 2 * 128 + 1 * e.val = 128 * (t.val / 4 % 8) + e.val; rw [h2]; omega

theorem k_blk (c : Dev nD) (t : Fin cfg0.N) (r : Fin 4096) (e : Fin 128) :
    (iblk m c 1 t : Vec Ideal S1x4096x128 .bf16) (ix3 0 r e)
      = m (c.tc.loc main_arg1) (ix3 (⟨t.val / 32, by have := lt_N t; omega⟩ : Fin 8) r
          (⟨128 * (t.val / 4 % 8) + e.val, by omega⟩ : Fin 1024)) := by
  obtain ⟨-, ⟨h0, h1, h2⟩, -⟩ := index_eq t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 32; rw [h0]; omega
  | ⟨1, _⟩ => show win0_1.index t 1 * 4096 + 1 * r.val = r.val; rw [h1]; omega
  | ⟨2, _⟩ => show win0_1.index t 2 * 128 + 1 * e.val = 128 * (t.val / 4 % 8) + e.val; rw [h2]; omega

theorem v_blk (c : Dev nD) (t : Fin cfg0.N) (r : Fin 4096) (e : Fin 128) :
    (iblk m c 2 t : Vec Ideal S1x4096x128 .bf16) (ix3 0 r e)
      = m (c.tc.loc main_arg2) (ix3 (⟨t.val / 32, by have := lt_N t; omega⟩ : Fin 8) r
          (⟨128 * (t.val / 4 % 8) + e.val, by omega⟩ : Fin 1024)) := by
  obtain ⟨-, -, ⟨h0, h1, h2⟩, -⟩ := index_eq t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 32; rw [h0]; omega
  | ⟨1, _⟩ => show win0_2.index t 1 * 4096 + 1 * r.val = r.val; rw [h1]; omega
  | ⟨2, _⟩ => show win0_2.index t 2 * 128 + 1 * e.val = 128 * (t.val / 4 % 8) + e.val; rw [h2]; omega

/-- What the result array is shown to hold. -/
abbrev result (c : Dev nD) : Buf (Elt Ideal) ((c : Thread nD τ).loc main_v0) :=
  attn (m (c.tc.loc main_arg0)) (m (c.tc.loc main_arg1)) (m (c.tc.loc main_arg2))

/-- What the claim needs of the arguments: finite queries and keys, and ones in the values' lane 64 of every head. -/
structure Good (q k v : FVec Ideal S8x4096x1024 .bf16) : Prop where
  q : ∀ i, q i = ((q i).toReal : EReal)
  k : ∀ i, k i = ((k i).toReal : EReal)
  one : ∀ i : S8x4096x1024.Idx, (i 2).val % 128 = 64 → v i = 1

theorem flushed_eq (hg : ∀ c : Dev nD, Good (m (c.tc.loc main_arg0)) (m (c.tc.loc main_arg1)) (m (c.tc.loc main_arg2)))
    (c : Dev nD) (t : Fin cfg0.N) (hf : (cfg0.win 3).flush t = true) :
    (dats m 0 c).flushed 3 t = ((cfg0.win 3).blk t).view.read (Elt Ideal) (result m c) := by
  obtain ⟨-, -, -, h0, h1, h2⟩ := index_eq t
  rw [Value.flushed3_A, out_eq]
  funext y
  obtain ⟨y0, r, d, rfl⟩ : ∃ (a : Fin 1) (r : Fin 1024) (d : Fin 128), y = ix3 a r d := ⟨y 0, y 1, y 2, by funext a; fin_cases a <;> rfl⟩
  obtain rfl : y0 = 0 := Subsingleton.elim _ _
  rw [View.read_apply]
  have hi : (((cfg0.win 3).blk t).view.emb (ix3 0 r d) : S8x4096x1024.Idx)
      = ix3 (⟨t.val / 32, by have := lt_N t; omega⟩ : Fin 8) (⟨1024 * (t.val % 4) + r.val, by omega⟩ : Fin 4096)
          (⟨128 * (t.val / 4 % 8) + d.val, by omega⟩ : Fin 1024) := by
    funext a
    apply Fin.ext
    match a with
    | ⟨0, _⟩ => show win0_3.index t 0 * 1 + 1 * 0 = t.val / 32; rw [h0]; omega
    | ⟨1, _⟩ => show win0_3.index t 1 * 1024 + 1 * r.val = 1024 * (t.val % 4) + r.val; rw [h1]; omega
    | ⟨2, _⟩ => show win0_3.index t 2 * 128 + 1 * d.val = 128 * (t.val / 4 % 8) + d.val; rw [h2]; omega
  show shapeCast S1x1024x128 _ _ (ix3 0 r d) = attn _ _ _ _
  rw [unfold_apply, hi, Cert.Attn.outV_blk]
  · simp only [fold_apply, q_blk, k_blk, v_blk]
    have hl : ∀ e : Fin 128, lane (⟨128 * (t.val / 4 % 8) + d.val, by omega⟩ : Fin 1024) e = ⟨128 * (t.val / 4 % 8) + e.val, by omega⟩ := by
      intro e; apply Fin.ext; show 128 * ((128 * (t.val / 4 % 8) + d.val) / 128) + e.val = _; dsimp only; omega
    refine congrFun (congrArg (soft 4096) (funext fun j => Finset.sum_congr rfl fun e _ => ?_)) _
    rw [← hl e]
    rfl
  · intro e; rw [fold_apply, q_blk]; exact (hg c).q _
  · intro j e; rw [k_blk]; exact (hg c).k _
  · intro j; rw [v_blk]; refine (hg c).one _ ?_
    show (128 * (t.val / 4 % 8) + 64) % 128 = 64; omega

theorem final (hg : ∀ c : Dev nD, Good (m (c.tc.loc main_arg0)) (m (c.tc.loc main_arg1)) (m (c.tc.loc main_arg2)))
    (c : Dev nD) : (dats m 0 c).arrAt 3 cfg0.N = result m c :=
  (dats m 0 c).arrAt_eq_of_cover 3 (result m c) (flushed_eq m hg c) fun i => by
    have a0 : (i 0).val < 8 := (i 0).isLt
    have a1 : (i 1).val < 4096 := (i 1).isLt
    have a2 : (i 2).val < 1024 := (i 2).isLt
    have hN : cfg0.N = 256 := N_0
    let t : Fin cfg0.N := ⟨((i 0).val * 8 + (i 2).val / 128) * 4 + (i 1).val / 1024, by omega⟩
    have ht : t.val = ((i 0).val * 8 + (i 2).val / 128) * 4 + (i 1).val / 1024 := rfl
    refine ⟨t, flush0_3 t, ?_⟩
    obtain ⟨-, -, -, h0, h1, h2⟩ := index_eq t
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; rw [h0]; omega
    | ⟨1, _⟩ => show win0_3.index t 1 * 1024 ≤ (i 1).val ∧ (i 1).val < win0_3.index t 1 * 1024 + 1024; rw [h1]; omega
    | ⟨2, _⟩ => show win0_3.index t 2 * 128 ≤ (i 2).val ∧ (i 2).val < win0_3.index t 2 * 128 + 128; rw [h2]; omega

end Cert.KernelBIdeal.Block

end
-- ==== Proof.RefB.lean ====
/- The latent attention call's reference, read: the same softmax, and the precondition, read at an index. -/
module

public import proofs.«01_k».proof.Proof.BlockB
public import proofs.«01_k».proof.Proof.Gen.ReferenceBIdeal.Read
public import proofs.«01_k».proof.Proof.Gen.Pre_operands_b
public import Idealize.ShloMosaic.Lib.KernelVsHost

@[expose] public section

set_option maxRecDepth 16384

noncomputable section

namespace Cert.ReferenceBIdeal.Soft

open Cert.ReferenceBIdeal Cert.ReferenceBIdeal.Gen Cert.ReferenceBIdeal.Read Idealize.ShloMosaic Idealize.ShloMosaic.TcCoe
open Idealize.ShloMosaic.Pointwise
open Cert.Attn (soft)
open Cert.KernelBIdeal.Block (Good attn lane)

variable (q k v : FVec Ideal S8x4096x1024 .bf16) (b h : Fin 8) (s : Fin 4096)

/-- A row's score against key `j`. -/
abbrev sc (j : Fin 4096) : EReal := val_main_v9 (F := Ideal) q k (ix4 b h s j)

/-- The row's maximum. -/
abbrev top : EReal := max ⊥ ((Finset.univ : Finset (Fin 4096)).fold max ⊥ (fun j : Fin 4096 => sc q k b h s j))

theorem negInf : FloatOps.ofBits (F := Ideal) .f32 0xFF800000#32 = ⊥ := by simp [Ideal.ofBits, Ideal.ieee]

theorem foldMax (x : FVec Ideal S8x8x4096x4096 .f32) :
    Host.reduce FloatOps.maximumf x (constant (F := Ideal) S_ .f32 0xFF800000#32) reducesTo_S8x8x4096x4096_S8x8x4096_d3 h_S_ (ix3 b h s)
      = (Finset.univ : Finset (Fin 4096)).fold max ⊥ (fun j : Fin 4096 => x (ix4 b h s j)) := by
  have hr : S8x8x4096x4096.Reduces [3] S8x8x4096 := by decide
  have e : Host.reduce FloatOps.maximumf x (constant (F := Ideal) S_ .f32 0xFF800000#32) reducesTo_S8x8x4096x4096_S8x8x4096_d3 h_S_
      = multiReduction .maximumf [3] S8x8x4096 x 0xFF800000#32 hr (.inl rfl) rfl :=
    hostReduce_maximumf_eq_multiReduction x _ reducesTo_S8x8x4096x4096_S8x8x4096_d3 h_S_ hr (.inl rfl) rfl
  refine (congrFun e _).trans ((Ideal.multiReduction_maximumf_single x _ hr _ _ _).trans ?_)
  rw [negInf]
  refine congrArg (fun f => (Finset.univ : Finset (Fin 4096)).fold max ⊥ f) (funext fun j => congrArg x ?_)
  funext a
  fin_cases a <;> rfl

theorem v10_at : val_main_v10 (F := Ideal) q k (ix3 b h s)
    = (Finset.univ : Finset (Fin 4096)).fold max ⊥ (fun j : Fin 4096 => sc q k b h s j) := by
  unfold val_main_v10 val_main_cst_0 sc
  generalize val_main_v9 (F := Ideal) q k = x
  exact foldMax b h s x

theorem v12_at : val_main_v12 (F := Ideal) q k (ix3 b h s) = top q k b h s := by
  rw [val_main_v12_apply, val_main_v11_apply, val_main_cst_1_apply, v10_at, negInf]
  rfl

theorem v14_at (j : Fin 4096) : val_main_v14 (F := Ideal) q k (ix4 b h s j) = top q k b h s := by
  rw [val_main_v14_apply, val_main_v13_apply, ← v12_at]
  refine congrArg _ ?_
  funext a
  fin_cases a <;> rfl

theorem v16_at (j : Fin 4096) : val_main_v16 (F := Ideal) q k (ix4 b h s j) = Ideal.exp (sc q k b h s j - top q k b h s) := by
  rw [val_main_v16_apply, val_main_v15_apply, v14_at]
  rfl

theorem v17_at : val_main_v17 (F := Ideal) q k (ix3 b h s) = 0 + ∑ j : Fin 4096, Ideal.exp (sc q k b h s j - top q k b h s) := by
  rw [val_main_v17_apply, val_main_cst_2_apply, show FloatOps.ofBits (F := Ideal) .f32 0x00000000#32 = 0 by simp [Ideal.ofBits, Ideal.ieee]]
  refine congrArg (0 + ·) (Finset.sum_congr rfl fun j _ => ?_)
  rw [← v16_at]
  refine congrArg _ ?_
  funext a
  fin_cases a <;> rfl

theorem v20_at (j : Fin 4096) : val_main_v20 (F := Ideal) q k (ix4 b h s j)
    = Ideal.div (Ideal.exp (sc q k b h s j - top q k b h s)) (0 + ∑ i : Fin 4096, Ideal.exp (sc q k b h s i - top q k b h s)) := by
  rw [val_main_v20_apply, v16_at, val_main_v19_apply, val_main_v18_apply, ← v17_at]
  show Ideal.div _ _ = Ideal.div _ _
  refine congrArg _ (congrArg _ ?_)
  funext a
  fin_cases a <;> rfl

/-- The lane of feature `e` of head `h`. -/
abbrev hl (h : Fin 8) (e : Fin 128) : Fin 1024 := ⟨128 * h.val + e.val, by omega⟩

theorem v1_at (e : Fin 128) : val_main_v1 (F := Ideal) q (ix4 b s h e) = q (ix3 b s (hl h e)) := by
  rw [val_main_v1_apply, val_main_v0_apply, Ideal.extf_def]
  refine congrArg q ?_
  funext a
  apply Fin.ext
  match a with
  | ⟨0, _⟩ => show (((b.val * 4096 + s.val) * 8 + h.val) * 128 + e.val) / 4194304 = b.val; omega
  | ⟨1, _⟩ => show (((b.val * 4096 + s.val) * 8 + h.val) * 128 + e.val) / 1024 % 4096 = s.val; omega
  | ⟨2, _⟩ => show (((b.val * 4096 + s.val) * 8 + h.val) * 128 + e.val) % 1024 = 128 * h.val + e.val; omega

theorem v3_at (e : Fin 128) : val_main_v3 (F := Ideal) k (ix4 b s h e) = k (ix3 b s (hl h e)) := by
  rw [val_main_v3_apply, val_main_v2_apply, Ideal.extf_def]
  refine congrArg k ?_
  funext a
  apply Fin.ext
  match a with
  | ⟨0, _⟩ => show (((b.val * 4096 + s.val) * 8 + h.val) * 128 + e.val) / 4194304 = b.val; omega
  | ⟨1, _⟩ => show (((b.val * 4096 + s.val) * 8 + h.val) * 128 + e.val) / 1024 % 4096 = s.val; omega
  | ⟨2, _⟩ => show (((b.val * 4096 + s.val) * 8 + h.val) * 128 + e.val) % 1024 = 128 * h.val + e.val; omega

theorem v5_at (e : Fin 128) : val_main_v5 (F := Ideal) v (ix4 b s h e) = v (ix3 b s (hl h e)) := by
  rw [val_main_v5_apply, val_main_v4_apply, Ideal.extf_def]
  refine congrArg v ?_
  funext a
  apply Fin.ext
  match a with
  | ⟨0, _⟩ => show (((b.val * 4096 + s.val) * 8 + h.val) * 128 + e.val) / 4194304 = b.val; omega
  | ⟨1, _⟩ => show (((b.val * 4096 + s.val) * 8 + h.val) * 128 + e.val) / 1024 % 4096 = s.val; omega
  | ⟨2, _⟩ => show (((b.val * 4096 + s.val) * 8 + h.val) * 128 + e.val) % 1024 = 128 * h.val + e.val; omega

theorem logTwo : Ideal.log (FloatOps.ofBits (F := Ideal) .f32 0x40000000#32) = ((Real.log 2 : ℝ) : EReal) := by
  rw [show FloatOps.ofBits (F := Ideal) .f32 0x40000000#32 = ((2 : ℝ) : EReal) by
    simp [Ideal.ofBits, Ideal.ieee]; rw [← EReal.coe_mul]; norm_num]
  rw [Ideal.log_coe, if_neg (by norm_num)]

theorem v9_at (j : Fin 4096) : sc q k b h s j
    = (∑ e : Fin 128, q (ix3 b s (hl h e)) * k (ix3 b j (hl h e))) * ((Real.log 2 : ℝ) : EReal) := by
  show val_main_v9 (F := Ideal) q k (ix4 b h s j) = _
  rw [val_main_v9_apply, val_main_v8_apply, val_main_v7_apply, val_main_cst_apply, val_main_v6_apply, Ideal.mulf_def]
  refine congrArg₂ (· * ·) (Finset.sum_congr rfl fun e _ => ?_) logTwo
  rw [← v1_at q b h s e, ← v3_at k b h j e]
  refine congrArg₂ (· * ·) (congrArg _ ?_) (congrArg _ ?_) <;> funext a <;> fin_cases a <;> rfl

theorem v21_at (e : Fin 128) : val_main_v21 (F := Ideal) q k v (ix4 b h e s)
    = ∑ j : Fin 4096, v (ix3 b j (hl h e)) * Ideal.div (Ideal.exp (sc q k b h s j - top q k b h s)) (0 + ∑ i : Fin 4096, Ideal.exp (sc q k b h s i - top q k b h s)) := by
  rw [val_main_v21_apply]
  refine Finset.sum_congr rfl fun j _ => ?_
  rw [← v20_at, ← v5_at v b h j e]
  refine congrArg₂ (· * ·) (congrArg _ ?_) (congrArg _ ?_) <;> funext a <;> fin_cases a <;> rfl

theorem v24_at (e : Fin 128) : val_main_v24 (F := Ideal) q k v (ix3 b s (hl h e))
    = val_main_v21 (F := Ideal) q k v (ix4 b h e s) := by
  rw [val_main_v24_apply, val_main_v23_apply, val_main_v22_apply, Ideal.truncf_def]
  refine congrArg _ ?_
  funext a
  apply Fin.ext
  match a with
  | ⟨0, _⟩ => show ((b.val * 4096 + s.val) * 1024 + (128 * h.val + e.val)) / 4194304 = b.val; omega
  | ⟨1, _⟩ => show ((b.val * 4096 + s.val) * 1024 + (128 * h.val + e.val)) / 128 % 8 = h.val; omega
  | ⟨2, _⟩ => show ((b.val * 4096 + s.val) * 1024 + (128 * h.val + e.val)) % 128 = e.val; omega
  | ⟨3, _⟩ => show ((b.val * 4096 + s.val) * 1024 + (128 * h.val + e.val)) / 1024 % 4096 = s.val; omega

theorem ofNat_val (j : Fin 4096) : Fin.ofNat 4096 j.val = j := by
  apply Fin.ext; show j.val % 4096 = j.val; omega

theorem ref_eq (hg : Good q k v) : val_main_v24 (F := Ideal) q k v = attn q k v := by
  funext i
  obtain ⟨b, s, l, rfl⟩ : ∃ (b : Fin 8) (s : Fin 4096) (l : Fin 1024), i = ix3 b s l := ⟨i 0, i 1, i 2, by funext a; fin_cases a <;> rfl⟩
  obtain ⟨h, e, rfl⟩ : ∃ (h : Fin 8) (e : Fin 128), l = hl h e :=
    ⟨⟨l.val / 128, by omega⟩, ⟨l.val % 128, by omega⟩, Fin.ext (by show l.val = 128 * (l.val / 128) + l.val % 128; omega)⟩
  rw [v24_at, v21_at]
  have hs : ∀ j : Fin 4096, sc q k b h s j
      = ((∑ e : Fin 128, (q (ix3 b s (hl h e))).toReal * (k (ix3 b j (hl h e))).toReal : ℝ) : EReal) * ((Real.log 2 : ℝ) : EReal) := by
    intro j
    rw [v9_at, Cert.Attn.dot_real _ _ (fun e => hg.q _) (fun e => hg.k _)]
  have hl' : ∀ e' : Fin 128, lane (hl h e) e' = hl h e' := by
    intro e'; apply Fin.ext; show 128 * ((128 * h.val + e.val) / 128) + e'.val = 128 * h.val + e'.val; omega
  have key := Cert.Attn.soft_onepass (N := 4096) (by norm_num)
    (fun j => ∑ e' : Fin 128, (q (ix3 b s (hl h e'))).toReal * (k (ix3 b (Fin.ofNat 4096 j) (hl h e'))).toReal)
    (fun j => v (ix3 b (Fin.ofNat 4096 j) (hl h e)))
  simp only [ofNat_val, ← hs] at key
  refine key.trans ?_
  refine congrArg (fun f => soft 4096 f _) (funext fun j => Finset.sum_congr rfl fun e' _ => ?_)
  rw [← hl' e']
  rfl

end Cert.ReferenceBIdeal.Soft

end
-- ==== Proof.PreB.lean ====
/- The latent attention call's precondition, read at an index. -/
module

public import proofs.«01_k».proof.Proof.RefB
public import proofs.«01_k».proof.Defs

@[expose] public section

set_option maxRecDepth 16384

noncomputable section

namespace Cert.Pre_operands_b.Read

open Cert.Pre_operands_b Cert.Pre_operands_b.Gen Idealize.ShloMosaic Idealize.ShloMosaic.TcCoe
open Idealize.ShloMosaic.Pointwise
open Cert.KernelBIdeal.Block (Good)

/-- The remainder by 128 as the precondition computes it on one word. -/
def remWord (x : BitVec 32) : BitVec 32 :=
  let r := IntOp.remsi .host x 128#32
  Scalar.select (IntOp.andi (IntOp.cmpi .ne (IntOp.cmpi .slt r 0#32) (IntOp.cmpi .slt 128#32 0#32)) (IntOp.cmpi .ne r 0#32)) (IntOp.addi r 128#32) r

theorem rem_at (b : Fin 8) (s : Fin 4096) (l : Fin 1024) (h : l.val % 128 = 64) :
    fn_remainder (F := Ideal) (iotaInDim S8x4096x1024 32 2) (constantI S_ 32 128#32) (ix3 b s l) = 64#32 := by
  have words : ∀ l : Fin 1024, l.val % 128 = 64 → remWord (BitVec.ofNat 32 l.val) = 64#32 := by decide +kernel
  exact Eq.trans (by pointwise [fn_remainder, fn_where]; rfl) (words l h)

theorem real_of_lt (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  rw [show FloatOps.ofBits (F := Ideal) .f32 0x7F800000#32 = ⊤ by simp [Ideal.ofBits, Ideal.ieee]] at h
  have h' : max x (-x) < ⊤ := by
    by_contra hn
    simp only [Ideal.cmpf_def, Ideal.absf_def, Ideal.cmp] at h
    simp [hn] at h
  refine (EReal.coe_toReal ?_ ?_).symm
  · rintro rfl; simp at h'
  · rintro rfl; simp at h'

theorem one_of_eq (x : EReal) (h : FloatOps.cmpf (F := Ideal) (φ := .f32) .oeq x (FloatOps.ofBits (F := Ideal) .f32 0x3F800000#32) = 1#1) : x = 1 := by
  rw [show FloatOps.ofBits (F := Ideal) .f32 0x3F800000#32 = 1 by simp [Ideal.ofBits, Ideal.ieee]; rw [← EReal.coe_mul]; norm_num] at h
  by_contra hn
  simp only [Ideal.cmpf_def, Ideal.cmp] at h
  simp [hn] at h

theorem good (q k v : FVec Ideal S8x4096x1024 .bf16)
    (h : (fn (F := Ideal) q k v).1 = (fun _ => 1#1) ∧ (fn (F := Ideal) q k v).2.1 = (fun _ => 1#1) ∧ (fn (F := Ideal) q k v).2.2 = (fun _ => 1#1)) :
    Good q k v where
  q i := real_of_lt _ (congrFun h.1 i)
  k i := real_of_lt _ (congrFun h.2.1 i)
  one i hi := by
    have e := congrFun h.2.2 i
    obtain ⟨b, s, l, rfl⟩ : ∃ (b : Fin 8) (s : Fin 4096) (l : Fin 1024), i = ix3 b s l := ⟨i 0, i 1, i 2, by funext a; fin_cases a <;> rfl⟩
    have r := rem_at b s l hi
    refine one_of_eq _ ?_
    change IntOp.cmpi .ne (fn_remainder (F := Ideal) (iotaInDim S8x4096x1024 32 2) (constantI S_ 32 128#32) (ix3 b s l)) 64#32 ||| _ = 1#1 at e
    rw [r, show IntOp.cmpi .ne 64#32 64#32 = 0#1 by decide] at e
    exact (BitVec.zero_or).symm.trans e

end Cert.Pre_operands_b.Read

end
-- ==== Proof.EndB.lean ====
/- The latent attention call's claims. -/
module

public import proofs.«01_k».proof.Proof.PreB
public import Idealize.ShloMosaic.Lib.Quiescent

@[expose] public section

set_option maxRecDepth 16384

noncomputable section

namespace Cert.EndB

open Idealize.ShloMosaic Idealize.ShloMosaic.TcCoe Idealize.SL.Sem

/-- The reference runs, leaves its arguments unchanged, and declares no semaphore. -/
theorem frame_r : Cert.quiescent_ReferenceBIdeal := fun m g _ =>
  (θ_run Cert.ReferenceBIdeal.defs _ _).mono (fun r h => ⟨fun c => (h c).2, sem_eq_zero_of_no_sems rfl r.2⟩)
    (Cert.ReferenceBIdeal.Value.run (F := Ideal) m g)

/-- The kernel's result is the reference's: both are the softmax of the row's scores applied to the values. -/
theorem algebraic : Cert.algebraic_KernelBIdeal_ReferenceBIdeal_pre_operands_b := by
  intro m g m' g' hp ha
  have hg := fun c => Cert.Pre_operands_b.Read.good _ _ _ (hp c)
  refine ⟨fun c => Cert.KernelBIdeal.Block.result m c, ?_, ?_⟩
  · exact (θ_run Cert.KernelBIdeal.defs _ _).mono (fun r h c => ⟨(h c).1.trans (Cert.KernelBIdeal.Block.final m hg c), (h c).2⟩)
      (Cert.KernelBIdeal.Value.run_blocks m g)
  · refine (θ_run Cert.ReferenceBIdeal.defs _ _).mono (fun r h c => ⟨(h c).1.trans ?_, (h c).2⟩)
      (Cert.ReferenceBIdeal.Value.run (F := Ideal) m' g')
    rw [(ha c).1, (ha c).2.1, (ha c).2.2]
    exact (Cert.ReferenceBIdeal.Read.val_main_v24_eq _ _ _).trans (Cert.ReferenceBIdeal.Soft.ref_eq _ _ _ (hg c))

end Cert.EndB

end
-- ==== Proof.BlockA.lean ====
/- The grouped attention call's block: what a grid point leaves in the output's staging buffer is the loop's
   result for the point's queries and its head's keys and values. -/
module

public import proofs.«01_k».proof.Proof.EndB
public import proofs.«01_k».proof.Proof.Gen.KernelAIdeal.Value
public import Idealize.ShloMosaic.Lib.Tactic

@[expose] public section

set_option maxRecDepth 16384

noncomputable section

namespace Cert.KernelAIdeal.Block

open Cert.KernelAIdeal Cert.KernelAIdeal.Gen Idealize.ShloMosaic Idealize.ShloMosaic.TcCoe Idealize.ShloMosaic.Tactic Idealize.SL.Sem
open Idealize.ShloMosaic.Pointwise
open Idealize.ShloMosaic.Pipeline (Dat)
open Cert.Attn (outV blkAt soft maxV accV runM runA)

theorem hz : (![0, 0, 0] : Fin 3 → Nat) = fun _ => 0 := funext fun a => by fin_cases a <;> rfl

theorem col_inside (g : ℕ) : ∀ a : Fin S1x256x512.rank, (![0, 0, 128 * g % 512] : Fin 3 → ℕ) a + (![1, 256, 128] : Fin 3 → ℕ) a ≤ S1x256x512.size a := by
  intro a
  match a with
  | ⟨0, _⟩ => show 0 + 1 ≤ 1; omega
  | ⟨1, _⟩ => show 0 + 256 ≤ 256; omega
  | ⟨2, _⟩ => show 128 * g % 512 + 128 ≤ 512; omega

/-- One query head's 256 rows. -/
def headAt (q : FVec Ideal S1x256x512 .bf16) (g : ℕ) : FVec Ideal S1x256x128 .bf16 :=
  View.ld (Val := Elt Ideal) (e' := .bf16) q (Rect.unit ![0, 0, 128 * g % 512] ![1, 256, 128] (col_inside g))

theorem headAt_apply (q : FVec Ideal S1x256x512 .bf16) (g : ℕ) (hg : g < 4) (r : Fin 256) (e : Fin 128) :
    headAt q g (ix3 0 r e) = q (ix3 0 r (⟨128 * g + e.val, by omega⟩ : Fin 512)) := by
  show q _ = q _
  congr 1
  funext a
  apply Fin.ext
  match a with
  | ⟨0, _⟩ => show 0 + 1 * 0 = 0; omega
  | ⟨1, _⟩ => show 0 + 1 * r.val = r.val; omega
  | ⟨2, _⟩ => show 128 * g % 512 + 1 * e.val = 128 * g + e.val; omega

/-- The four query heads of a group, stacked. -/
def stack (q : FVec Ideal S1x256x512 .bf16) : FVec Ideal S1024x128 .bf16 :=
  k0_pay3 (headAt q 0) (headAt q 1) (headAt q 2) (headAt q 3)

/-- One head's 256 rows of the stacked result. -/
theorem slice_at (x : FVec Ideal S1024x128 .bf16) (off : Fin 2 → ℕ) (g : ℕ) (hg : g < 4) (ho : off = ![256 * g, 0]) (hs : S1024x128.Slices off S256x128)
    (r : Fin 256) (e : Fin 128) :
    shapeCast S1x256x128 (extractStridedSlice S256x128 off x hs) shapeCasts_S256x128_S1x256x128 (ix3 0 r e)
      = x (ix2 (⟨256 * g + r.val, by omega⟩ : Fin 1024) e) := by
  subst ho
  pointwise []

section
variable (q : FVec Ideal S1024x128 .bf16) (m : FVec Ideal S1024x1 .f32) (a x y : FVec Ideal S1024x128 .f32)
  (k1 k2 k3 v1 v2 v3 : Vec Ideal S1x512x128 .bf16)

theorem two_max : k0_pay11 q m k1 k2 = maxV q (maxV q m k1) k2 := rfl
theorem two_max' : k0_pay18 q m k1 k2 = maxV q (maxV q m k1) k2 := rfl
theorem two_max'' : k0_pay26 q m k1 k2 = maxV q (maxV q m k1) k2 := rfl
theorem two_acc : addf (k0_pay12 q m a k1 v1 k2) (k0_pay13 q m k1 k2 v2) = accV q (maxV q m k1) (accV q m a k1 v1) k2 v2 := rfl
theorem three_acc : k0_pay23 q (k0_pay16 v2) (k0_pay18 q m k1 k2) (k0_pay19 q m k1 k2) (k0_pay20 q m x y k1 v1 k2) k3 v3
    = accV q (maxV q (maxV q m k1) k2) (accV q (maxV q m k1) (accV q m (addf x y) k1 v1) k2 v2) k3 v3 := rfl

/-- A row's weighted sums divided by their own lane 64. -/
def normV : FVec Ideal S1024x128 .bf16 :=
  truncf .bf16 (divf a (broadcastTo S1024x128
    (extractStridedSlice S1024x1 ![0, 64] a slices_S1024x128_o0_64_S1024x1) broadcasts_S1024x1_S1024x128)) bitsLt_bf16_f32

theorem last_acc : k0_pay29 q (accV q m a k1 v1) (k0_pay24 v2) (k0_pay26 q m k1 k2) (k0_pay27 q m k1 k2) (k0_pay28 q m k1 k2) k3 v3
    = normV (accV q (maxV q (maxV q m k1) k2) (accV q (maxV q m k1) (accV q m a k1 v1) k2 v2) k3 v3) := rfl
end

/-- The loop's eight steps as the body composes them. -/
def loopV (q0 q1 q2 q3 : Vec Ideal S1x256x128 .bf16) (k v : ℕ → Vec Ideal S1x512x128 .bf16) : FVec Ideal S1024x128 .bf16 :=
  k0_pay29 (k0_pay3 q0 q1 q2 q3)
    (k0_pay23 (k0_pay3 q0 q1 q2 q3) (k0_pay16 (v 4))
      (k0_pay18 (k0_pay3 q0 q1 q2 q3) (k0_pay11 (k0_pay3 q0 q1 q2 q3) (k0_pay6 q0 q1 q2 q3 (k 0)) (k 1) (k 2)) (k 3) (k 4))
      (k0_pay19 (k0_pay3 q0 q1 q2 q3) (k0_pay11 (k0_pay3 q0 q1 q2 q3) (k0_pay6 q0 q1 q2 q3 (k 0)) (k 1) (k 2)) (k 3) (k 4))
      (k0_pay20 (k0_pay3 q0 q1 q2 q3) (k0_pay11 (k0_pay3 q0 q1 q2 q3) (k0_pay6 q0 q1 q2 q3 (k 0)) (k 1) (k 2))
        (k0_pay12 (k0_pay3 q0 q1 q2 q3) (k0_pay6 q0 q1 q2 q3 (k 0)) (k0_pay7 q0 q1 q2 q3 (k 0) (v 0)) (k 1) (v 1) (k 2))
        (k0_pay13 (k0_pay3 q0 q1 q2 q3) (k0_pay6 q0 q1 q2 q3 (k 0)) (k 1) (k 2) (v 2)) (k 3) (v 3) (k 4)) (k 5) (v 5))
    (k0_pay24 (v 6))
    (k0_pay26 (k0_pay3 q0 q1 q2 q3) (k0_pay18 (k0_pay3 q0 q1 q2 q3) (k0_pay11 (k0_pay3 q0 q1 q2 q3) (k0_pay6 q0 q1 q2 q3 (k 0)) (k 1) (k 2)) (k 3) (k 4)) (k 5) (k 6))
    (k0_pay27 (k0_pay3 q0 q1 q2 q3) (k0_pay18 (k0_pay3 q0 q1 q2 q3) (k0_pay11 (k0_pay3 q0 q1 q2 q3) (k0_pay6 q0 q1 q2 q3 (k 0)) (k 1) (k 2)) (k 3) (k 4)) (k 5) (k 6))
    (k0_pay28 (k0_pay3 q0 q1 q2 q3) (k0_pay18 (k0_pay3 q0 q1 q2 q3) (k0_pay11 (k0_pay3 q0 q1 q2 q3) (k0_pay6 q0 q1 q2 q3 (k 0)) (k 1) (k 2)) (k 3) (k 4)) (k 5) (k 6))
    (k 7) (v 7)

theorem loopV_eq (q0 q1 q2 q3 : Vec Ideal S1x256x128 .bf16) (k v : ℕ → Vec Ideal S1x512x128 .bf16) :
    loopV q0 q1 q2 q3 k v = outV (k0_pay3 q0 q1 q2 q3) k v := by
  have h6 : k0_pay6 q0 q1 q2 q3 (k 0) = runM (k0_pay3 q0 q1 q2 q3) k 1 := rfl
  have h7 : k0_pay7 q0 q1 q2 q3 (k 0) (v 0) = runA (k0_pay3 q0 q1 q2 q3) k v 1 := rfl
  unfold loopV
  rw [three_acc, h6, h7, two_acc, two_max, two_max', last_acc]
  rfl

/-- Where the block's element lies in the stacked result. -/
abbrev place (y : S1x256x512.Idx) : S1024x128.Idx :=
  ix2 (⟨256 * ((y 2).val / 128) + (y 1).val, by have h1 : (y 1).val < 256 := (y 1).isLt; have h2 : (y 2).val < 512 := (y 2).isLt; omega⟩ : Fin 1024)
    (⟨(y 2).val % 128, by omega⟩ : Fin 128)

theorem out_eq (c : Dev nD) (i : grid0.Coords) (a3 : Memref sig .tc .vmem S1x256x512 .bf16) (h3 : a3.IsWhole) (a4 : Memref sig .tc .vmem S1x4096x128 .bf16) (h4 : a4.IsWhole) (a5 : Memref sig .tc .vmem S1x4096x128 .bf16) (h5 : a5.IsWhole) (a6 : Memref sig .tc .vmem S1x256x512 .bf16) (h6 : a6.IsWhole)
    (q : Vec Ideal S1x256x512 .bf16) (k v : Vec Ideal S1x4096x128 .bf16) (y : S1x256x512.Idx) :
    out0_A_3 c i a3 h3 a4 h4 a5 h5 a6 h6 q k v y = outV (stack q) (blkAt k) (blkAt v) (place y) := by
  have hc := cover0_A_3 c i a3 h3 a4 h4 a5 h5 a6 h6 q k v
  unfold out0_A_3
  rw [View.read_writes_eq_canon _ _ _ hc]
  revert hc
  unfold kernelRun0_A; dsimp only; sl_unfold_words
  simp only [View.readAt_eq_ld, h3.read_unread, h4.read_unread, h5.read_unread]
  intro hc
  refine View.canon_apply_of_pieces (fun y => outV (stack q) (blkAt k) (blkAt v) (place y)) _ (fun p hp j => ?_) y (hc y)
  simp only [List.mem_cons, List.mem_nil_iff, or_false] at hp
  rcases hp with rfl | rfl | rfl | rfl
  · obtain ⟨j0, r, e, rfl⟩ : ∃ (j0 : Fin 1) (r : Fin 256) (e : Fin 128), j = ix3 j0 r e := ⟨j 0, j 1, j 2, by funext a; fin_cases a <;> rfl⟩
    obtain rfl : j0 = 0 := Subsingleton.elim _ _
    show (shapeCast S1x256x128 (extractStridedSlice S256x128 ![768, 0] (loopV (headAt q 0) (headAt q 1) (headAt q 2) (headAt q 3) (blkAt k) (blkAt v)) slices_S1024x128_o768_0_S256x128) shapeCasts_S256x128_S1x256x128) (ix3 0 r e) = _
    rw [loopV_eq]
    refine (slice_at (outV (stack q) (blkAt k) (blkAt v)) _ 3 (by norm_num) rfl _ r e).trans (congrArg _ ?_)
    funext a
    apply Fin.ext
    match a with
    | ⟨0, _⟩ => show 256 * 3 + r.val = 256 * ((384 + 1 * e.val) / 128) + (0 + 1 * r.val); omega
    | ⟨1, _⟩ => show e.val = (384 + 1 * e.val) % 128; omega
  · obtain ⟨j0, r, e, rfl⟩ : ∃ (j0 : Fin 1) (r : Fin 256) (e : Fin 128), j = ix3 j0 r e := ⟨j 0, j 1, j 2, by funext a; fin_cases a <;> rfl⟩
    obtain rfl : j0 = 0 := Subsingleton.elim _ _
    show (shapeCast S1x256x128 (extractStridedSlice S256x128 ![512, 0] (loopV (headAt q 0) (headAt q 1) (headAt q 2) (headAt q 3) (blkAt k) (blkAt v)) slices_S1024x128_o512_0_S256x128) shapeCasts_S256x128_S1x256x128) (ix3 0 r e) = _
    rw [loopV_eq]
    refine (slice_at (outV (stack q) (blkAt k) (blkAt v)) _ 2 (by norm_num) rfl _ r e).trans (congrArg _ ?_)
    funext a
    apply Fin.ext
    match a with
    | ⟨0, _⟩ => show 256 * 2 + r.val = 256 * ((256 + 1 * e.val) / 128) + (0 + 1 * r.val); omega
    | ⟨1, _⟩ => show e.val = (256 + 1 * e.val) % 128; omega
  · obtain ⟨j0, r, e, rfl⟩ : ∃ (j0 : Fin 1) (r : Fin 256) (e : Fin 128), j = ix3 j0 r e := ⟨j 0, j 1, j 2, by funext a; fin_cases a <;> rfl⟩
    obtain rfl : j0 = 0 := Subsingleton.elim _ _
    show (shapeCast S1x256x128 (extractStridedSlice S256x128 ![256, 0] (loopV (headAt q 0) (headAt q 1) (headAt q 2) (headAt q 3) (blkAt k) (blkAt v)) slices_S1024x128_o256_0_S256x128) shapeCasts_S256x128_S1x256x128) (ix3 0 r e) = _
    rw [loopV_eq]
    refine (slice_at (outV (stack q) (blkAt k) (blkAt v)) _ 1 (by norm_num) rfl _ r e).trans (congrArg _ ?_)
    funext a
    apply Fin.ext
    match a with
    | ⟨0, _⟩ => show 256 * 1 + r.val = 256 * ((128 + 1 * e.val) / 128) + (0 + 1 * r.val); omega
    | ⟨1, _⟩ => show e.val = (128 + 1 * e.val) % 128; omega
  · obtain ⟨j0, r, e, rfl⟩ : ∃ (j0 : Fin 1) (r : Fin 256) (e : Fin 128), j = ix3 j0 r e := ⟨j 0, j 1, j 2, by funext a; fin_cases a <;> rfl⟩
    obtain rfl : j0 = 0 := Subsingleton.elim _ _
    show (shapeCast S1x256x128 (extractStridedSlice S256x128 ![0, 0] (loopV (headAt q 0) (headAt q 1) (headAt q 2) (headAt q 3) (blkAt k) (blkAt v)) slices_S1024x128_o0_0_S256x128) shapeCasts_S256x128_S1x256x128) (ix3 0 r e) = _
    rw [loopV_eq]
    refine (slice_at (outV (stack q) (blkAt k) (blkAt v)) _ 0 (by norm_num) rfl _ r e).trans (congrArg _ ?_)
    funext a
    apply Fin.ext
    match a with
    | ⟨0, _⟩ => show 256 * 0 + r.val = 256 * ((0 + 1 * e.val) / 128) + (0 + 1 * r.val); omega
    | ⟨1, _⟩ => show e.val = (0 + 1 * e.val) % 128; omega

/-- The lane of feature `e` of the query head that lane `l` is in. -/
abbrev lane (l : Fin 1024) (e : Fin 128) : Fin 1024 := ⟨128 * (l.val / 128) + e.val, by omega⟩

/-- The lane of feature `e` of the key and value head that lane `l` of the queries reads. -/
abbrev kvLane (l : Fin 1024) (e : Fin 128) : Fin 256 := ⟨128 * (l.val / 512) + e.val, by omega⟩

/-- The feature of lane `l`. -/
abbrev feat (l : Fin 1024) : Fin 128 := ⟨l.val % 128, by omega⟩

/-- The attention of the grouped call: every query row's softmax over its group's 4096 keys, applied to the group's values. -/
def attn (q : FVec Ideal S8x4096x1024 .bf16) (k v : FVec Ideal S8x4096x256 .bf16) : FVec Ideal S8x4096x1024 .bf16 := fun i =>
  soft 4096 (fun j => ∑ e : Fin 128, (q (ix3 (i 0) (i 1) (lane (i 2) e))).toReal * (k (ix3 (i 0) (Fin.ofNat 4096 j) (kvLane (i 2) e))).toReal)
    (fun j => v (ix3 (i 0) (Fin.ofNat 4096 j) (kvLane (i 2) (feat (i 2)))))

theorem fold_apply (x : FVec Ideal S1x256x128 .bf16) (r : Fin 256) (e : Fin 128) :
    shapeCast S256x128 x shapeCasts_S1x256x128_S256x128 (ix2 r e) = x (ix3 0 r e) := by
  pointwise []

theorem stack_at (q : FVec Ideal S1x256x512 .bf16) (r : Fin 256) (e : Fin 128) (g : Fin 4) :
    stack q (ix2 (⟨256 * g.val + r.val, by omega⟩ : Fin 1024) e) = q (ix3 0 r (⟨128 * g.val + e.val, by omega⟩ : Fin 512)) := by
  refine Eq.trans ?_ (headAt_apply q g.val g.isLt r e)
  unfold stack
  obtain ⟨g, hg⟩ := g
  pointwise [k0_pay3]
  have hx : ∀ (x : FVec Ideal S1x256x128 .bf16) (a : Fin 256), a.val = r.val → x (ix3 0 a e) = x (ix3 0 r e) := by
    intro x a h; obtain rfl : a = r := Fin.ext h; rfl
  obtain rfl | rfl | rfl | rfl : g = 0 ∨ g = 1 ∨ g = 2 ∨ g = 3 := by omega
  · rw [dif_pos (by omega)]; exact hx _ _ (by show 256 * 0 + r.val = r.val; omega)
  · rw [dif_neg (by omega), dif_pos (by omega)]; exact hx _ _ (by show 256 * 1 + r.val - 256 = r.val; omega)
  · rw [dif_neg (by omega), dif_neg (by omega), dif_pos (by omega)]
    exact hx _ _ (by show 256 * 2 + r.val - 256 - 256 = r.val; omega)
  · rw [dif_neg (by omega), dif_neg (by omega), dif_neg (by omega)]
    exact hx _ _ (by show 256 * 3 + r.val - 256 - 256 - 256 = r.val; omega)

theorem index_eq : ∀ t : Fin cfg0.N,
    (win0_0.index t 0 = t.val / 32 ∧ win0_0.index t 1 = t.val % 16 ∧ win0_0.index t 2 = t.val / 16 % 2)
    ∧ (win0_1.index t 0 = t.val / 32 ∧ win0_1.index t 1 = 0 ∧ win0_1.index t 2 = t.val / 16 % 2)
    ∧ (win0_2.index t 0 = t.val / 32 ∧ win0_2.index t 1 = 0 ∧ win0_2.index t 2 = t.val / 16 % 2)
    ∧ (win0_3.index t 0 = t.val / 32 ∧ win0_3.index t 1 = t.val % 16 ∧ win0_3.index t 2 = t.val / 16 % 2) := by
  decide +kernel

variable (m : (ℓ : Loc nD τ sig) → Buf (Elt Ideal) ℓ)

theorem lt_N (t : Fin cfg0.N) : t.val < 256 := by have h : cfg0.N = 256 := N_0; have := t.isLt; omega

theorem q_blk (c : Dev nD) (t : Fin cfg0.N) (r : Fin 256) (e : Fin 512) :
    (iblk m c 0 t : Vec Ideal S1x256x512 .bf16) (ix3 0 r e)
      = m (c.tc.loc main_arg0) (ix3 (⟨t.val / 32, by have := lt_N t; omega⟩ : Fin 8) (⟨256 * (t.val % 16) + r.val, by omega⟩ : Fin 4096)
          (⟨512 * (t.val / 16 % 2) + e.val, by omega⟩ : Fin 1024)) := by
  obtain ⟨⟨h0, h1, h2⟩, -⟩ := index_eq t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 32; rw [h0]; omega
  | ⟨1, _⟩ => show win0_0.index t 1 * 256 + 1 * r.val = 256 * (t.val % 16) + r.val; rw [h1]; omega
  | ⟨2, _⟩ => show win0_0.index t 2 * 512 + 1 * e.val = 512 * (t.val / 16 % 2) + e.val; rw [h2]; omega

theorem k_blk (c : Dev nD) (t : Fin cfg0.N) (r : Fin 4096) (e : Fin 128) :
    (iblk m c 1 t : Vec Ideal S1x4096x128 .bf16) (ix3 0 r e)
      = m (c.tc.loc main_arg1) (ix3 (⟨t.val / 32, by have := lt_N t; omega⟩ : Fin 8) r
          (⟨128 * (t.val / 16 % 2) + e.val, by omega⟩ : Fin 256)) := by
  obtain ⟨-, ⟨h0, h1, h2⟩, -⟩ := index_eq t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 32; rw [h0]; omega
  | ⟨1, _⟩ => show win0_1.index t 1 * 4096 + 1 * r.val = r.val; rw [h1]; omega
  | ⟨2, _⟩ => show win0_1.index t 2 * 128 + 1 * e.val = 128 * (t.val / 16 % 2) + e.val; rw [h2]; omega

theorem v_blk (c : Dev nD) (t : Fin cfg0.N) (r : Fin 4096) (e : Fin 128) :
    (iblk m c 2 t : Vec Ideal S1x4096x128 .bf16) (ix3 0 r e)
      = m (c.tc.loc main_arg2) (ix3 (⟨t.val / 32, by have := lt_N t; omega⟩ : Fin 8) r
          (⟨128 * (t.val / 16 % 2) + e.val, by omega⟩ : Fin 256)) := by
  obtain ⟨-, -, ⟨h0, h1, h2⟩, -⟩ := index_eq t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 32; rw [h0]; omega
  | ⟨1, _⟩ => show win0_2.index t 1 * 4096 + 1 * r.val = r.val; rw [h1]; omega
  | ⟨2, _⟩ => show win0_2.index t 2 * 128 + 1 * e.val = 128 * (t.val / 16 % 2) + e.val; rw [h2]; omega

/-- What the result array is shown to hold. -/
abbrev result (c : Dev nD) : Buf (Elt Ideal) ((c : Thread nD τ).loc main_v0) :=
  attn (m (c.tc.loc main_arg0)) (m (c.tc.loc main_arg1)) (m (c.tc.loc main_arg2))

/-- What the claim needs of the arguments: finite queries and keys, and ones in the values' lane 64 of every head. -/
structure Good (q : FVec Ideal S8x4096x1024 .bf16) (k v : FVec Ideal S8x4096x256 .bf16) : Prop where
  q : ∀ i, q i = ((q i).toReal : EReal)
  k : ∀ i, k i = ((k i).toReal : EReal)
  one : ∀ i : S8x4096x256.Idx, (i 2).val % 128 = 64 → v i = 1

theorem flushed_eq (hg : ∀ c : Dev nD, Good (m (c.tc.loc main_arg0)) (m (c.tc.loc main_arg1)) (m (c.tc.loc main_arg2)))
    (c : Dev nD) (t : Fin cfg0.N) (hf : (cfg0.win 3).flush t = true) :
    (dats m 0 c).flushed 3 t = ((cfg0.win 3).blk t).view.read (Elt Ideal) (result m c) := by
  obtain ⟨-, -, -, h0, h1, h2⟩ := index_eq t
  rw [Value.flushed3_A]
  funext y
  refine (out_eq c (grid0.coords t) (ms0_0 t) _ (ms0_1 t) _ (ms0_2 t) _ (ms0_3 t) _ _ _ _ y).trans ?_
  obtain ⟨y0, r, l, rfl⟩ : ∃ (a : Fin 1) (r : Fin 256) (l : Fin 512), y = ix3 a r l := ⟨y 0, y 1, y 2, by funext a; fin_cases a <;> rfl⟩
  obtain rfl : y0 = 0 := Subsingleton.elim _ _
  obtain ⟨g, d, rfl⟩ : ∃ (g : Fin 4) (d : Fin 128), l = ⟨128 * g.val + d.val, by omega⟩ :=
    ⟨⟨l.val / 128, by omega⟩, ⟨l.val % 128, by omega⟩, Fin.ext (by show l.val = 128 * (l.val / 128) + l.val % 128; omega)⟩
  have hp : place (ix3 0 r (⟨128 * g.val + d.val, by omega⟩ : Fin 512)) = ix2 (⟨256 * g.val + r.val, by omega⟩ : Fin 1024) d := by
    funext a
    apply Fin.ext
    match a with
    | ⟨0, _⟩ => show 256 * ((128 * g.val + d.val) / 128) + r.val = 256 * g.val + r.val; omega
    | ⟨1, _⟩ => show (128 * g.val + d.val) % 128 = d.val; omega
  rw [View.read_apply, hp]
  have hi : (((cfg0.win 3).blk t).view.emb (ix3 0 r (⟨128 * g.val + d.val, by omega⟩ : Fin 512)) : S8x4096x1024.Idx)
      = ix3 (⟨t.val / 32, by have := lt_N t; omega⟩ : Fin 8) (⟨256 * (t.val % 16) + r.val, by omega⟩ : Fin 4096)
          (⟨512 * (t.val / 16 % 2) + (128 * g.val + d.val), by omega⟩ : Fin 1024) := by
    funext a
    apply Fin.ext
    match a with
    | ⟨0, _⟩ => show win0_3.index t 0 * 1 + 1 * 0 = t.val / 32; rw [h0]; omega
    | ⟨1, _⟩ => show win0_3.index t 1 * 256 + 1 * r.val = 256 * (t.val % 16) + r.val; rw [h1]; omega
    | ⟨2, _⟩ => show win0_3.index t 2 * 512 + 1 * (128 * g.val + d.val) = 512 * (t.val / 16 % 2) + (128 * g.val + d.val); rw [h2]; omega
  show outV _ _ _ _ = attn _ _ _ _
  rw [hi, Cert.Attn.outV_blk]
  · simp only [stack_at, q_blk, k_blk, v_blk]
    have hl : ∀ e : Fin 128, lane (⟨512 * (t.val / 16 % 2) + (128 * g.val + d.val), by omega⟩ : Fin 1024) e = ⟨512 * (t.val / 16 % 2) + (128 * g.val + e.val), by omega⟩ := by
      intro e; apply Fin.ext; show 128 * ((512 * (t.val / 16 % 2) + (128 * g.val + d.val)) / 128) + e.val = _; dsimp only; omega
    have hk : ∀ e : Fin 128, kvLane (⟨512 * (t.val / 16 % 2) + (128 * g.val + d.val), by omega⟩ : Fin 1024) e = ⟨128 * (t.val / 16 % 2) + e.val, by omega⟩ := by
      intro e; apply Fin.ext; show 128 * ((512 * (t.val / 16 % 2) + (128 * g.val + d.val)) / 512) + e.val = _; dsimp only; omega
    have hd : feat (⟨512 * (t.val / 16 % 2) + (128 * g.val + d.val), by omega⟩ : Fin 1024) = d := by
      apply Fin.ext; show (512 * (t.val / 16 % 2) + (128 * g.val + d.val)) % 128 = d.val; omega
    refine congrArg₂ (soft 4096) (funext fun j => Finset.sum_congr rfl fun e _ => ?_) (funext fun j => ?_)
    · rw [← hl e, ← hk e]
      rfl
    · rw [← (congrArg _ hd).trans (hk d)]
      rfl
  · intro e; rw [stack_at, q_blk]; exact (hg c).q _
  · intro j e; rw [k_blk]; exact (hg c).k _
  · intro j; rw [v_blk]; refine (hg c).one _ ?_
    show (128 * (t.val / 16 % 2) + 64) % 128 = 64; omega

theorem final (hg : ∀ c : Dev nD, Good (m (c.tc.loc main_arg0)) (m (c.tc.loc main_arg1)) (m (c.tc.loc main_arg2)))
    (c : Dev nD) : (dats m 0 c).arrAt 3 cfg0.N = result m c :=
  (dats m 0 c).arrAt_eq_of_cover 3 (result m c) (flushed_eq m hg c) fun i => by
    have a0 : (i 0).val < 8 := (i 0).isLt
    have a1 : (i 1).val < 4096 := (i 1).isLt
    have a2 : (i 2).val < 1024 := (i 2).isLt
    have hN : cfg0.N = 256 := N_0
    let t : Fin cfg0.N := ⟨((i 0).val * 2 + (i 2).val / 512) * 16 + (i 1).val / 256, by omega⟩
    have ht : t.val = ((i 0).val * 2 + (i 2).val / 512) * 16 + (i 1).val / 256 := rfl
    refine ⟨t, flush0_3 t, ?_⟩
    obtain ⟨-, -, -, h0, h1, h2⟩ := index_eq t
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; rw [h0]; omega
    | ⟨1, _⟩ => show win0_3.index t 1 * 256 ≤ (i 1).val ∧ (i 1).val < win0_3.index t 1 * 256 + 256; rw [h1]; omega
    | ⟨2, _⟩ => show win0_3.index t 2 * 512 ≤ (i 2).val ∧ (i 2).val < win0_3.index t 2 * 512 + 512; rw [h2]; omega

end Cert.KernelAIdeal.Block

end
-- ==== Proof.RefA.lean ====
/- The grouped attention call's reference, read at an index: the same softmax. -/
module

public import proofs.«01_k».proof.Proof.BlockA
public import proofs.«01_k».proof.Proof.Gen.ReferenceAIdeal.Read
public import proofs.«01_k».proof.Proof.Gen.Pre_operands_a
public import Idealize.ShloMosaic.Lib.KernelVsHost

@[expose] public section

set_option maxRecDepth 16384

noncomputable section

namespace Cert.ReferenceAIdeal.Soft

open Cert.ReferenceAIdeal Cert.ReferenceAIdeal.Gen Cert.ReferenceAIdeal.Read Idealize.ShloMosaic Idealize.ShloMosaic.TcCoe
open Idealize.ShloMosaic.Pointwise
open Cert.Attn (soft)
open Cert.KernelAIdeal.Block (Good attn lane kvLane feat)

variable (q : FVec Ideal S8x4096x1024 .bf16) (k v : FVec Ideal S8x4096x256 .bf16) (b : Fin 8) (h : Fin 2) (g : Fin 4) (s : Fin 4096)

/-- A row's score against key `j`. -/
abbrev sc (j : Fin 4096) : EReal := val_main_v10 (F := Ideal) q k (ix5 b h g s j)

/-- The row's maximum. -/
abbrev top : EReal := max ⊥ ((Finset.univ : Finset (Fin 4096)).fold max ⊥ (fun j : Fin 4096 => sc q k b h g s j))

theorem foldMax (x : FVec Ideal S8x2x4x4096x4096 .f32) :
    Host.reduce FloatOps.maximumf x (constant (F := Ideal) S_ .f32 0xFF800000#32) reducesTo_S8x2x4x4096x4096_S8x2x4x4096_d4 h_S_ (ix4 b h g s)
      = (Finset.univ : Finset (Fin 4096)).fold max ⊥ (fun j : Fin 4096 => x (ix5 b h g s j)) := by
  have hr : S8x2x4x4096x4096.Reduces [4] S8x2x4x4096 := by decide
  have e : Host.reduce FloatOps.maximumf x (constant (F := Ideal) S_ .f32 0xFF800000#32) reducesTo_S8x2x4x4096x4096_S8x2x4x4096_d4 h_S_
      = multiReduction .maximumf [4] S8x2x4x4096 x 0xFF800000#32 hr (.inl rfl) rfl :=
    hostReduce_maximumf_eq_multiReduction x _ reducesTo_S8x2x4x4096x4096_S8x2x4x4096_d4 h_S_ hr (.inl rfl) rfl
  refine (congrFun e _).trans ((Ideal.multiReduction_maximumf_single x _ hr _ _ _).trans ?_)
  rw [Cert.ReferenceBIdeal.Soft.negInf]
  refine congrArg (fun f => (Finset.univ : Finset (Fin 4096)).fold max ⊥ f) (funext fun j => congrArg x ?_)
  funext a
  fin_cases a <;> rfl

theorem v11_at : val_main_v11 (F := Ideal) q k (ix4 b h g s)
    = (Finset.univ : Finset (Fin 4096)).fold max ⊥ (fun j : Fin 4096 => sc q k b h g s j) := by
  unfold val_main_v11 val_main_cst_0 sc
  generalize val_main_v10 (F := Ideal) q k = x
  exact foldMax b h g s x

theorem v13_at : val_main_v13 (F := Ideal) q k (ix4 b h g s) = top q k b h g s := by
  rw [val_main_v13_apply, val_main_v12_apply, val_main_cst_1_apply, v11_at, Cert.ReferenceBIdeal.Soft.negInf]
  rfl

theorem v15_at (j : Fin 4096) : val_main_v15 (F := Ideal) q k (ix5 b h g s j) = top q k b h g s := by
  rw [val_main_v15_apply, val_main_v14_apply, ← v13_at]
  refine congrArg _ ?_
  funext a
  fin_cases a <;> rfl

theorem v17_at (j : Fin 4096) : val_main_v17 (F := Ideal) q k (ix5 b h g s j) = Ideal.exp (sc q k b h g s j - top q k b h g s) := by
  rw [val_main_v17_apply, val_main_v16_apply, v15_at]
  rfl

theorem v18_at : val_main_v18 (F := Ideal) q k (ix4 b h g s) = 0 + ∑ j : Fin 4096, Ideal.exp (sc q k b h g s j - top q k b h g s) := by
  rw [val_main_v18_apply, val_main_cst_2_apply, show FloatOps.ofBits (F := Ideal) .f32 0x00000000#32 = 0 by simp [Ideal.ofBits, Ideal.ieee]]
  refine congrArg (0 + ·) (Finset.sum_congr rfl fun j _ => ?_)
  rw [← v17_at]
  refine congrArg _ ?_
  funext a
  fin_cases a <;> rfl

theorem v21_at (j : Fin 4096) : val_main_v21 (F := Ideal) q k (ix5 b h g s j)
    = Ideal.div (Ideal.exp (sc q k b h g s j - top q k b h g s)) (0 + ∑ i : Fin 4096, Ideal.exp (sc q k b h g s i - top q k b h g s)) := by
  rw [val_main_v21_apply, v17_at, val_main_v20_apply, val_main_v19_apply, ← v18_at]
  show Ideal.div _ _ = Ideal.div _ _
  refine congrArg _ (congrArg _ ?_)
  funext a
  fin_cases a <;> rfl

/-- The lane of feature `e` of query head `g` of group `h`. -/
abbrev ql (h : Fin 2) (g : Fin 4) (e : Fin 128) : Fin 1024 := ⟨512 * h.val + 128 * g.val + e.val, by omega⟩

/-- The lane of feature `e` of group `h`'s keys and values. -/
abbrev kl (h : Fin 2) (e : Fin 128) : Fin 256 := ⟨128 * h.val + e.val, by omega⟩

theorem v1_at (e : Fin 128) : val_main_v1 (F := Ideal) q (ix5 b s h g e) = q (ix3 b s (ql h g e)) := by
  rw [val_main_v1_apply, val_main_v0_apply, Ideal.extf_def]
  refine congrArg q ?_
  funext a
  apply Fin.ext
  match a with
  | ⟨0, _⟩ => show ((((b.val * 4096 + s.val) * 2 + h.val) * 4 + g.val) * 128 + e.val) / 4194304 = b.val; omega
  | ⟨1, _⟩ => show ((((b.val * 4096 + s.val) * 2 + h.val) * 4 + g.val) * 128 + e.val) / 1024 % 4096 = s.val; omega
  | ⟨2, _⟩ => show ((((b.val * 4096 + s.val) * 2 + h.val) * 4 + g.val) * 128 + e.val) % 1024 = 512 * h.val + 128 * g.val + e.val; omega

theorem v3_at (e : Fin 128) : val_main_v3 (F := Ideal) k (ix4 b s h e) = k (ix3 b s (kl h e)) := by
  rw [val_main_v3_apply, val_main_v2_apply, Ideal.extf_def]
  refine congrArg k ?_
  funext a
  apply Fin.ext
  match a with
  | ⟨0, _⟩ => show (((b.val * 4096 + s.val) * 2 + h.val) * 128 + e.val) / 1048576 = b.val; omega
  | ⟨1, _⟩ => show (((b.val * 4096 + s.val) * 2 + h.val) * 128 + e.val) / 256 % 4096 = s.val; omega
  | ⟨2, _⟩ => show (((b.val * 4096 + s.val) * 2 + h.val) * 128 + e.val) % 256 = 128 * h.val + e.val; omega

theorem v5_at (e : Fin 128) : val_main_v5 (F := Ideal) v (ix4 b s h e) = v (ix3 b s (kl h e)) := by
  rw [val_main_v5_apply, val_main_v4_apply, Ideal.extf_def]
  refine congrArg v ?_
  funext a
  apply Fin.ext
  match a with
  | ⟨0, _⟩ => show (((b.val * 4096 + s.val) * 2 + h.val) * 128 + e.val) / 1048576 = b.val; omega
  | ⟨1, _⟩ => show (((b.val * 4096 + s.val) * 2 + h.val) * 128 + e.val) / 256 % 4096 = s.val; omega
  | ⟨2, _⟩ => show (((b.val * 4096 + s.val) * 2 + h.val) * 128 + e.val) % 256 = 128 * h.val + e.val; omega

theorem v10_at (j : Fin 4096) : sc q k b h g s j
    = (∑ e : Fin 128, k (ix3 b j (kl h e)) * q (ix3 b s (ql h g e))) * ((Real.log 2 : ℝ) : EReal) := by
  show val_main_v10 (F := Ideal) q k (ix5 b h g s j) = _
  rw [val_main_v10_apply, val_main_v9_apply, val_main_v8_apply, val_main_cst_apply, val_main_v7_apply, val_main_v6_apply, Ideal.mulf_def]
  refine congrArg₂ (· * ·) (Finset.sum_congr rfl fun e _ => ?_) Cert.ReferenceBIdeal.Soft.logTwo
  rw [← v1_at q b h g s e, ← v3_at k b h j e]
  refine congrArg₂ (· * ·) (congrArg _ ?_) (congrArg _ ?_) <;> funext a <;> fin_cases a <;> rfl

theorem v22_at (e : Fin 128) : val_main_v22 (F := Ideal) q k v (ix5 b h e g s)
    = ∑ j : Fin 4096, v (ix3 b j (kl h e)) * Ideal.div (Ideal.exp (sc q k b h g s j - top q k b h g s)) (0 + ∑ i : Fin 4096, Ideal.exp (sc q k b h g s i - top q k b h g s)) := by
  rw [val_main_v22_apply]
  refine Finset.sum_congr rfl fun j _ => ?_
  rw [← v21_at, ← v5_at v b h j e]
  refine congrArg₂ (· * ·) (congrArg _ ?_) (congrArg _ ?_) <;> funext a <;> fin_cases a <;> rfl

theorem v25_at (e : Fin 128) : val_main_v25 (F := Ideal) q k v (ix3 b s (ql h g e))
    = val_main_v22 (F := Ideal) q k v (ix5 b h e g s) := by
  rw [val_main_v25_apply, val_main_v24_apply, val_main_v23_apply, Ideal.truncf_def]
  refine congrArg _ ?_
  funext a
  apply Fin.ext
  match a with
  | ⟨0, _⟩ => show ((b.val * 4096 + s.val) * 1024 + (512 * h.val + 128 * g.val + e.val)) / 4194304 = b.val; omega
  | ⟨1, _⟩ => show ((b.val * 4096 + s.val) * 1024 + (512 * h.val + 128 * g.val + e.val)) / 512 % 2 = h.val; omega
  | ⟨2, _⟩ => show ((b.val * 4096 + s.val) * 1024 + (512 * h.val + 128 * g.val + e.val)) % 128 = e.val; omega
  | ⟨3, _⟩ => show ((b.val * 4096 + s.val) * 1024 + (512 * h.val + 128 * g.val + e.val)) / 128 % 4 = g.val; omega
  | ⟨4, _⟩ => show ((b.val * 4096 + s.val) * 1024 + (512 * h.val + 128 * g.val + e.val)) / 1024 % 4096 = s.val; omega

theorem ref_eq (hg : Good q k v) : val_main_v25 (F := Ideal) q k v = attn q k v := by
  funext i
  obtain ⟨b, s, l, rfl⟩ : ∃ (b : Fin 8) (s : Fin 4096) (l : Fin 1024), i = ix3 b s l := ⟨i 0, i 1, i 2, by funext a; fin_cases a <;> rfl⟩
  obtain ⟨h, g, e, rfl⟩ : ∃ (h : Fin 2) (g : Fin 4) (e : Fin 128), l = ql h g e :=
    ⟨⟨l.val / 512, by omega⟩, ⟨l.val / 128 % 4, by omega⟩, ⟨l.val % 128, by omega⟩,
      Fin.ext (by show l.val = 512 * (l.val / 512) + 128 * (l.val / 128 % 4) + l.val % 128; omega)⟩
  rw [v25_at, v22_at]
  have hs : ∀ j : Fin 4096, sc q k b h g s j
      = ((∑ e : Fin 128, (q (ix3 b s (ql h g e))).toReal * (k (ix3 b j (kl h e))).toReal : ℝ) : EReal) * ((Real.log 2 : ℝ) : EReal) := by
    intro j
    rw [v10_at, Cert.Attn.dot_real _ _ (fun e => hg.k _) (fun e => hg.q _)]
    simp only [mul_comm (k _).toReal]
  have hl' : ∀ e' : Fin 128, lane (ql h g e) e' = ql h g e' := by
    intro e'; apply Fin.ext; show 128 * ((512 * h.val + 128 * g.val + e.val) / 128) + e'.val = 512 * h.val + 128 * g.val + e'.val; omega
  have hk' : ∀ e' : Fin 128, kvLane (ql h g e) e' = kl h e' := by
    intro e'; apply Fin.ext; show 128 * ((512 * h.val + 128 * g.val + e.val) / 512) + e'.val = 128 * h.val + e'.val; omega
  have hf : kvLane (ql h g e) (feat (ql h g e)) = kl h e :=
    (congrArg _ (Fin.ext (by show (512 * h.val + 128 * g.val + e.val) % 128 = e.val; omega))).trans (hk' e)
  have key := Cert.Attn.soft_onepass (N := 4096) (by norm_num)
    (fun j => ∑ e' : Fin 128, (q (ix3 b s (ql h g e'))).toReal * (k (ix3 b (Fin.ofNat 4096 j) (kl h e'))).toReal)
    (fun j => v (ix3 b (Fin.ofNat 4096 j) (kl h e)))
  simp only [Cert.ReferenceBIdeal.Soft.ofNat_val, ← hs] at key
  refine key.trans ?_
  refine congrArg₂ (soft 4096) (funext fun j => Finset.sum_congr rfl fun e' _ => ?_) (funext fun j => ?_)
  · rw [← hl' e', ← hk' e']
    rfl
  · rw [← hf]
    rfl

end Cert.ReferenceAIdeal.Soft

end
-- ==== Proof.PreA.lean ====
/- The grouped attention call's precondition, read at an index. -/
module

public import proofs.«01_k».proof.Proof.RefA
public import proofs.«01_k».proof.Defs

@[expose] public section

set_option maxRecDepth 16384

noncomputable section

namespace Cert.Pre_operands_a.Read

open Cert.Pre_operands_a Cert.Pre_operands_a.Gen Idealize.ShloMosaic Idealize.ShloMosaic.TcCoe
open Idealize.ShloMosaic.Pointwise
open Cert.KernelAIdeal.Block (Good)

theorem rem_at (b : Fin 8) (s : Fin 4096) (l : Fin 256) (h : l.val % 128 = 64) :
    fn_remainder (F := Ideal) (iotaInDim S8x4096x256 32 2) (constantI S_ 32 128#32) (ix3 b s l) = 64#32 := by
  have words : ∀ l : Fin 256, l.val % 128 = 64 → Cert.Pre_operands_b.Read.remWord (BitVec.ofNat 32 l.val) = 64#32 := by decide +kernel
  exact Eq.trans (by pointwise [fn_remainder, fn_where]; rfl) (words l h)

theorem good (q : FVec Ideal S8x4096x1024 .bf16) (k v : FVec Ideal S8x4096x256 .bf16)
    (h : (fn (F := Ideal) q k v).1 = (fun _ => 1#1) ∧ (fn (F := Ideal) q k v).2.1 = (fun _ => 1#1) ∧ (fn (F := Ideal) q k v).2.2 = (fun _ => 1#1)) :
    Good q k v where
  q i := Cert.Pre_operands_b.Read.real_of_lt _ (congrFun h.1 i)
  k i := Cert.Pre_operands_b.Read.real_of_lt _ (congrFun h.2.1 i)
  one i hi := by
    have e := congrFun h.2.2 i
    obtain ⟨b, s, l, rfl⟩ : ∃ (b : Fin 8) (s : Fin 4096) (l : Fin 256), i = ix3 b s l := ⟨i 0, i 1, i 2, by funext a; fin_cases a <;> rfl⟩
    have r := rem_at b s l hi
    refine Cert.Pre_operands_b.Read.one_of_eq _ ?_
    change IntOp.cmpi .ne (fn_remainder (F := Ideal) (iotaInDim S8x4096x256 32 2) (constantI S_ 32 128#32) (ix3 b s l)) 64#32 ||| _ = 1#1 at e
    rw [r, show IntOp.cmpi .ne 64#32 64#32 = 0#1 by decide] at e
    exact (BitVec.zero_or).symm.trans e

end Cert.Pre_operands_a.Read

end
-- ==== Proof.EndA.lean ====
/- The grouped attention call's claims. -/
module

public import proofs.«01_k».proof.Proof.PreA
public import Idealize.ShloMosaic.Lib.Quiescent

@[expose] public section

set_option maxRecDepth 16384

noncomputable section

namespace Cert.EndA

open Idealize.ShloMosaic Idealize.ShloMosaic.TcCoe Idealize.SL.Sem

/-- The reference runs, leaves its arguments unchanged, and declares no semaphore. -/
theorem frame_r : Cert.quiescent_ReferenceAIdeal := fun m g _ =>
  (θ_run Cert.ReferenceAIdeal.defs _ _).mono (fun r h => ⟨fun c => (h c).2, sem_eq_zero_of_no_sems rfl r.2⟩)
    (Cert.ReferenceAIdeal.Value.run (F := Ideal) m g)

/-- The kernel's result is the reference's: both are the softmax of the row's scores applied to the values. -/
theorem algebraic : Cert.algebraic_KernelAIdeal_ReferenceAIdeal_pre_operands_a := by
  intro m g m' g' hp ha
  have hg := fun c => Cert.Pre_operands_a.Read.good _ _ _ (hp c)
  refine ⟨fun c => Cert.KernelAIdeal.Block.result m c, ?_, ?_⟩
  · exact (θ_run Cert.KernelAIdeal.defs _ _).mono (fun r h c => ⟨(h c).1.trans (Cert.KernelAIdeal.Block.final m hg c), (h c).2⟩)
      (Cert.KernelAIdeal.Value.run_blocks m g)
  · refine (θ_run Cert.ReferenceAIdeal.defs _ _).mono (fun r h c => ⟨(h c).1.trans ?_, (h c).2⟩)
      (Cert.ReferenceAIdeal.Value.run (F := Ideal) m' g')
    rw [(ha c).1, (ha c).2.1, (ha c).2.2]
    exact (Cert.ReferenceAIdeal.Read.val_main_v25_eq _ _ _).trans (Cert.ReferenceAIdeal.Soft.ref_eq _ _ _ (hg c))

end Cert.EndA

end
-- ==== Proof.InBlock.lean ====
/- The input projection call's block: the values that a grid point computes from its rows, element by element. -/
module

public import proofs.«01_k».proof.Proof.EndA
public import proofs.«01_k».proof.Proof.Gen.KernelInIdeal.Value
public import Idealize.ShloMosaic.Lib.Tactic

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise

/-- The square mean's offset. -/
abbrev eps : EReal := Ideal.ofBits .f32 0x358637BD#32

/-- A row of the modulated, normalised input: `x * rsqrt (mean (x^2) + eps) * g * (1 + s) + t`. -/
def hrow (x g s t : Fin 1024 → EReal) (d : Fin 1024) : EReal :=
  x d * Ideal.rsqrt ((∑ j : Fin 1024, x j * x j) * ((1 / 1024 : ℝ) : EReal) + eps) * g d * (1 + s d) + t d

theorem inv1024 : Ideal.ofBits .f32 0x3A800000#32 = ((1 / 1024 : ℝ) : EReal) := by
  simp [Ideal.ofBits, Ideal.ieee, -EReal.coe_mul]; norm_num

theorem one : Ideal.ofBits .f32 0x3F800000#32 = 1 := by
  simp [Ideal.ofBits, Ideal.ieee, -EReal.coe_mul]; norm_num

theorem zero : Ideal.ofBits .f32 0x00000000#32 = 0 := by
  simp [Ideal.ofBits, Ideal.ieee, -EReal.coe_mul]

theorem pay2_apply (x : Vec Ideal S1x512x1024 .f32) (t s : Vec Ideal S1x1x1024 .f32) (g : Vec Ideal S1x1024 .f32) (r : Fin 512) (d : Fin 1024) :
    k0_pay2 x t s g (ix2 r d) = hrow (fun j => x (ix3 0 r j)) (fun j => g (ix2 0 j)) (fun j => s (ix3 0 0 j)) (fun j => t (ix3 0 0 j)) d := by
  unfold hrow
  rw [← inv1024]
  pointwise [k0_pay2]

theorem pay68_apply (h : FVec Ideal S512x1024 .bf16) (w : Vec Ideal S1024x1024 .bf16) (r : Fin 512) (d : Fin 1024) :
    k0_pay68 h w (ix3 0 r d) = Ideal.logistic (∑ k : Fin 1024, h (ix2 r k) * w (ix2 k d)) := by
  pointwise [k0_pay68]

theorem pay30_apply (h : FVec Ideal S512x1024 .bf16) (w : Vec Ideal S1024x512 .bf16) (r : Fin 512) (d : Fin 512) :
    k0_pay30 h w (ix2 r d) = ∑ k : Fin 1024, h (ix2 r k) * w (ix2 k d) := by
  pointwise [k0_pay30]

/-- The word that marks lane 64 of every 128 lanes. -/
def mark (d : BitVec 32) : BitVec 1 :=
  let w : BitVec 32 := Scalar.select (Scalar.cmpi CmpIPredicate.eq 128#32 0#32) 1#32 128#32
  IntOp.cmpi .eq (Scalar.select
    (IntOp.andi (IntOp.xori (IntOp.cmpi .slt (IntOp.remsi .vector d w) 0#32) (Scalar.cmpi .slt w 0#32)) (IntOp.cmpi .ne (IntOp.remsi .vector d w) 0#32))
    (IntOp.addi (IntOp.remsi .vector d w) w) (IntOp.remsi .vector d w)) 64#32

theorem mark_eq : ∀ d : Fin 1024, mark (BitVec.ofNat 32 d.val) = if d.val % 128 = 64 then 1#1 else 0#1 := by
  decide +kernel

theorem mark_select (d : Fin 1024) : Scalar.select (mark (BitVec.ofNat 32 d.val)) (1 : EReal) 0 = if d.val % 128 = 64 then 1 else 0 := by
  rw [mark_eq]
  split <;> rfl

theorem pay35_apply (z : FVec Ideal S512x512 .f32) (r : Fin 512) (d : Fin 256) :
    k0_pay35 z (ix3 0 r d) = z (ix2 r ⟨256 + d.val, by omega⟩) + (if d.val % 128 = 64 then 1 else 0) := by
  rw [← mark_select ⟨d.val, by omega⟩]
  unfold mark
  pointwise [k0_pay35]

theorem pay67_apply (z : FVec Ideal S512x1024 .f32) (r : Fin 512) (d : Fin 1024) :
    k0_pay67 z (iota .tc S1x1024 32 [1] iota_S1x1024_d1_w32) (Scalar.select (Scalar.cmpi .eq 128#32 0#32) 1#32 128#32) k0_pay66 (ix3 0 r d)
      = z (ix2 r d) + (if d.val % 128 = 64 then 1 else 0) := by
  rw [← mark_select d]
  unfold mark
  pointwise [k0_pay67, k0_pay66]

theorem pay69_apply (h : FVec Ideal S512x1024 .bf16) (w : Vec Ideal S1024x1024 .bf16) (r : Fin 512) (d : Fin 1024) :
    k0_pay1 (k0_pay69 h w) (ix3 0 r d) = Ideal.logistic (∑ k : Fin 1024, h (ix2 r k) * w (ix2 k d)) := by
  pointwise [k0_pay1, k0_pay69]

theorem pay36_apply (h : FVec Ideal S512x1024 .bf16) (w : Vec Ideal S1024x768 .bf16) (r : Fin 512) (d : Fin 768) :
    k0_pay36 h w (ix2 r d) = ∑ k : Fin 1024, h (ix2 r k) * w (ix2 k d) := by
  pointwise [k0_pay36]

theorem pay37_apply (h : FVec Ideal S512x1024 .bf16) (w : Vec Ideal S1024x768 .bf16) (r : Fin 512) (d : Fin 384) :
    k0_pay37 h w (ix2 r d) = ∑ k : Fin 1024, h (ix2 r k) * w (ix2 k ⟨d.val, by omega⟩) := by
  pointwise [k0_pay37, k0_pay36]

/-- A row divided by the root of its mean square `m * sum`, times a weight. -/
def rms {n : Nat} (m : EReal) (u g : Fin n → EReal) (d : Fin n) : EReal :=
  u d * Ideal.rsqrt ((∑ j : Fin n, u j * u j) * m + eps) * g d

theorem inv256 : Ideal.ofBits .f32 0x3B800000#32 = ((1 / 256 : ℝ) : EReal) := by
  simp [Ideal.ofBits, Ideal.ieee, -EReal.coe_mul]; norm_num

theorem inv64 : Ideal.ofBits .f32 0x3C800000#32 = ((1 / 64 : ℝ) : EReal) := by
  simp [Ideal.ofBits, Ideal.ieee, -EReal.coe_mul]; norm_num

theorem pay38_apply (z : FVec Ideal S512x768 .f32) (g : Vec Ideal S1x256 .f32) (r : Fin 512) (d : Fin 256) :
    k0_pay38 z g (ix2 r d) = rms ((1 / 256 : ℝ) : EReal) (fun j => z (ix2 r ⟨384 + j.val, by omega⟩)) (fun j => g (ix2 0 j)) d := by
  unfold rms
  rw [← inv256]
  pointwise [k0_pay38]

/-- Three taps of a row of 128 lanes: the lane itself, the lane `k` above it and the lane `k` below it. -/
def taps (k : Nat) (z a b c : Fin 128 → EReal) (d : Fin 128) : EReal :=
  z d * a d + z ⟨(d.val + 128 - (128 - k)) % 128, Nat.mod_lt _ (by norm_num)⟩ * b d + z ⟨(d.val + 128 - k) % 128, Nat.mod_lt _ (by norm_num)⟩ * c d

theorem pay39_apply (a b c : FVec Ideal S512x128 .f32) (z : FVec Ideal S512x768 .f32) (r : Fin 512) (d : Fin 128) :
    k0_pay39 a b c z (ix2 r d) = taps 16 (fun d => z (ix2 r ⟨640 + d.val, by omega⟩)) (fun d => a (ix2 r d)) (fun d => b (ix2 r d)) (fun d => c (ix2 r d)) d := by
  unfold taps
  pointwise [k0_pay39]

theorem pay40_apply (z : FVec Ideal S512x384 .f32) (g : Vec Ideal S1x384 .f32) (w : Vec Ideal S384x1024 .bf16) (r : Fin 512) (d : Fin 1024) :
    k0_pay40 z g w (ix2 r d) = ∑ k : Fin 384, rms (Named.named κ "mean_latent" 0x3B2AAAAB#32 : Ideal .f32) (fun j => z (ix2 r j)) (fun j => g (ix2 0 j)) k * w (ix2 k d) := by
  unfold rms
  pointwise [k0_pay40]

theorem pay65_apply (h : FVec Ideal S512x256 .bf16) (w : Vec Ideal S256x1024 .bf16) (r : Fin 512) (d : Fin 1024) :
    k0_pay65 h w (ix2 r d) = ∑ k : Fin 256, h (ix2 r k) * w (ix2 k d) := by
  pointwise [k0_pay65]

theorem pay55_apply (h : FVec Ideal S512x256 .bf16) (w : Vec Ideal S256x1024 .bf16) (r : Fin 512) (d : Fin 1024) :
    k0_pay55 h w (ix2 r d) = ∑ k : Fin 256, h (ix2 r k) * w (ix2 k d) := by
  pointwise [k0_pay55]

/-- A head's 64 lanes, the upper 64 set to zero. -/
def low (u : Fin 128 → EReal) (d : Fin 128) : EReal := Scalar.select (IntOp.cmpi .slt (BitVec.ofNat 32 d.val) 64#32) (u d) 0

section queryHeads

variable (a b c : FVec Ideal S512x128 .f32) (g : FVec Ideal S1x128 .f32) (z : FVec Ideal S512x512 .f32) (r : Fin 512) (d : Fin 128)

/-- The grouped call's query head out of the 64 lanes `u`: root-mean-square, then the rotary taps. -/
abbrev qaHead (u : Fin 128 → EReal) : EReal :=
  taps 32 (rms ((1 / 64 : ℝ) : EReal) (low u) (fun d => g (ix2 0 d))) (fun d => a (ix2 r d)) (fun d => b (ix2 r d)) (fun d => c (ix2 r d)) d

theorem head0 (h : FVec Ideal S512x1024 .bf16) (w : Vec Ideal S1024x512 .bf16) :
    k0_pay17 a b c g (k0_pay15 h w) (k0_pay16 h w) (ix3 0 r d) = qaHead a b c g r d (fun d => ∑ k : Fin 1024, h (ix2 r k) * w (ix2 k ⟨0 + d.val, by omega⟩)) := by
  unfold qaHead taps rms low
  rw [← inv64]
  pointwise [k0_pay17, k0_pay15, k0_pay16, k0_pay13, k0_pay14]

theorem head1 : k0_pay18 a b c g z k0_pay14 (ix3 0 r d) = qaHead a b c g r d (fun d => z (ix2 r ⟨0 + (d.val + 128 - 64) % 128, by omega⟩)) := by
  unfold qaHead taps rms low
  rw [← inv64]
  pointwise [k0_pay18, k0_pay14]

theorem head2 : k0_pay19 a b c g z k0_pay14 (ix3 0 r d) = qaHead a b c g r d (fun d => z (ix2 r ⟨128 + d.val, by omega⟩)) := by
  unfold qaHead taps rms low
  rw [← inv64]
  pointwise [k0_pay19, k0_pay14]

theorem head3 : k0_pay21 a b c g (k0_pay20 z k0_pay14) (ix3 0 r d) = qaHead a b c g r d (fun d => z (ix2 r ⟨128 + (d.val + 128 - 64) % 128, by omega⟩)) := by
  unfold qaHead taps rms low
  rw [← inv64]
  pointwise [k0_pay21, k0_pay20, k0_pay14]

theorem head4 : k0_pay22 a b c g z k0_pay14 (ix3 0 r d) = qaHead a b c g r d (fun d => z (ix2 r ⟨256 + d.val, by omega⟩)) := by
  unfold qaHead taps rms low
  rw [← inv64]
  pointwise [k0_pay22, k0_pay14]

theorem head5 : k0_pay24 a b c g k0_pay14 (k0_pay23 z) (ix3 0 r d) = qaHead a b c g r d (fun d => z (ix2 r ⟨256 + (d.val + 128 - 64) % 128, by omega⟩)) := by
  unfold qaHead taps rms low
  rw [← inv64]
  pointwise [k0_pay24, k0_pay23, k0_pay14]

theorem head6 : k0_pay27 b c (k0_pay25 g z k0_pay14) (k0_pay26 a g z k0_pay14) 96#32 (ix3 0 r d) = qaHead a b c g r d (fun d => z (ix2 r ⟨384 + d.val, by omega⟩)) := by
  unfold qaHead taps rms low
  rw [← inv64]
  pointwise [k0_pay27, k0_pay26, k0_pay25, k0_pay14]

theorem head7 : k0_pay28 a b c g z k0_pay14 (ix3 0 r d) = qaHead a b c g r d (fun d => z (ix2 r ⟨384 + (d.val + 128 - 64) % 128, by omega⟩)) := by
  unfold qaHead taps rms low
  rw [← inv64]
  pointwise [k0_pay28, k0_pay14]

end queryHeads

section latentHeads

variable (a b c : FVec Ideal S512x128 .f32) (z : FVec Ideal S512x1024 .f32) (r : Fin 512) (d : Fin 128)

/-- The latent call's query head out of its lanes `u`: the rotary taps. -/
abbrev qbHead (u : Fin 128 → EReal) : EReal :=
  taps 16 u (fun d => a (ix2 r d)) (fun d => b (ix2 r d)) (fun d => c (ix2 r d)) d

theorem qb0 (y : FVec Ideal S512x384 .f32) (g : Vec Ideal S1x384 .f32) (w : Vec Ideal S384x1024 .bf16) :
    k0_pay43 b c (k0_pay41 y g w) (k0_pay42 a y g w) 112#32 (ix3 0 r d) = qbHead a b c r d (fun d => k0_pay40 y g w (ix2 r ⟨0 + d.val, by omega⟩)) := by
  unfold qbHead taps
  generalize hz : k0_pay40 y g w = z
  unfold k0_pay42 k0_pay41
  rw [hz]
  pointwise [k0_pay43]

theorem qb1 : k0_pay44 a b c z (ix3 0 r d) = qbHead a b c r d (fun d => z (ix2 r ⟨128 + d.val, by omega⟩)) := by
  unfold qbHead taps
  pointwise [k0_pay44]

theorem qb2 : k0_pay45 a b c z (ix3 0 r d) = qbHead a b c r d (fun d => z (ix2 r ⟨256 + d.val, by omega⟩)) := by
  unfold qbHead taps
  pointwise [k0_pay45]

theorem qb3 : k0_pay49 (k0_pay47 a b z) (k0_pay48 c z) (ix3 0 r d) = qbHead a b c r d (fun d => z (ix2 r ⟨384 + d.val, by omega⟩)) := by
  unfold qbHead taps
  pointwise [k0_pay49, k0_pay48, k0_pay47, k0_pay46]

theorem qb4 : k0_pay50 a b c z (ix3 0 r d) = qbHead a b c r d (fun d => z (ix2 r ⟨512 + d.val, by omega⟩)) := by
  unfold qbHead taps
  pointwise [k0_pay50]

theorem qb5 : k0_pay51 a b c z (ix3 0 r d) = qbHead a b c r d (fun d => z (ix2 r ⟨640 + d.val, by omega⟩)) := by
  unfold qbHead taps
  pointwise [k0_pay51]

theorem qb6 : k0_pay53 (k0_pay52 a b c z) (ix3 0 r d) = qbHead a b c r d (fun d => z (ix2 r ⟨768 + d.val, by omega⟩)) := by
  unfold qbHead taps
  pointwise [k0_pay53, k0_pay52]

theorem qb7 : k0_pay54 a b c z (ix3 0 r d) = qbHead a b c r d (fun d => z (ix2 r ⟨896 + d.val, by omega⟩)) := by
  unfold qbHead taps
  pointwise [k0_pay54]

theorem kb0 (h : FVec Ideal S512x256 .bf16) (w : Vec Ideal S256x1024 .bf16) :
    k0_pay56 h c w (ix3 0 r d) = k0_pay55 h w (ix2 r ⟨0 + d.val, by omega⟩) + c (ix2 r d) := by
  pointwise [k0_pay56]

theorem kb1 (h : FVec Ideal S512x256 .bf16) (w : Vec Ideal S256x1024 .bf16) :
    k0_pay57 h c w (ix3 0 r d) = k0_pay55 h w (ix2 r ⟨128 + d.val, by omega⟩) + c (ix2 r d) := by
  pointwise [k0_pay57]

theorem kb2 (h : FVec Ideal S512x256 .bf16) (w : Vec Ideal S256x1024 .bf16) :
    k0_pay58 h c w (ix3 0 r d) = k0_pay55 h w (ix2 r ⟨256 + d.val, by omega⟩) + c (ix2 r d) := by
  pointwise [k0_pay58]

theorem kb3 (h : FVec Ideal S512x256 .bf16) (w : Vec Ideal S256x1024 .bf16) :
    k0_pay60 (k0_pay59 h c w) (ix3 0 r d) = k0_pay55 h w (ix2 r ⟨384 + d.val, by omega⟩) + c (ix2 r d) := by
  pointwise [k0_pay60, k0_pay59]

theorem kb4 : k0_pay61 c z (ix3 0 r d) = z (ix2 r ⟨512 + d.val, by omega⟩) + c (ix2 r d) := by
  pointwise [k0_pay61]

theorem kb5 : k0_pay62 c z (ix3 0 r d) = z (ix2 r ⟨640 + d.val, by omega⟩) + c (ix2 r d) := by
  pointwise [k0_pay62]

theorem kb6 : k0_pay63 c z (ix3 0 r d) = z (ix2 r ⟨768 + d.val, by omega⟩) + c (ix2 r d) := by
  pointwise [k0_pay63]

theorem kb7 : k0_pay64 c z (ix3 0 r d) = z (ix2 r ⟨896 + d.val, by omega⟩) + c (ix2 r d) := by
  pointwise [k0_pay64]

end latentHeads

end Cert.KernelInIdeal.Block

end
-- ==== Proof.InPad.lean ====
/- Reads of the windows that the input projection's host code sets in arrays of zeros. -/
module

public import proofs.«01_k».proof.Proof.InBlock
public import Idealize.ShloMosaic.Lib.Routing.OpsSet
public import Idealize.ShloMosaic.Lib.StableHlo.ReadAt

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise Idealize.ShloMosaic.Routing

theorem resultIdx_of {s si u : Shape} {w : Nat} (d : ScatterDims s si u) (k : u.Idx) (idx : IVec si w) (ι : s.Idx)
    (h : ∀ a, d.start k idx a + d.window k a = ((ι a).val : Int)) : d.resultIdx? k idx = some ι := by
  have e : ∀ a, 0 ≤ d.start k idx a + d.window k a ∧ d.start k idx a + d.window k a < s.size a := fun a => by
    have := (ι a).isLt
    rw [h a]
    omega
  unfold ScatterDims.resultIdx?
  rw [dif_pos e]
  refine congrArg some (funext fun a => Fin.ext ?_)
  show (d.start k idx a + d.window k a).toNat = (ι a).val
  rw [h a]
  rfl

/-- A scatter that sets a window at a fixed place, read inside the window and outside. -/
theorem scatter_in {α : Type} {s si u : Shape} {w : Nat} (d : ScatterDims s si u) (x0 : s.Idx → α) (idx : IVec si w) (upd : u.Idx → α) (f : u.Idx → s.Idx)
    (hf : ∀ k, d.resultIdx? k idx = some (f k)) (inj : ∀ k k', f k = f k' → k = k') (k : u.Idx) :
    Host.scatter d (fun _ b => b) x0 idx upd (f k) = upd k :=
  scatter_set_hit d x0 idx upd (f k) (upd k) (fun k' h => by rw [inj k' k (Option.some.inj ((hf k').symm.trans h))]) k (hf k)

theorem scatter_out {α : Type} {s si u : Shape} {w : Nat} (d : ScatterDims s si u) (x0 : s.Idx → α) (idx : IVec si w) (upd : u.Idx → α) (f : u.Idx → s.Idx)
    (hf : ∀ k, d.resultIdx? k idx = some (f k)) (ι : s.Idx) (h : ∀ k, f k ≠ ι) :
    Host.scatter d (fun _ b => b) x0 idx upd ι = x0 ι :=
  scatter_set_miss d x0 idx upd ι fun k e => h k (Option.some.inj ((hf k).symm.trans e))

theorem pad_heads {α : Type} (x0 : S1024x2x128.Idx → α) (upd : S1024x2x64.Idx → α) (k : Fin 1024) (h : Fin 2) (l : Fin 128) :
    Host.scatter scatter_S1024x2x128_S1_S1024x2x64_012_n_2_0 (fun _ b => b) x0 (broadcastInDim S1 ![] bcast_S_S1 (constantI S_ 32 0#32)) upd (ix3 k h l)
      = if hl : l.val < 64 then upd (ix3 k h ⟨l.val, by omega⟩) else x0 (ix3 k h l) := by
  have hf : ∀ q : S1024x2x64.Idx, scatter_S1024x2x128_S1_S1024x2x64_012_n_2_0.resultIdx? q (broadcastInDim S1 ![] bcast_S_S1 (constantI S_ 32 0#32))
      = some (ix3 (q 0) (q 1) (⟨(q 2).val, by have hq : (q 2).val < 64 := (q 2).isLt; omega⟩ : Fin 128)) := fun q => resultIdx_of _ _ _ _ fun a => by
    match a with
    | ⟨0, _⟩ => show (0 : Int) + ((q 0).val : Int) = ((q 0).val : Int); exact zero_add _
    | ⟨1, _⟩ => show (0 : Int) + ((q 1).val : Int) = ((q 1).val : Int); exact zero_add _
    | ⟨2, _⟩ => show (0 : Int) + ((q 2).val : Int) = (((q 2).val : Nat) : Int); omega
  split
  · rename_i hl
    have e : (ix3 k h l : S1024x2x128.Idx) = (fun q : S1024x2x64.Idx => (ix3 (q 0) (q 1) (⟨(q 2).val, by have hq : (q 2).val < 64 := (q 2).isLt; omega⟩ : Fin 128) : S1024x2x128.Idx)) (ix3 k h (⟨l.val, by omega⟩ : Fin 64)) := by
      funext a
      match a with
      | ⟨0, _⟩ => rfl
      | ⟨1, _⟩ => rfl
      | ⟨2, _⟩ => refine Fin.ext ?_; show l.val = l.val; omega
    rw [e]
    refine scatter_in _ x0 _ upd _ hf (fun q q' e => ?_) _
    funext a
    match a with
    | ⟨0, _⟩ => exact Fin.ext (congrArg Fin.val (congrFun e 0))
    | ⟨1, _⟩ => exact Fin.ext (congrArg Fin.val (congrFun e 1))
    | ⟨2, _⟩ => refine Fin.ext ?_; have e2 := congrArg Fin.val (congrFun e 2); have e3 : (q 2).val = (q' 2).val := e2; show (q 2).val = (q' 2).val; omega
  · rename_i hl
    refine scatter_out _ x0 _ upd _ hf _ fun q e => ?_
    have e2 : (q 2).val = l.val := congrArg Fin.val (congrFun e 2)
    have hq : (q 2).val < 64 := (q 2).isLt
    omega

theorem pad_key {α : Type} (x0 : S1024x1x128.Idx → α) (upd : S1024x1x32.Idx → α) (k : Fin 1024) (h : Fin 1) (l : Fin 128) :
    Host.scatter scatter_S1024x1x128_S1_S1024x1x32_012_n_2_0 (fun _ b => b) x0 (broadcastInDim S1 ![] bcast_S_S1 (constantI S_ 32 64#32)) upd (ix3 k h l)
      = if hl : 64 ≤ l.val ∧ l.val < 96 then upd (ix3 k h ⟨l.val - 64, by omega⟩) else x0 (ix3 k h l) := by
  have hf : ∀ q : S1024x1x32.Idx, scatter_S1024x1x128_S1_S1024x1x32_012_n_2_0.resultIdx? q (broadcastInDim S1 ![] bcast_S_S1 (constantI S_ 32 64#32))
      = some (ix3 (q 0) (q 1) (⟨64 + (q 2).val, by have hq : (q 2).val < 32 := (q 2).isLt; omega⟩ : Fin 128)) := fun q => resultIdx_of _ _ _ _ fun a => by
    match a with
    | ⟨0, _⟩ => show (0 : Int) + ((q 0).val : Int) = ((q 0).val : Int); exact zero_add _
    | ⟨1, _⟩ => show (0 : Int) + ((q 1).val : Int) = ((q 1).val : Int); exact zero_add _
    | ⟨2, _⟩ => show (64 : Int) + ((q 2).val : Int) = ((64 + (q 2).val : Nat) : Int); omega
  split
  · rename_i hl
    have e : (ix3 k h l : S1024x1x128.Idx) = (fun q : S1024x1x32.Idx => (ix3 (q 0) (q 1) (⟨64 + (q 2).val, by have hq : (q 2).val < 32 := (q 2).isLt; omega⟩ : Fin 128) : S1024x1x128.Idx)) (ix3 k h (⟨l.val - 64, by omega⟩ : Fin 32)) := by
      funext a
      match a with
      | ⟨0, _⟩ => rfl
      | ⟨1, _⟩ => rfl
      | ⟨2, _⟩ => refine Fin.ext ?_; show l.val = 64 + (l.val - 64); omega
    rw [e]
    refine scatter_in _ x0 _ upd _ hf (fun q q' e => ?_) _
    funext a
    match a with
    | ⟨0, _⟩ => exact Fin.ext (congrArg Fin.val (congrFun e 0))
    | ⟨1, _⟩ => exact Fin.ext (congrArg Fin.val (congrFun e 1))
    | ⟨2, _⟩ => refine Fin.ext ?_; have e2 := congrArg Fin.val (congrFun e 2); have e3 : 64 + (q 2).val = 64 + (q' 2).val := e2; show (q 2).val = (q' 2).val; omega
  · rename_i hl
    refine scatter_out _ x0 _ upd _ hf _ fun q e => ?_
    have e2 : 64 + (q 2).val = l.val := congrArg Fin.val (congrFun e 2)
    have hq : (q 2).val < 32 := (q 2).isLt
    omega

theorem pad_q {α : Type} (x0 : S384x8x128.Idx → α) (upd : S384x8x96.Idx → α) (k : Fin 384) (h : Fin 8) (l : Fin 128) :
    Host.scatter scatter_S384x8x128_S1_S384x8x96_012_n_2_0 (fun _ b => b) x0 (broadcastInDim S1 ![] bcast_S_S1 (constantI S_ 32 0#32)) upd (ix3 k h l)
      = if hl : l.val < 96 then upd (ix3 k h ⟨l.val, by omega⟩) else x0 (ix3 k h l) := by
  have hf : ∀ q : S384x8x96.Idx, scatter_S384x8x128_S1_S384x8x96_012_n_2_0.resultIdx? q (broadcastInDim S1 ![] bcast_S_S1 (constantI S_ 32 0#32))
      = some (ix3 (q 0) (q 1) (⟨(q 2).val, by have hq : (q 2).val < 96 := (q 2).isLt; omega⟩ : Fin 128)) := fun q => resultIdx_of _ _ _ _ fun a => by
    match a with
    | ⟨0, _⟩ => show (0 : Int) + ((q 0).val : Int) = ((q 0).val : Int); exact zero_add _
    | ⟨1, _⟩ => show (0 : Int) + ((q 1).val : Int) = ((q 1).val : Int); exact zero_add _
    | ⟨2, _⟩ => show (0 : Int) + ((q 2).val : Int) = (((q 2).val : Nat) : Int); omega
  split
  · rename_i hl
    have e : (ix3 k h l : S384x8x128.Idx) = (fun q : S384x8x96.Idx => (ix3 (q 0) (q 1) (⟨(q 2).val, by have hq : (q 2).val < 96 := (q 2).isLt; omega⟩ : Fin 128) : S384x8x128.Idx)) (ix3 k h (⟨l.val, by omega⟩ : Fin 96)) := by
      funext a
      match a with
      | ⟨0, _⟩ => rfl
      | ⟨1, _⟩ => rfl
      | ⟨2, _⟩ => refine Fin.ext ?_; show l.val = l.val; omega
    rw [e]
    refine scatter_in _ x0 _ upd _ hf (fun q q' e => ?_) _
    funext a
    match a with
    | ⟨0, _⟩ => exact Fin.ext (congrArg Fin.val (congrFun e 0))
    | ⟨1, _⟩ => exact Fin.ext (congrArg Fin.val (congrFun e 1))
    | ⟨2, _⟩ => refine Fin.ext ?_; have e2 := congrArg Fin.val (congrFun e 2); have e3 : (q 2).val = (q' 2).val := e2; show (q 2).val = (q' 2).val; omega
  · rename_i hl
    refine scatter_out _ x0 _ upd _ hf _ fun q e => ?_
    have e2 : (q 2).val = l.val := congrArg Fin.val (congrFun e 2)
    have hq : (q 2).val < 96 := (q 2).isLt
    omega

theorem pad_kv {α : Type} (x0 : S256x8x128.Idx → α) (upd : S256x8x64.Idx → α) (k : Fin 256) (h : Fin 8) (l : Fin 128) :
    Host.scatter scatter_S256x8x128_S1_S256x8x64_012_n_2_0 (fun _ b => b) x0 (broadcastInDim S1 ![] bcast_S_S1 (constantI S_ 32 0#32)) upd (ix3 k h l)
      = if hl : l.val < 64 then upd (ix3 k h ⟨l.val, by omega⟩) else x0 (ix3 k h l) := by
  have hf : ∀ q : S256x8x64.Idx, scatter_S256x8x128_S1_S256x8x64_012_n_2_0.resultIdx? q (broadcastInDim S1 ![] bcast_S_S1 (constantI S_ 32 0#32))
      = some (ix3 (q 0) (q 1) (⟨(q 2).val, by have hq : (q 2).val < 64 := (q 2).isLt; omega⟩ : Fin 128)) := fun q => resultIdx_of _ _ _ _ fun a => by
    match a with
    | ⟨0, _⟩ => show (0 : Int) + ((q 0).val : Int) = ((q 0).val : Int); exact zero_add _
    | ⟨1, _⟩ => show (0 : Int) + ((q 1).val : Int) = ((q 1).val : Int); exact zero_add _
    | ⟨2, _⟩ => show (0 : Int) + ((q 2).val : Int) = (((q 2).val : Nat) : Int); omega
  split
  · rename_i hl
    have e : (ix3 k h l : S256x8x128.Idx) = (fun q : S256x8x64.Idx => (ix3 (q 0) (q 1) (⟨(q 2).val, by have hq : (q 2).val < 64 := (q 2).isLt; omega⟩ : Fin 128) : S256x8x128.Idx)) (ix3 k h (⟨l.val, by omega⟩ : Fin 64)) := by
      funext a
      match a with
      | ⟨0, _⟩ => rfl
      | ⟨1, _⟩ => rfl
      | ⟨2, _⟩ => refine Fin.ext ?_; show l.val = l.val; omega
    rw [e]
    refine scatter_in _ x0 _ upd _ hf (fun q q' e => ?_) _
    funext a
    match a with
    | ⟨0, _⟩ => exact Fin.ext (congrArg Fin.val (congrFun e 0))
    | ⟨1, _⟩ => exact Fin.ext (congrArg Fin.val (congrFun e 1))
    | ⟨2, _⟩ => refine Fin.ext ?_; have e2 := congrArg Fin.val (congrFun e 2); have e3 : (q 2).val = (q' 2).val := e2; show (q 2).val = (q' 2).val; omega
  · rename_i hl
    refine scatter_out _ x0 _ upd _ hf _ fun q e => ?_
    have e2 : (q 2).val = l.val := congrArg Fin.val (congrFun e 2)
    have hq : (q 2).val < 64 := (q 2).isLt
    omega

theorem tab32_0 {α : Type} (x0 : S4096x128.Idx → α) (upd : S4096x32.Idx → α) (k : Fin 4096) (l : Fin 128) :
    Host.scatter scatter_S4096x128_S1_S4096x32_01_n_1_0 (fun _ b => b) x0 (broadcastInDim S1 ![] bcast_S_S1 (constantI S_ 32 0#32)) upd (ix2 k l)
      = if hl : l.val < 32 then upd (ix2 k ⟨l.val, by omega⟩) else x0 (ix2 k l) := by
  have hf : ∀ q : S4096x32.Idx, scatter_S4096x128_S1_S4096x32_01_n_1_0.resultIdx? q (broadcastInDim S1 ![] bcast_S_S1 (constantI S_ 32 0#32))
      = some (ix2 (q 0) (⟨(q 1).val, by have hq : (q 1).val < 32 := (q 1).isLt; omega⟩ : Fin 128)) := fun q => resultIdx_of _ _ _ _ fun a => by
    match a with
    | ⟨0, _⟩ => show (0 : Int) + ((q 0).val : Int) = ((q 0).val : Int); exact zero_add _
    | ⟨1, _⟩ => show (0 : Int) + ((q 1).val : Int) = (((q 1).val : Nat) : Int); omega
  split
  · rename_i hl
    have e : (ix2 k l : S4096x128.Idx) = (fun q : S4096x32.Idx => (ix2 (q 0) (⟨(q 1).val, by have hq : (q 1).val < 32 := (q 1).isLt; omega⟩ : Fin 128) : S4096x128.Idx)) (ix2 k (⟨l.val, by omega⟩ : Fin 32)) := by
      funext a
      match a with
      | ⟨0, _⟩ => rfl
      | ⟨1, _⟩ => refine Fin.ext ?_; show l.val = l.val; omega
    rw [e]
    refine scatter_in _ x0 _ upd _ hf (fun q q' e => ?_) _
    funext a
    match a with
    | ⟨0, _⟩ => exact Fin.ext (congrArg Fin.val (congrFun e 0))
    | ⟨1, _⟩ => refine Fin.ext ?_; have e2 := congrArg Fin.val (congrFun e 1); have e3 : (q 1).val = (q' 1).val := e2; show (q 1).val = (q' 1).val; omega
  · rename_i hl
    refine scatter_out _ x0 _ upd _ hf _ fun q e => ?_
    have e2 : (q 1).val = l.val := congrArg Fin.val (congrFun e 1)
    have hq : (q 1).val < 32 := (q 1).isLt
    omega

theorem tab32_32 {α : Type} (x0 : S4096x128.Idx → α) (upd : S4096x32.Idx → α) (k : Fin 4096) (l : Fin 128) :
    Host.scatter scatter_S4096x128_S1_S4096x32_01_n_1_0 (fun _ b => b) x0 (broadcastInDim S1 ![] bcast_S_S1 (constantI S_ 32 32#32)) upd (ix2 k l)
      = if hl : 32 ≤ l.val ∧ l.val < 64 then upd (ix2 k ⟨l.val - 32, by omega⟩) else x0 (ix2 k l) := by
  have hf : ∀ q : S4096x32.Idx, scatter_S4096x128_S1_S4096x32_01_n_1_0.resultIdx? q (broadcastInDim S1 ![] bcast_S_S1 (constantI S_ 32 32#32))
      = some (ix2 (q 0) (⟨32 + (q 1).val, by have hq : (q 1).val < 32 := (q 1).isLt; omega⟩ : Fin 128)) := fun q => resultIdx_of _ _ _ _ fun a => by
    match a with
    | ⟨0, _⟩ => show (0 : Int) + ((q 0).val : Int) = ((q 0).val : Int); exact zero_add _
    | ⟨1, _⟩ => show (32 : Int) + ((q 1).val : Int) = ((32 + (q 1).val : Nat) : Int); omega
  split
  · rename_i hl
    have e : (ix2 k l : S4096x128.Idx) = (fun q : S4096x32.Idx => (ix2 (q 0) (⟨32 + (q 1).val, by have hq : (q 1).val < 32 := (q 1).isLt; omega⟩ : Fin 128) : S4096x128.Idx)) (ix2 k (⟨l.val - 32, by omega⟩ : Fin 32)) := by
      funext a
      match a with
      | ⟨0, _⟩ => rfl
      | ⟨1, _⟩ => refine Fin.ext ?_; show l.val = 32 + (l.val - 32); omega
    rw [e]
    refine scatter_in _ x0 _ upd _ hf (fun q q' e => ?_) _
    funext a
    match a with
    | ⟨0, _⟩ => exact Fin.ext (congrArg Fin.val (congrFun e 0))
    | ⟨1, _⟩ => refine Fin.ext ?_; have e2 := congrArg Fin.val (congrFun e 1); have e3 : 32 + (q 1).val = 32 + (q' 1).val := e2; show (q 1).val = (q' 1).val; omega
  · rename_i hl
    refine scatter_out _ x0 _ upd _ hf _ fun q e => ?_
    have e2 : 32 + (q 1).val = l.val := congrArg Fin.val (congrFun e 1)
    have hq : (q 1).val < 32 := (q 1).isLt
    omega

theorem tab64_0 {α : Type} (x0 : S4096x128.Idx → α) (upd : S4096x64.Idx → α) (k : Fin 4096) (l : Fin 128) :
    Host.scatter scatter_S4096x128_S1_S4096x64_01_n_1_0 (fun _ b => b) x0 (broadcastInDim S1 ![] bcast_S_S1 (constantI S_ 32 0#32)) upd (ix2 k l)
      = if hl : l.val < 64 then upd (ix2 k ⟨l.val, by omega⟩) else x0 (ix2 k l) := by
  have hf : ∀ q : S4096x64.Idx, scatter_S4096x128_S1_S4096x64_01_n_1_0.resultIdx? q (broadcastInDim S1 ![] bcast_S_S1 (constantI S_ 32 0#32))
      = some (ix2 (q 0) (⟨(q 1).val, by have hq : (q 1).val < 64 := (q 1).isLt; omega⟩ : Fin 128)) := fun q => resultIdx_of _ _ _ _ fun a => by
    match a with
    | ⟨0, _⟩ => show (0 : Int) + ((q 0).val : Int) = ((q 0).val : Int); exact zero_add _
    | ⟨1, _⟩ => show (0 : Int) + ((q 1).val : Int) = (((q 1).val : Nat) : Int); omega
  split
  · rename_i hl
    have e : (ix2 k l : S4096x128.Idx) = (fun q : S4096x64.Idx => (ix2 (q 0) (⟨(q 1).val, by have hq : (q 1).val < 64 := (q 1).isLt; omega⟩ : Fin 128) : S4096x128.Idx)) (ix2 k (⟨l.val, by omega⟩ : Fin 64)) := by
      funext a
      match a with
      | ⟨0, _⟩ => rfl
      | ⟨1, _⟩ => refine Fin.ext ?_; show l.val = l.val; omega
    rw [e]
    refine scatter_in _ x0 _ upd _ hf (fun q q' e => ?_) _
    funext a
    match a with
    | ⟨0, _⟩ => exact Fin.ext (congrArg Fin.val (congrFun e 0))
    | ⟨1, _⟩ => refine Fin.ext ?_; have e2 := congrArg Fin.val (congrFun e 1); have e3 : (q 1).val = (q' 1).val := e2; show (q 1).val = (q' 1).val; omega
  · rename_i hl
    refine scatter_out _ x0 _ upd _ hf _ fun q e => ?_
    have e2 : (q 1).val = l.val := congrArg Fin.val (congrFun e 1)
    have hq : (q 1).val < 64 := (q 1).isLt
    omega

theorem tab16_64 {α : Type} (x0 : S4096x128.Idx → α) (upd : S4096x16.Idx → α) (k : Fin 4096) (l : Fin 128) :
    Host.scatter scatter_S4096x128_S1_S4096x16_01_n_1_0 (fun _ b => b) x0 (broadcastInDim S1 ![] bcast_S_S1 (constantI S_ 32 64#32)) upd (ix2 k l)
      = if hl : 64 ≤ l.val ∧ l.val < 80 then upd (ix2 k ⟨l.val - 64, by omega⟩) else x0 (ix2 k l) := by
  have hf : ∀ q : S4096x16.Idx, scatter_S4096x128_S1_S4096x16_01_n_1_0.resultIdx? q (broadcastInDim S1 ![] bcast_S_S1 (constantI S_ 32 64#32))
      = some (ix2 (q 0) (⟨64 + (q 1).val, by have hq : (q 1).val < 16 := (q 1).isLt; omega⟩ : Fin 128)) := fun q => resultIdx_of _ _ _ _ fun a => by
    match a with
    | ⟨0, _⟩ => show (0 : Int) + ((q 0).val : Int) = ((q 0).val : Int); exact zero_add _
    | ⟨1, _⟩ => show (64 : Int) + ((q 1).val : Int) = ((64 + (q 1).val : Nat) : Int); omega
  split
  · rename_i hl
    have e : (ix2 k l : S4096x128.Idx) = (fun q : S4096x16.Idx => (ix2 (q 0) (⟨64 + (q 1).val, by have hq : (q 1).val < 16 := (q 1).isLt; omega⟩ : Fin 128) : S4096x128.Idx)) (ix2 k (⟨l.val - 64, by omega⟩ : Fin 16)) := by
      funext a
      match a with
      | ⟨0, _⟩ => rfl
      | ⟨1, _⟩ => refine Fin.ext ?_; show l.val = 64 + (l.val - 64); omega
    rw [e]
    refine scatter_in _ x0 _ upd _ hf (fun q q' e => ?_) _
    funext a
    match a with
    | ⟨0, _⟩ => exact Fin.ext (congrArg Fin.val (congrFun e 0))
    | ⟨1, _⟩ => refine Fin.ext ?_; have e2 := congrArg Fin.val (congrFun e 1); have e3 : 64 + (q 1).val = 64 + (q' 1).val := e2; show (q 1).val = (q' 1).val; omega
  · rename_i hl
    refine scatter_out _ x0 _ upd _ hf _ fun q e => ?_
    have e2 : 64 + (q 1).val = l.val := congrArg Fin.val (congrFun e 1)
    have hq : (q 1).val < 16 := (q 1).isLt
    omega

theorem tab16_80 {α : Type} (x0 : S4096x128.Idx → α) (upd : S4096x16.Idx → α) (k : Fin 4096) (l : Fin 128) :
    Host.scatter scatter_S4096x128_S1_S4096x16_01_n_1_0 (fun _ b => b) x0 (broadcastInDim S1 ![] bcast_S_S1 (constantI S_ 32 80#32)) upd (ix2 k l)
      = if hl : 80 ≤ l.val ∧ l.val < 96 then upd (ix2 k ⟨l.val - 80, by omega⟩) else x0 (ix2 k l) := by
  have hf : ∀ q : S4096x16.Idx, scatter_S4096x128_S1_S4096x16_01_n_1_0.resultIdx? q (broadcastInDim S1 ![] bcast_S_S1 (constantI S_ 32 80#32))
      = some (ix2 (q 0) (⟨80 + (q 1).val, by have hq : (q 1).val < 16 := (q 1).isLt; omega⟩ : Fin 128)) := fun q => resultIdx_of _ _ _ _ fun a => by
    match a with
    | ⟨0, _⟩ => show (0 : Int) + ((q 0).val : Int) = ((q 0).val : Int); exact zero_add _
    | ⟨1, _⟩ => show (80 : Int) + ((q 1).val : Int) = ((80 + (q 1).val : Nat) : Int); omega
  split
  · rename_i hl
    have e : (ix2 k l : S4096x128.Idx) = (fun q : S4096x16.Idx => (ix2 (q 0) (⟨80 + (q 1).val, by have hq : (q 1).val < 16 := (q 1).isLt; omega⟩ : Fin 128) : S4096x128.Idx)) (ix2 k (⟨l.val - 80, by omega⟩ : Fin 16)) := by
      funext a
      match a with
      | ⟨0, _⟩ => rfl
      | ⟨1, _⟩ => refine Fin.ext ?_; show l.val = 80 + (l.val - 80); omega
    rw [e]
    refine scatter_in _ x0 _ upd _ hf (fun q q' e => ?_) _
    funext a
    match a with
    | ⟨0, _⟩ => exact Fin.ext (congrArg Fin.val (congrFun e 0))
    | ⟨1, _⟩ => refine Fin.ext ?_; have e2 := congrArg Fin.val (congrFun e 1); have e3 : 80 + (q 1).val = 80 + (q' 1).val := e2; show (q 1).val = (q' 1).val; omega
  · rename_i hl
    refine scatter_out _ x0 _ upd _ hf _ fun q e => ?_
    have e2 : 80 + (q 1).val = l.val := congrArg Fin.val (congrFun e 1)
    have hq : (q 1).val < 16 := (q 1).isLt
    omega

theorem pad_norm {α : Type} (x0 : S1x128.Idx → α) (idx : IVec S2 32) (upd : S64.Idx → α) (l : Fin 128) (h : ∀ i, idx i = 0#32) :
    Host.scatter scatter_S1x128_S2_S64_0_0_01_0 (fun _ b => b) x0 idx upd (ix2 0 l)
      = if hl : l.val < 64 then upd (ix1 ⟨l.val, hl⟩) else x0 (ix2 0 l) := by
  obtain rfl : idx = fun _ => 0#32 := funext h
  have hf : ∀ q : S64.Idx, scatter_S1x128_S2_S64_0_0_01_0.resultIdx? q (fun _ => 0#32)
      = some (ix2 (0 : Fin 1) (⟨(q 0).val, by have hq : (q 0).val < 64 := (q 0).isLt; omega⟩ : Fin 128)) := fun q => resultIdx_of _ _ _ _ fun a => by
    match a with
    | ⟨0, _⟩ => rfl
    | ⟨1, _⟩ => show (0 : Int) + ((q 0).val : Int) = ((q 0).val : Int); exact zero_add _
  split
  · rename_i hl
    have e : (ix2 0 l : S1x128.Idx) = (fun q : S64.Idx => (ix2 (0 : Fin 1) (⟨(q 0).val, by have hq : (q 0).val < 64 := (q 0).isLt; omega⟩ : Fin 128) : S1x128.Idx)) (ix1 ⟨l.val, hl⟩) := by
      funext a
      match a with
      | ⟨0, _⟩ => rfl
      | ⟨1, _⟩ => rfl
    rw [e]
    refine scatter_in _ x0 _ upd _ hf (fun q q' e => ?_) _
    funext a
    match a with
    | ⟨0, _⟩ => refine Fin.ext ?_; have e2 := congrArg Fin.val (congrFun e 1); exact e2
  · rename_i hl
    refine scatter_out _ x0 _ upd _ hf _ fun q e => ?_
    have e2 : (q 0).val = l.val := congrArg Fin.val (congrFun e 1)
    have hq : (q 0).val < 64 := (q 0).isLt
    omega

end Cert.KernelInIdeal.Block

end
-- ==== Proof.InHost.lean ====
/- The input projection call's host operations: the padded weights and the rotary tables that its blocks read, element by element. -/
module

public import proofs.«01_k».proof.Proof.InPad
public import Idealize.ShloMosaic.Lib.Routing.OpsSet
public import Idealize.ShloMosaic.Lib.StableHlo.ReadAt

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise Idealize.ShloMosaic.Routing

variable (m : (ℓ : Loc nD τ sig) → Buf (Elt Ideal) ℓ) (c : Dev nD)

/-- The number that the host code multiplies the grouped call's rotary tables by. -/
abbrev scaleA : EReal := Ideal.ofBits .f32 0x3E38AA3B#32

/-- The number that the host code multiplies the latent call's query tables by. -/
abbrev scaleB : EReal := Ideal.ofBits .f32 0x3E16C740#32

theorem host_norm (d : Fin 1024) :
    (V m c main_v99 : Vec Ideal S1x1024 .f32) (ix2 0 d) = m (c.tc.loc main_arg2) (ix1 d) := by
  unfold V
  after_reads_at

theorem host_ql (d : Fin 384) :
    (V m c main_v110 : Vec Ideal S1x384 .f32) (ix2 0 d) = m (c.tc.loc main_arg6) (ix1 d) := by
  unfold V
  after_reads_at

theorem host_kvl (d : Fin 256) :
    (V m c main_v111 : Vec Ideal S1x256 .f32) (ix2 0 d) = m (c.tc.loc main_arg7) (ix1 d) := by
  unfold V
  after_reads_at

theorem win_qa (k : Fin 1024) (d : Fin 512) :
    (V m c main_v75 : Vec Ideal S1024x3840 .bf16) (ix2 k ⟨d.val, by omega⟩) = m (c.tc.loc main_arg3) (ix2 k (⟨d.val, by omega⟩ : Fin 3488)) := by
  unfold V
  after_reads_at
  after_reads_at

theorem win_ql (k : Fin 1024) (d : Fin 384) :
    (V m c main_v75 : Vec Ideal S1024x3840 .bf16) (ix2 k ⟨1024 + d.val, by omega⟩) = m (c.tc.loc main_arg3) (ix2 k (⟨768 + d.val, by omega⟩ : Fin 3488)) := by
  unfold V
  after_reads_at
  rw [dif_neg (by omega), dif_neg (by omega), dif_neg (by omega), dif_pos (by omega)]
  after_reads_at
  refine congrArg (m (c.tc.loc main_arg3)) (congrArg (ix2 k) (Fin.ext ?_))
  dsimp only
  omega

theorem win_kvl (k : Fin 1024) (d : Fin 256) :
    (V m c main_v75 : Vec Ideal S1024x3840 .bf16) (ix2 k ⟨1408 + d.val, by omega⟩) = m (c.tc.loc main_arg3) (ix2 k (⟨1152 + d.val, by omega⟩ : Fin 3488)) := by
  unfold V
  after_reads_at
  rw [dif_neg (by omega), dif_neg (by omega), dif_neg (by omega), dif_neg (by omega), dif_pos (by omega)]
  after_reads_at
  refine congrArg (m (c.tc.loc main_arg3)) (congrArg (ix2 k) (Fin.ext ?_))
  dsimp only
  omega

theorem win_ga (k : Fin 1024) (d : Fin 1024) :
    (V m c main_v75 : Vec Ideal S1024x3840 .bf16) (ix2 k ⟨1792 + d.val, by omega⟩) = m (c.tc.loc main_arg3) (ix2 k (⟨1440 + d.val, by omega⟩ : Fin 3488)) := by
  unfold V
  after_reads_at
  rw [dif_neg (by omega), dif_neg (by omega), dif_neg (by omega), dif_neg (by omega), dif_neg (by omega), dif_neg (by omega), dif_pos (by omega)]
  after_reads_at
  refine congrArg (m (c.tc.loc main_arg3)) (congrArg (ix2 k) (Fin.ext ?_))
  dsimp only
  omega

theorem win_gb (k : Fin 1024) (d : Fin 1024) :
    (V m c main_v75 : Vec Ideal S1024x3840 .bf16) (ix2 k ⟨2816 + d.val, by omega⟩) = m (c.tc.loc main_arg3) (ix2 k (⟨2464 + d.val, by omega⟩ : Fin 3488)) := by
  unfold V
  after_reads_at
  rw [dif_neg (by omega), dif_neg (by omega), dif_neg (by omega), dif_neg (by omega), dif_neg (by omega), dif_neg (by omega), dif_neg (by omega)]
  after_reads_at
  refine congrArg (m (c.tc.loc main_arg3)) (congrArg (ix2 k) (Fin.ext ?_))
  dsimp only
  omega

theorem win_va (k : Fin 1024) (d : Fin 256) :
    (V m c main_v75 : Vec Ideal S1024x3840 .bf16) (ix2 k ⟨768 + d.val, by omega⟩)
      = if h : d.val % 128 < 64 then m (c.tc.loc main_arg3) (ix2 k (⟨640 + (d.val / 128 * 64 + d.val % 128), by omega⟩ : Fin 3488)) else (0 : EReal) := by
  unfold V
  after_reads_at
  rw [dif_neg (by omega), dif_neg (by omega), dif_pos (by omega)]
  after_reads_at
  have e : 768 + d.val - 512 - 256 = d.val := by omega
  simp only [e]
  refine (pad_heads _ _ _ _ _).trans ?_
  by_cases hl : d.val % 128 < 64
  · refine (dif_pos hl).trans (Eq.trans ?_ (dif_pos hl).symm)
    dsimp only
    refine congrArg (m (c.tc.loc main_arg3)) (congrArg (ix2 k) (Fin.ext ?_))
    have key : 640 + (d.val / 128 * 64 + d.val % 128) = 640 + (d.val / 128 * 64 + d.val % 128) := rfl
    exact key
  · refine (dif_neg hl).trans (Eq.trans ?_ (dif_neg hl).symm)
    pointwise []

theorem win_kr (k : Fin 1024) (d : Fin 128) :
    (V m c main_v75 : Vec Ideal S1024x3840 .bf16) (ix2 k ⟨1664 + d.val, by omega⟩)
      = if h : 64 ≤ d.val ∧ d.val < 96 then m (c.tc.loc main_arg3) (ix2 k (⟨1408 + (d.val - 64), by omega⟩ : Fin 3488)) else (0 : EReal) := by
  unfold V
  after_reads_at
  rw [dif_neg (by omega), dif_neg (by omega), dif_neg (by omega), dif_neg (by omega), dif_neg (by omega), dif_pos (by omega)]
  after_reads_at
  have e : 1664 + d.val - 512 - 256 - 256 - 384 - 256 = d.val := by omega
  simp only [e]
  rw [pad_key]
  by_cases hl : 64 ≤ d.val ∧ d.val < 96
  · rw [dif_pos hl, dif_pos hl]
    pointwise []
  · rw [dif_neg hl, dif_neg hl]
    try pointwise []

theorem host_wq (k : Fin 384) (d : Fin 1024) :
    (V m c main_v81 : Vec Ideal S384x1024 .bf16) (ix2 k d)
      = if h : d.val % 128 < 96 then m (c.tc.loc main_arg8) (ix2 k (⟨d.val / 128 * 96 + d.val % 128, by omega⟩ : Fin 768)) else (0 : EReal) := by
  unfold V
  after_reads_at
  rw [pad_q]
  by_cases hl : d.val % 128 < 96
  · rw [dif_pos hl, dif_pos hl]
    rfl
  · rw [dif_neg hl, dif_neg hl]
    try pointwise []

theorem host_wk (k : Fin 256) (d : Fin 1024) :
    (V m c main_v90 : Vec Ideal S256x1024 .bf16) (ix2 k d)
      = if d.val % 128 < 64 then m (c.tc.loc main_arg9) (ix2 k d) else (0 : EReal) := by
  unfold V
  after_reads_at
  refine (pad_kv _ _ _ _ _).trans ?_
  by_cases hl : d.val % 128 < 64
  · refine (dif_pos hl).trans (Eq.trans ?_ (if_pos hl).symm)
    dsimp only
    refine congrArg (m (c.tc.loc main_arg9)) (congrArg (ix2 k) (Fin.ext ?_))
    have key : (d.val / 128 * 64 + d.val % 128) / 64 * 128 + (d.val / 128 * 64 + d.val % 128) % 64 = d.val := by omega
    exact key
  · refine (dif_neg hl).trans (Eq.trans ?_ (if_neg hl).symm)
    pointwise []

theorem host_wv (k : Fin 256) (d : Fin 1024) :
    (V m c main_v98 : Vec Ideal S256x1024 .bf16) (ix2 k d)
      = if h : d.val % 128 < 64 then m (c.tc.loc main_arg9) (ix2 k (⟨d.val + 64, by omega⟩ : Fin 1024)) else (0 : EReal) := by
  unfold V
  after_reads_at
  refine (pad_kv _ _ _ _ _).trans ?_
  by_cases hl : d.val % 128 < 64
  · refine (dif_pos hl).trans (Eq.trans ?_ (dif_pos hl).symm)
    dsimp only
    refine congrArg (m (c.tc.loc main_arg9)) (congrArg (ix2 k) (Fin.ext ?_))
    have key : (d.val / 128 * 64 + d.val % 128) / 64 * 128 + (64 + (d.val / 128 * 64 + d.val % 128) % 64) = d.val + 64 := by omega
    exact key
  · refine (dif_neg hl).trans (Eq.trans ?_ (dif_neg hl).symm)
    pointwise []

theorem host_gq (d : Fin 128) :
    (V m c main_v104 : Vec Ideal S1x128 .f32) (ix2 0 d)
      = if h : d.val < 64 then m (c.tc.loc main_arg4) (ix1 (⟨d.val, h⟩ : Fin 64)) else (0 : EReal) := by
  unfold V
  after_reads_at
  rw [pad_norm _ _ _ _ (fun i => ?_)]
  · by_cases hl : d.val < 64
    · rw [dif_pos hl, dif_pos hl]
    · rw [dif_neg hl, dif_neg hl]
      try pointwise []
  · obtain ⟨j, rfl⟩ : ∃ j : Fin 2, i = ix1 j := ⟨i 0, by funext a; fin_cases a; rfl⟩
    after_reads_at
    split <;> rfl

theorem ta0 (s : Fin 4096) (d : Fin 128) :
    (V m c main_v17 : Vec Ideal S3x4096x128 .f32) (ix3 0 s d)
      = (if h : 32 ≤ d.val ∧ d.val < 64 then m (c.tc.loc main_arg10) (ix2 s (⟨d.val - 32, by omega⟩ : Fin 32)) else if h : d.val < 32 then m (c.tc.loc main_arg10) (ix2 s (⟨d.val, by omega⟩ : Fin 32)) else (0 : EReal) : EReal) * scaleA := by
  unfold V
  after_reads_at
  try after_reads_at
  try after_reads_at
  rw [tab32_32, tab32_0]
  refine congrArg (· * _) ?_
  by_cases h32 : 32 ≤ d.val ∧ d.val < 64
  · rw [dif_pos h32, dif_pos h32]
    try (first | rfl | pointwise [])
  · rw [dif_neg h32, dif_neg h32]
    by_cases h0 : d.val < 32
    · rw [dif_pos h0, dif_pos h0]
      try (first | rfl | pointwise [])
    · rw [dif_neg h0, dif_neg h0]
      try pointwise []

theorem ta1 (s : Fin 4096) (d : Fin 128) :
    (V m c main_v17 : Vec Ideal S3x4096x128 .f32) (ix3 1 s d)
      = (if h : d.val < 32 then -(show EReal from m (c.tc.loc main_arg11) (ix2 s (⟨d.val, by omega⟩ : Fin 32))) else (0 : EReal) : EReal) * scaleA := by
  unfold V
  after_reads_at
  try after_reads_at
  try after_reads_at
  rw [tab32_0]
  refine congrArg (· * _) ?_
  by_cases h0 : d.val < 32
  · rw [dif_pos h0, dif_pos h0]
    try (first | rfl | pointwise [])
  · rw [dif_neg h0, dif_neg h0]
    try pointwise []

theorem ta2 (s : Fin 4096) (d : Fin 128) :
    (V m c main_v17 : Vec Ideal S3x4096x128 .f32) (ix3 2 s d)
      = (if h : 32 ≤ d.val ∧ d.val < 64 then m (c.tc.loc main_arg11) (ix2 s (⟨d.val - 32, by omega⟩ : Fin 32)) else (0 : EReal) : EReal) * scaleA := by
  unfold V
  after_reads_at
  try after_reads_at
  try after_reads_at
  rw [tab32_32]
  refine congrArg (· * _) ?_
  by_cases h32 : 32 ≤ d.val ∧ d.val < 64
  · rw [dif_pos h32, dif_pos h32]
    try (first | rfl | pointwise [])
  · rw [dif_neg h32, dif_neg h32]
    try pointwise []

theorem tb0 (s : Fin 4096) (d : Fin 128) :
    (V m c main_v50 : Vec Ideal S6x4096x128 .f32) (ix3 0 s d)
      = (if h : 80 ≤ d.val ∧ d.val < 96 then m (c.tc.loc main_arg12) (ix2 s (⟨d.val - 80, by omega⟩ : Fin 16)) else if h : 64 ≤ d.val ∧ d.val < 80 then m (c.tc.loc main_arg12) (ix2 s (⟨d.val - 64, by omega⟩ : Fin 16)) else if d.val < 64 then (1 : EReal) else 0 : EReal) * scaleB := by
  unfold V
  after_reads_at
  try after_reads_at
  try after_reads_at
  rw [tab16_80, tab16_64, tab64_0]
  refine congrArg (· * _) ?_
  by_cases h80 : 80 ≤ d.val ∧ d.val < 96
  · rw [dif_pos h80, dif_pos h80]
    try (first | rfl | pointwise [])
  · rw [dif_neg h80, dif_neg h80]
    by_cases h64 : 64 ≤ d.val ∧ d.val < 80
    · rw [dif_pos h64, dif_pos h64]
      try (first | rfl | pointwise [])
    · rw [dif_neg h64, dif_neg h64]
      by_cases h1 : d.val < 64
      · rw [dif_pos h1, if_pos h1]
        try pointwise []
      · rw [dif_neg h1, if_neg h1]
        try pointwise []

theorem tb1 (s : Fin 4096) (d : Fin 128) :
    (V m c main_v50 : Vec Ideal S6x4096x128 .f32) (ix3 1 s d)
      = (if h : 64 ≤ d.val ∧ d.val < 80 then -(show EReal from m (c.tc.loc main_arg13) (ix2 s (⟨d.val - 64, by omega⟩ : Fin 16))) else (0 : EReal) : EReal) * scaleB := by
  unfold V
  after_reads_at
  try after_reads_at
  try after_reads_at
  rw [tab16_64]
  refine congrArg (· * _) ?_
  by_cases h64 : 64 ≤ d.val ∧ d.val < 80
  · rw [dif_pos h64, dif_pos h64]
    try (first | rfl | pointwise [])
  · rw [dif_neg h64, dif_neg h64]
    try pointwise []

theorem tb2 (s : Fin 4096) (d : Fin 128) :
    (V m c main_v50 : Vec Ideal S6x4096x128 .f32) (ix3 2 s d)
      = (if h : 80 ≤ d.val ∧ d.val < 96 then m (c.tc.loc main_arg13) (ix2 s (⟨d.val - 80, by omega⟩ : Fin 16)) else (0 : EReal) : EReal) * scaleB := by
  unfold V
  after_reads_at
  try after_reads_at
  try after_reads_at
  rw [tab16_80]
  refine congrArg (· * _) ?_
  by_cases h80 : 80 ≤ d.val ∧ d.val < 96
  · rw [dif_pos h80, dif_pos h80]
    try (first | rfl | pointwise [])
  · rw [dif_neg h80, dif_neg h80]
    try pointwise []

theorem tb3 (s : Fin 4096) (d : Fin 128) :
    (V m c main_v50 : Vec Ideal S6x4096x128 .f32) (ix3 3 s d)
      = (if h : 80 ≤ d.val ∧ d.val < 96 then m (c.tc.loc main_arg12) (ix2 s (⟨d.val - 80, by omega⟩ : Fin 16)) else if h : 64 ≤ d.val ∧ d.val < 80 then m (c.tc.loc main_arg12) (ix2 s (⟨d.val - 64, by omega⟩ : Fin 16)) else (0 : EReal) : EReal) := by
  unfold V
  after_reads_at
  try after_reads_at
  try after_reads_at
  rw [tab16_80, tab16_64]
  by_cases h80 : 80 ≤ d.val ∧ d.val < 96
  · rw [dif_pos h80, dif_pos h80]
    try (first | rfl | pointwise [])
  · rw [dif_neg h80, dif_neg h80]
    by_cases h64 : 64 ≤ d.val ∧ d.val < 80
    · rw [dif_pos h64, dif_pos h64]
      try (first | rfl | pointwise [])
    · rw [dif_neg h64, dif_neg h64]
      try pointwise []

theorem tb4 (s : Fin 4096) (d : Fin 128) :
    (V m c main_v50 : Vec Ideal S6x4096x128 .f32) (ix3 4 s d)
      = (if h : 64 ≤ d.val ∧ d.val < 80 then -(show EReal from m (c.tc.loc main_arg13) (ix2 s (⟨d.val - 64, by omega⟩ : Fin 16))) else (0 : EReal) : EReal) := by
  unfold V
  after_reads_at
  try after_reads_at
  try after_reads_at
  rw [tab16_64]
  by_cases h64 : 64 ≤ d.val ∧ d.val < 80
  · rw [dif_pos h64, dif_pos h64]
    try (first | rfl | pointwise [])
  · rw [dif_neg h64, dif_neg h64]
    try pointwise []

theorem tb5 (s : Fin 4096) (d : Fin 128) :
    (V m c main_v50 : Vec Ideal S6x4096x128 .f32) (ix3 5 s d)
      = (if h : 80 ≤ d.val ∧ d.val < 96 then m (c.tc.loc main_arg13) (ix2 s (⟨d.val - 80, by omega⟩ : Fin 16)) else (0 : EReal) : EReal) := by
  unfold V
  after_reads_at
  try after_reads_at
  try after_reads_at
  rw [tab16_80]
  by_cases h80 : 80 ≤ d.val ∧ d.val < 96
  · rw [dif_pos h80, dif_pos h80]
    try (first | rfl | pointwise [])
  · rw [dif_neg h80, dif_neg h80]
    try pointwise []

end Cert.KernelInIdeal.Block

end
-- ==== Proof.InSpec.lean ====
/- What the input projection call computes, as functions of its arguments: the modulated rows, their projection, the gates, the values, the keys and the queries. -/
module

public import proofs.«01_k».proof.Proof.InHost

@[expose] public section

set_option maxRecDepth 16384

noncomputable section

namespace Cert.InSpec

open Cert.KernelInIdeal Idealize.ShloMosaic Idealize.ShloMosaic.TcCoe
open Cert.KernelInIdeal.Block (hrow rms scaleA scaleB)

variable (a0 : FVec Ideal S8x4096x1024 .f32) (a1 : FVec Ideal S8x6x1024 .f32) (a2 : FVec Ideal S1024 .f32) (a3 : FVec Ideal S1024x3488 .f32)

/-- The modulated row: the normalised row, scaled and shifted by the batch's vectors. -/
def hS (b : Fin 8) (s : Fin 4096) (d : Fin 1024) : EReal :=
  hrow (fun j => a0 (ix3 b s j)) (fun j => a2 (ix1 j)) (fun j => a1 (ix3 b 1 j)) (fun j => a1 (ix3 b 0 j)) d

/-- The row's projection by the input weights. -/
def zS (b : Fin 8) (s : Fin 4096) (q : Fin 3488) : EReal := ∑ k : Fin 1024, hS a0 a1 a2 b s k * a3 (ix2 k q)

/-- The gate of the grouped call. -/
def gaA : FVec Ideal S8x4096x1024 .bf16 := fun i =>
  Ideal.logistic (zS a0 a1 a2 a3 (i 0) (i 1) ⟨1440 + (i 2).val, by have h : (i 2).val < 1024 := (i 2).isLt; omega⟩)

/-- The gate of the latent call. -/
def gbA : FVec Ideal S8x4096x1024 .bf16 := fun i =>
  Ideal.logistic (zS a0 a1 a2 a3 (i 0) (i 1) ⟨2464 + (i 2).val, by have h : (i 2).val < 1024 := (i 2).isLt; omega⟩)

/-- One lane of the grouped call's values: 64 values, then a one, then zeros. -/
def vaS (b : Fin 8) (s : Fin 4096) (d : Fin 256) : EReal :=
  if h : d.val % 128 < 64 then zS a0 a1 a2 a3 b s ⟨640 + (d.val / 128 * 64 + d.val % 128), by omega⟩ else if d.val % 128 = 64 then 1 else 0

/-- The values of the grouped call. -/
def vaA : FVec Ideal S8x4096x256 .bf16 := fun i => vaS a0 a1 a2 a3 (i 0) (i 1) (i 2)

variable (a7 : FVec Ideal S256 .f32) (a9 : FVec Ideal S256x1024 .f32)

/-- The normalised latent row of keys and values. -/
def kvS (b : Fin 8) (s : Fin 4096) (e : Fin 256) : EReal :=
  rms ((1 / 256 : ℝ) : EReal) (fun j => zS a0 a1 a2 a3 b s ⟨1152 + j.val, by omega⟩) (fun j => a7 (ix1 j)) e

/-- One lane of the latent call's values: 64 values, then a one, then zeros. -/
def vbS (b : Fin 8) (s : Fin 4096) (d : Fin 1024) : EReal :=
  if h : d.val % 128 < 64 then ∑ k : Fin 256, kvS a0 a1 a2 a3 a7 b s k * a9 (ix2 k (⟨d.val + 64, by omega⟩ : Fin 1024))
  else if d.val % 128 = 64 then 1 else 0

/-- The values of the latent call. -/
def vbA : FVec Ideal S8x4096x1024 .bf16 := fun i => vbS a0 a1 a2 a3 a7 a9 (i 0) (i 1) (i 2)

end Cert.InSpec

end
-- ==== Proof.InArr.lean ====
/- The input projection call's blocks: what each grid point loads, in terms of the call's arguments and of the host code's arrays. -/
module

public import proofs.«01_k».proof.Proof.InSpec
public import Idealize.ShloMosaic.Lib.Routing.OpsSet
public import Idealize.ShloMosaic.Lib.StableHlo.ReadAt

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise Idealize.ShloMosaic.Routing

open Cert.InSpec

theorem index_in : ∀ t : Fin cfg0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_11.index t 0 = 0 ∧ win0_11.index t 1 = t.val % 8 ∧ win0_11.index t 2 = 0)
    ∧ (win0_12.index t 0 = 0 ∧ win0_12.index t 1 = t.val % 8 ∧ win0_12.index t 2 = 0) := by
  decide +kernel

variable (m : (ℓ : Loc nD τ sig) → Buf (Elt Ideal) ℓ) (c : Dev nD)

theorem lt_N (t : Fin cfg0.N) : t.val < 64 := by have h : cfg0.N = 64 := N_0; have := t.isLt; omega

/-- The batch entry of a grid point. -/
abbrev bAt (t : Fin cfg0.N) : Fin 8 := ⟨t.val / 8, by have := lt_N t; omega⟩

/-- The row of a grid point's block. -/
abbrev sAt (t : Fin cfg0.N) (r : Fin 512) : Fin 4096 := ⟨512 * (t.val % 8) + r.val, by omega⟩

variable (t : Fin cfg0.N)

theorem x_blk (r : Fin 512) (j : Fin 1024) :
    (iblk m c 0 t : Vec Ideal S1x512x1024 .f32) (ix3 0 r j) = m (c.tc.loc main_arg0) (ix3 (bAt t) (sAt t r) j) := by
  obtain ⟨⟨h0, h1, h2⟩, -⟩ := index_in t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 8; rw [h0]; omega
  | ⟨1, _⟩ => show win0_0.index t 1 * 512 + 1 * r.val = 512 * (t.val % 8) + r.val; rw [h1]; omega
  | ⟨2, _⟩ => show win0_0.index t 2 * 1024 + 1 * j.val = j.val; rw [h2]; omega

theorem md_blk (q : Fin 6) (j : Fin 1024) :
    (iblk m c 1 t : Vec Ideal S1x6x1024 .f32) (ix3 0 q j) = m (c.tc.loc main_arg1) (ix3 (bAt t) q j) := by
  obtain ⟨-, ⟨h0, h1, h2⟩, -⟩ := index_in t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 8; rw [h0]; omega
  | ⟨1, _⟩ => show win0_1.index t 1 * 6 + 1 * q.val = q.val; rw [h1]; omega
  | ⟨2, _⟩ => show win0_1.index t 2 * 1024 + 1 * j.val = j.val; rw [h2]; omega

theorem norm_blk (k : Fin 1) (j : Fin 1024) :
    (iblk m c 2 t : Vec Ideal S1x1024 .f32) (ix2 k j) = (V m c main_v99 : Vec Ideal S1x1024 .f32) (ix2 k j) := by
  unfold iblk
  rw [View.read_apply]
  show V m c main_v99 _ = V m c main_v99 _
  congr 1
  funext a
  apply Fin.ext
  match a with
  | ⟨0, _⟩ => show 0 * 1 + 1 * k.val = k.val; omega
  | ⟨1, _⟩ => show 0 * 1024 + 1 * j.val = j.val; omega

theorem win_blk (k : Fin 1024) (j : Fin 3840) :
    (iblk m c 3 t : Vec Ideal S1024x3840 .bf16) (ix2 k j) = (V m c main_v75 : Vec Ideal S1024x3840 .bf16) (ix2 k j) := by
  unfold iblk
  rw [View.read_apply]
  show V m c main_v75 _ = V m c main_v75 _
  congr 1
  funext a
  apply Fin.ext
  match a with
  | ⟨0, _⟩ => show 0 * 1024 + 1 * k.val = k.val; omega
  | ⟨1, _⟩ => show 0 * 3840 + 1 * j.val = j.val; omega

theorem gq_blk (k : Fin 1) (j : Fin 128) :
    (iblk m c 4 t : Vec Ideal S1x128 .f32) (ix2 k j) = (V m c main_v104 : Vec Ideal S1x128 .f32) (ix2 k j) := by
  unfold iblk
  rw [View.read_apply]
  show V m c main_v104 _ = V m c main_v104 _
  congr 1
  funext a
  apply Fin.ext
  match a with
  | ⟨0, _⟩ => show 0 * 1 + 1 * k.val = k.val; omega
  | ⟨1, _⟩ => show 0 * 128 + 1 * j.val = j.val; omega

theorem ql_blk (k : Fin 1) (j : Fin 384) :
    (iblk m c 6 t : Vec Ideal S1x384 .f32) (ix2 k j) = (V m c main_v110 : Vec Ideal S1x384 .f32) (ix2 k j) := by
  unfold iblk
  rw [View.read_apply]
  show V m c main_v110 _ = V m c main_v110 _
  congr 1
  funext a
  apply Fin.ext
  match a with
  | ⟨0, _⟩ => show 0 * 1 + 1 * k.val = k.val; omega
  | ⟨1, _⟩ => show 0 * 384 + 1 * j.val = j.val; omega

theorem kvl_blk (k : Fin 1) (j : Fin 256) :
    (iblk m c 7 t : Vec Ideal S1x256 .f32) (ix2 k j) = (V m c main_v111 : Vec Ideal S1x256 .f32) (ix2 k j) := by
  unfold iblk
  rw [View.read_apply]
  show V m c main_v111 _ = V m c main_v111 _
  congr 1
  funext a
  apply Fin.ext
  match a with
  | ⟨0, _⟩ => show 0 * 1 + 1 * k.val = k.val; omega
  | ⟨1, _⟩ => show 0 * 256 + 1 * j.val = j.val; omega

theorem wq_blk (k : Fin 384) (j : Fin 1024) :
    (iblk m c 8 t : Vec Ideal S384x1024 .bf16) (ix2 k j) = (V m c main_v81 : Vec Ideal S384x1024 .bf16) (ix2 k j) := by
  unfold iblk
  rw [View.read_apply]
  show V m c main_v81 _ = V m c main_v81 _
  congr 1
  funext a
  apply Fin.ext
  match a with
  | ⟨0, _⟩ => show 0 * 384 + 1 * k.val = k.val; omega
  | ⟨1, _⟩ => show 0 * 1024 + 1 * j.val = j.val; omega

theorem wk_blk (k : Fin 256) (j : Fin 1024) :
    (iblk m c 9 t : Vec Ideal S256x1024 .bf16) (ix2 k j) = (V m c main_v90 : Vec Ideal S256x1024 .bf16) (ix2 k j) := by
  unfold iblk
  rw [View.read_apply]
  show V m c main_v90 _ = V m c main_v90 _
  congr 1
  funext a
  apply Fin.ext
  match a with
  | ⟨0, _⟩ => show 0 * 256 + 1 * k.val = k.val; omega
  | ⟨1, _⟩ => show 0 * 1024 + 1 * j.val = j.val; omega

theorem wv_blk (k : Fin 256) (j : Fin 1024) :
    (iblk m c 10 t : Vec Ideal S256x1024 .bf16) (ix2 k j) = (V m c main_v98 : Vec Ideal S256x1024 .bf16) (ix2 k j) := by
  unfold iblk
  rw [View.read_apply]
  show V m c main_v98 _ = V m c main_v98 _
  congr 1
  funext a
  apply Fin.ext
  match a with
  | ⟨0, _⟩ => show 0 * 256 + 1 * k.val = k.val; omega
  | ⟨1, _⟩ => show 0 * 1024 + 1 * j.val = j.val; omega

theorem ta_blk (q : Fin 3) (r : Fin 512) (j : Fin 128) :
    (iblk m c 11 t : Vec Ideal S3x512x128 .f32) (ix3 q r j) = (V m c main_v17 : Vec Ideal S3x4096x128 .f32) (ix3 q (sAt t r) j) := by
  obtain ⟨-, -, ⟨h0, h1, h2⟩, -⟩ := index_in t
  unfold iblk
  rw [View.read_apply]
  show V m c main_v17 _ = V m c main_v17 _
  congr 1
  funext a
  apply Fin.ext
  match a with
  | ⟨0, _⟩ => show win0_11.index t 0 * 3 + 1 * q.val = q.val; rw [h0]; omega
  | ⟨1, _⟩ => show win0_11.index t 1 * 512 + 1 * r.val = 512 * (t.val % 8) + r.val; rw [h1]; omega
  | ⟨2, _⟩ => show win0_11.index t 2 * 128 + 1 * j.val = j.val; rw [h2]; omega

theorem tb_blk (q : Fin 6) (r : Fin 512) (j : Fin 128) :
    (iblk m c 12 t : Vec Ideal S6x512x128 .f32) (ix3 q r j) = (V m c main_v50 : Vec Ideal S6x4096x128 .f32) (ix3 q (sAt t r) j) := by
  obtain ⟨-, -, -, ⟨h0, h1, h2⟩⟩ := index_in t
  unfold iblk
  rw [View.read_apply]
  show V m c main_v50 _ = V m c main_v50 _
  congr 1
  funext a
  apply Fin.ext
  match a with
  | ⟨0, _⟩ => show win0_12.index t 0 * 6 + 1 * q.val = q.val; rw [h0]; omega
  | ⟨1, _⟩ => show win0_12.index t 1 * 512 + 1 * r.val = 512 * (t.val % 8) + r.val; rw [h1]; omega
  | ⟨2, _⟩ => show win0_12.index t 2 * 128 + 1 * j.val = j.val; rw [h2]; omega

end Cert.KernelInIdeal.Block

end
-- ==== Proof.InLd.lean ====
/- The input projection call's loads, in terms of the call's arguments and of the host code's arrays, and the modulated row of a block. -/
module

public import proofs.«01_k».proof.Proof.InArr
public import Idealize.ShloMosaic.Lib.Pipeline.ValueKit.Tiles

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise Idealize.ShloMosaic.Routing

open Cert.InSpec

variable (m : (ℓ : Loc nD τ sig) → Buf (Elt Ideal) ℓ) (c : Dev nD) (t : Fin cfg0.N)

theorem ld_x (r : Fin 512) (j : Fin 1024) : View.ld (iblk m c 0 t : Vec Ideal S1x512x1024 .f32) r0_0 (ix3 0 r j) = m (c.tc.loc main_arg0) (ix3 (bAt t) (sAt t r) j) :=
  (View.ld_unit_apply_of _ _ _ _ _ (ix3 0 r j) (fun a => by
    match a with
    | ⟨0, _⟩ => exact rfl
    | ⟨1, _⟩ => exact (Nat.zero_add _).symm
    | ⟨2, _⟩ => exact (Nat.zero_add _).symm)).trans (x_blk m c t r j)

theorem ld_md0 (j : Fin 1024) : View.ld (iblk m c 1 t : Vec Ideal S1x6x1024 .f32) r0_1 (ix3 0 0 j) = m (c.tc.loc main_arg1) (ix3 (bAt t) 0 j) :=
  (View.ld_unit_apply_of _ _ _ _ _ (ix3 0 0 j) (fun a => by
    match a with
    | ⟨0, _⟩ => exact rfl
    | ⟨1, _⟩ => exact rfl
    | ⟨2, _⟩ => exact (Nat.zero_add _).symm)).trans (md_blk m c t 0 j)

theorem ld_md1 (j : Fin 1024) : View.ld (iblk m c 1 t : Vec Ideal S1x6x1024 .f32) r0_2 (ix3 0 0 j) = m (c.tc.loc main_arg1) (ix3 (bAt t) 1 j) :=
  (View.ld_unit_apply_of _ _ _ _ _ (ix3 0 1 j) (fun a => by
    match a with
    | ⟨0, _⟩ => exact rfl
    | ⟨1, _⟩ => exact rfl
    | ⟨2, _⟩ => exact (Nat.zero_add _).symm)).trans (md_blk m c t 1 j)

theorem ld_norm (j : Fin 1024) : View.ld (iblk m c 2 t : Vec Ideal S1x1024 .f32) r0_3 (ix2 0 j) = m (c.tc.loc main_arg2) (ix1 j) :=
  (View.ld_unit_apply_of _ _ _ _ _ (ix2 0 j) (fun a => by
    match a with
    | ⟨0, _⟩ => exact rfl
    | ⟨1, _⟩ => exact (Nat.zero_add _).symm)).trans ((norm_blk m c t 0 j).trans (host_norm m c j))

theorem ld_qa (k : Fin 1024) (d : Fin 512) : View.ld (iblk m c 3 t : Vec Ideal S1024x3840 .bf16) r0_14 (ix2 k d) = (V m c main_v75 : Vec Ideal S1024x3840 .bf16) (ix2 k ⟨d.val, by omega⟩) :=
  (View.ld_unit_apply_of _ _ _ _ _ (ix2 k ⟨d.val, by omega⟩) (fun a => by
    match a with
    | ⟨0, _⟩ => exact (Nat.zero_add _).symm
    | ⟨1, _⟩ => exact (Nat.zero_add _).symm)).trans (win_blk m c t k _)

theorem ld_va (k : Fin 1024) (d : Fin 512) : View.ld (iblk m c 3 t : Vec Ideal S1024x3840 .bf16) r0_23 (ix2 k d) = (V m c main_v75 : Vec Ideal S1024x3840 .bf16) (ix2 k ⟨512 + d.val, by omega⟩) :=
  (View.ld_unit_apply_of _ _ _ _ _ (ix2 k ⟨512 + d.val, by omega⟩) (fun a => by
    match a with
    | ⟨0, _⟩ => exact (Nat.zero_add _).symm
    | ⟨1, _⟩ => exact rfl)).trans (win_blk m c t k _)

theorem ld_lat (k : Fin 1024) (d : Fin 768) : View.ld (iblk m c 3 t : Vec Ideal S1024x3840 .bf16) r0_27 (ix2 k d) = (V m c main_v75 : Vec Ideal S1024x3840 .bf16) (ix2 k ⟨1024 + d.val, by omega⟩) :=
  (View.ld_unit_apply_of _ _ _ _ _ (ix2 k ⟨1024 + d.val, by omega⟩) (fun a => by
    match a with
    | ⟨0, _⟩ => exact (Nat.zero_add _).symm
    | ⟨1, _⟩ => exact rfl)).trans (win_blk m c t k _)

theorem ld_ga (k : Fin 1024) (d : Fin 1024) : View.ld (iblk m c 3 t : Vec Ideal S1024x3840 .bf16) r0_32 (ix2 k d) = (V m c main_v75 : Vec Ideal S1024x3840 .bf16) (ix2 k ⟨1792 + d.val, by omega⟩) :=
  (View.ld_unit_apply_of _ _ _ _ _ (ix2 k ⟨1792 + d.val, by omega⟩) (fun a => by
    match a with
    | ⟨0, _⟩ => exact (Nat.zero_add _).symm
    | ⟨1, _⟩ => exact rfl)).trans (win_blk m c t k _)

theorem ld_gb (k : Fin 1024) (d : Fin 1024) : View.ld (iblk m c 3 t : Vec Ideal S1024x3840 .bf16) r0_33 (ix2 k d) = (V m c main_v75 : Vec Ideal S1024x3840 .bf16) (ix2 k ⟨2816 + d.val, by omega⟩) :=
  (View.ld_unit_apply_of _ _ _ _ _ (ix2 k ⟨2816 + d.val, by omega⟩) (fun a => by
    match a with
    | ⟨0, _⟩ => exact (Nat.zero_add _).symm
    | ⟨1, _⟩ => exact rfl)).trans (win_blk m c t k _)

theorem ld_gq (j : Fin 128) : View.ld (iblk m c 4 t : Vec Ideal S1x128 .f32) r0_13 (ix2 0 j) = (V m c main_v104 : Vec Ideal S1x128 .f32) (ix2 0 j) :=
  (View.ld_unit_apply_of _ _ _ _ _ (ix2 0 j) (fun a => by
    match a with
    | ⟨0, _⟩ => exact rfl
    | ⟨1, _⟩ => exact (Nat.zero_add _).symm)).trans (gq_blk m c t 0 j)

theorem ld_ql (j : Fin 384) : View.ld (iblk m c 6 t : Vec Ideal S1x384 .f32) r0_28 (ix2 0 j) = m (c.tc.loc main_arg6) (ix1 j) :=
  (View.ld_unit_apply_of _ _ _ _ _ (ix2 0 j) (fun a => by
    match a with
    | ⟨0, _⟩ => exact rfl
    | ⟨1, _⟩ => exact (Nat.zero_add _).symm)).trans ((ql_blk m c t 0 j).trans (host_ql m c j))

theorem ld_kvl (j : Fin 256) : View.ld (iblk m c 7 t : Vec Ideal S1x256 .f32) r0_29 (ix2 0 j) = m (c.tc.loc main_arg7) (ix1 j) :=
  (View.ld_unit_apply_of _ _ _ _ _ (ix2 0 j) (fun a => by
    match a with
    | ⟨0, _⟩ => exact rfl
    | ⟨1, _⟩ => exact (Nat.zero_add _).symm)).trans ((kvl_blk m c t 0 j).trans (host_kvl m c j))

theorem ld_wq (k : Fin 384) (j : Fin 1024) : View.ld (iblk m c 8 t : Vec Ideal S384x1024 .bf16) r0_30 (ix2 k j) = (V m c main_v81 : Vec Ideal S384x1024 .bf16) (ix2 k j) :=
  (View.ld_unit_apply_of _ _ _ _ _ (ix2 k j) (fun a => by
    match a with
    | ⟨0, _⟩ => exact (Nat.zero_add _).symm
    | ⟨1, _⟩ => exact (Nat.zero_add _).symm)).trans (wq_blk m c t k j)

theorem ld_wk (k : Fin 256) (j : Fin 1024) : View.ld (iblk m c 9 t : Vec Ideal S256x1024 .bf16) r0_31 (ix2 k j) = (V m c main_v90 : Vec Ideal S256x1024 .bf16) (ix2 k j) :=
  (View.ld_unit_apply_of _ _ _ _ _ (ix2 k j) (fun a => by
    match a with
    | ⟨0, _⟩ => exact (Nat.zero_add _).symm
    | ⟨1, _⟩ => exact (Nat.zero_add _).symm)).trans (wk_blk m c t k j)

theorem ld_wv (k : Fin 256) (j : Fin 1024) : View.ld (iblk m c 10 t : Vec Ideal S256x1024 .bf16) r0_31 (ix2 k j) = (V m c main_v98 : Vec Ideal S256x1024 .bf16) (ix2 k j) :=
  (View.ld_unit_apply_of _ _ _ _ _ (ix2 k j) (fun a => by
    match a with
    | ⟨0, _⟩ => exact (Nat.zero_add _).symm
    | ⟨1, _⟩ => exact (Nat.zero_add _).symm)).trans (wv_blk m c t k j)

theorem ld_ta0 (r : Fin 512) (j : Fin 128) : View.ld (iblk m c 11 t : Vec Ideal S3x512x128 .f32) r0_4 (ix3 0 r j) = (V m c main_v17 : Vec Ideal S3x4096x128 .f32) (ix3 0 (sAt t r) j) :=
  (View.ld_unit_apply_of _ _ _ _ _ (ix3 0 r j) (fun a => by
    match a with
    | ⟨0, _⟩ => exact rfl
    | ⟨1, _⟩ => exact (Nat.zero_add _).symm
    | ⟨2, _⟩ => exact (Nat.zero_add _).symm)).trans (ta_blk m c t 0 r j)

theorem ld_ta1 (r : Fin 512) (j : Fin 128) : View.ld (iblk m c 11 t : Vec Ideal S3x512x128 .f32) r0_5 (ix3 0 r j) = (V m c main_v17 : Vec Ideal S3x4096x128 .f32) (ix3 1 (sAt t r) j) :=
  (View.ld_unit_apply_of _ _ _ _ _ (ix3 1 r j) (fun a => by
    match a with
    | ⟨0, _⟩ => exact rfl
    | ⟨1, _⟩ => exact (Nat.zero_add _).symm
    | ⟨2, _⟩ => exact (Nat.zero_add _).symm)).trans (ta_blk m c t 1 r j)

theorem ld_ta2 (r : Fin 512) (j : Fin 128) : View.ld (iblk m c 11 t : Vec Ideal S3x512x128 .f32) r0_6 (ix3 0 r j) = (V m c main_v17 : Vec Ideal S3x4096x128 .f32) (ix3 2 (sAt t r) j) :=
  (View.ld_unit_apply_of _ _ _ _ _ (ix3 2 r j) (fun a => by
    match a with
    | ⟨0, _⟩ => exact rfl
    | ⟨1, _⟩ => exact (Nat.zero_add _).symm
    | ⟨2, _⟩ => exact (Nat.zero_add _).symm)).trans (ta_blk m c t 2 r j)

theorem ld_tb0 (r : Fin 512) (j : Fin 128) : View.ld (iblk m c 12 t : Vec Ideal S6x512x128 .f32) r0_7 (ix3 0 r j) = (V m c main_v50 : Vec Ideal S6x4096x128 .f32) (ix3 0 (sAt t r) j) :=
  (View.ld_unit_apply_of _ _ _ _ _ (ix3 0 r j) (fun a => by
    match a with
    | ⟨0, _⟩ => exact rfl
    | ⟨1, _⟩ => exact (Nat.zero_add _).symm
    | ⟨2, _⟩ => exact (Nat.zero_add _).symm)).trans (tb_blk m c t 0 r j)

theorem ld_tb1 (r : Fin 512) (j : Fin 128) : View.ld (iblk m c 12 t : Vec Ideal S6x512x128 .f32) r0_8 (ix3 0 r j) = (V m c main_v50 : Vec Ideal S6x4096x128 .f32) (ix3 1 (sAt t r) j) :=
  (View.ld_unit_apply_of _ _ _ _ _ (ix3 1 r j) (fun a => by
    match a with
    | ⟨0, _⟩ => exact rfl
    | ⟨1, _⟩ => exact (Nat.zero_add _).symm
    | ⟨2, _⟩ => exact (Nat.zero_add _).symm)).trans (tb_blk m c t 1 r j)

theorem ld_tb2 (r : Fin 512) (j : Fin 128) : View.ld (iblk m c 12 t : Vec Ideal S6x512x128 .f32) r0_9 (ix3 0 r j) = (V m c main_v50 : Vec Ideal S6x4096x128 .f32) (ix3 2 (sAt t r) j) :=
  (View.ld_unit_apply_of _ _ _ _ _ (ix3 2 r j) (fun a => by
    match a with
    | ⟨0, _⟩ => exact rfl
    | ⟨1, _⟩ => exact (Nat.zero_add _).symm
    | ⟨2, _⟩ => exact (Nat.zero_add _).symm)).trans (tb_blk m c t 2 r j)

theorem ld_tb3 (r : Fin 512) (j : Fin 128) : View.ld (iblk m c 12 t : Vec Ideal S6x512x128 .f32) r0_10 (ix3 0 r j) = (V m c main_v50 : Vec Ideal S6x4096x128 .f32) (ix3 3 (sAt t r) j) :=
  (View.ld_unit_apply_of _ _ _ _ _ (ix3 3 r j) (fun a => by
    match a with
    | ⟨0, _⟩ => exact rfl
    | ⟨1, _⟩ => exact (Nat.zero_add _).symm
    | ⟨2, _⟩ => exact (Nat.zero_add _).symm)).trans (tb_blk m c t 3 r j)

theorem ld_tb4 (r : Fin 512) (j : Fin 128) : View.ld (iblk m c 12 t : Vec Ideal S6x512x128 .f32) r0_11 (ix3 0 r j) = (V m c main_v50 : Vec Ideal S6x4096x128 .f32) (ix3 4 (sAt t r) j) :=
  (View.ld_unit_apply_of _ _ _ _ _ (ix3 4 r j) (fun a => by
    match a with
    | ⟨0, _⟩ => exact rfl
    | ⟨1, _⟩ => exact (Nat.zero_add _).symm
    | ⟨2, _⟩ => exact (Nat.zero_add _).symm)).trans (tb_blk m c t 4 r j)

theorem ld_tb5 (r : Fin 512) (j : Fin 128) : View.ld (iblk m c 12 t : Vec Ideal S6x512x128 .f32) r0_12 (ix3 0 r j) = (V m c main_v50 : Vec Ideal S6x4096x128 .f32) (ix3 5 (sAt t r) j) :=
  (View.ld_unit_apply_of _ _ _ _ _ (ix3 5 r j) (fun a => by
    match a with
    | ⟨0, _⟩ => exact rfl
    | ⟨1, _⟩ => exact (Nat.zero_add _).symm
    | ⟨2, _⟩ => exact (Nat.zero_add _).symm)).trans (tb_blk m c t 5 r j)

/-- The modulated row of a grid point's block. -/
theorem h_at (r : Fin 512) (d : Fin 1024) :
    k0_pay70 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = hS (m (c.tc.loc main_arg0)) (m (c.tc.loc main_arg1)) (m (c.tc.loc main_arg2)) (bAt t) (sAt t r) d := by
  unfold k0_pay70 hS
  rw [pay2_apply]
  simp only [ld_x, ld_md0, ld_md1, ld_norm]

end Cert.KernelInIdeal.Block

end
-- ==== Proof.InOutG.lean ====
/- The input projection call's gates and values: each grid point's block, and the array that the blocks make up. -/
module

public import proofs.«01_k».proof.Proof.InLd

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise
open Idealize.ShloMosaic.Pipeline (Dat)
open Cert.InSpec

variable (m : (ℓ : Loc nD τ sig) → Buf (Elt Ideal) ℓ) (c : Dev nD) (t : Fin cfg0.N)

theorem hz3 : (![0, 0, 0] : Fin 3 → Nat) = fun _ => 0 := funext fun a => by fin_cases a <;> rfl

theorem out19_at (r : Fin 512) (d : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d) = gaA (m (c.tc.loc main_arg0)) (m (c.tc.loc main_arg1)) (m (c.tc.loc main_arg2)) (m (c.tc.loc main_arg3)) (ix3 (bAt t) (sAt t r) d) := by
  unfold out0_19
  rw [View.canon_unit_zero hz3, pay68_apply]
  show _ = Ideal.logistic (zS (m (c.tc.loc main_arg0)) (m (c.tc.loc main_arg1)) (m (c.tc.loc main_arg2)) (m (c.tc.loc main_arg3)) (bAt t) (sAt t r) ⟨1440 + d.val, _⟩)
  unfold zS
  refine congrArg Ideal.logistic (Finset.sum_congr rfl fun k _ => ?_)
  rw [h_at, ld_ga, win_ga]

/-- What result 6 of the call is shown to hold. -/
abbrev result19 : Buf (Elt Ideal) ((c : Thread nD τ).loc main_v112_6) :=
  gaA (m (c.tc.loc main_arg0)) (m (c.tc.loc main_arg1)) (m (c.tc.loc main_arg2)) (m (c.tc.loc main_arg3))

theorem index_19 : ∀ t : Fin cfg0.N, win0_19.index t 0 = t.val / 8 ∧ win0_19.index t 1 = t.val % 8 ∧ win0_19.index t 2 = 0 := by
  decide +kernel

theorem flushed_19 (t : Fin cfg0.N) (hf : (cfg0.win 19).flush t = true) :
    (dats m 0 c).flushed 19 t = ((cfg0.win 19).blk t).view.read (Elt Ideal) (result19 m c) := by
  obtain ⟨h0, h1, h2⟩ := index_19 t
  rw [Value.flushed19]
  funext y
  obtain ⟨y0, r, d, rfl⟩ : ∃ (a : Fin 1) (r : Fin 512) (d : Fin 1024), y = ix3 a r d := ⟨y 0, y 1, y 2, by funext a; fin_cases a <;> rfl⟩
  obtain rfl : y0 = 0 := Subsingleton.elim _ _
  rw [View.read_apply]
  have hi : (((cfg0.win 19).blk t).view.emb (ix3 0 r d) : S8x4096x1024.Idx) = ix3 (bAt t) (sAt t r) d := by
    funext a
    apply Fin.ext
    match a with
    | ⟨0, _⟩ => show win0_19.index t 0 * 1 + 1 * 0 = t.val / 8; rw [h0]; omega
    | ⟨1, _⟩ => show win0_19.index t 1 * 512 + 1 * r.val = 512 * (t.val % 8) + r.val; rw [h1]; omega
    | ⟨2, _⟩ => show win0_19.index t 2 * 1024 + 1 * d.val = d.val; rw [h2]; omega
  refine Eq.trans ?_ (congrArg (result19 m c) hi.symm)
  exact out19_at m c t r d

theorem final_19 : (dats m 0 c).arrAt 19 cfg0.N = result19 m c :=
  (dats m 0 c).arrAt_eq_of_cover 19 (result19 m c) (flushed_19 m c) fun i => by
    have a0 : (i 0).val < 8 := (i 0).isLt
    have a1 : (i 1).val < 4096 := (i 1).isLt
    have a2 : (i 2).val < 1024 := (i 2).isLt
    have hN : cfg0.N = 64 := N_0
    let t : Fin cfg0.N := ⟨(i 0).val * 8 + (i 1).val / 512, by omega⟩
    have ht : t.val = (i 0).val * 8 + (i 1).val / 512 := rfl
    refine ⟨t, flush0_19 t, ?_⟩
    obtain ⟨h0, h1, h2⟩ := index_19 t
    show i ∈ ((View.whole main_v112_6).slice (win0_19.rect t)).set
    rw [View.set_slice_whole, Rect.mem_set_unit]
    intro a
    match a with
    | ⟨0, _⟩ => show win0_19.index t 0 * 1 ≤ (i 0).val ∧ (i 0).val < win0_19.index t 0 * 1 + 1; rw [h0]; omega
    | ⟨1, _⟩ => show win0_19.index t 1 * 512 ≤ (i 1).val ∧ (i 1).val < win0_19.index t 1 * 512 + 512; rw [h1]; omega
    | ⟨2, _⟩ => show win0_19.index t 2 * 1024 ≤ (i 2).val ∧ (i 2).val < win0_19.index t 2 * 1024 + 1024; rw [h2]; omega

theorem out20_at (r : Fin 512) (d : Fin 1024) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d) = gbA (m (c.tc.loc main_arg0)) (m (c.tc.loc main_arg1)) (m (c.tc.loc main_arg2)) (m (c.tc.loc main_arg3)) (ix3 (bAt t) (sAt t r) d) := by
  unfold out0_20
  rw [View.canon_unit_zero hz3, pay69_apply]
  show _ = Ideal.logistic (zS (m (c.tc.loc main_arg0)) (m (c.tc.loc main_arg1)) (m (c.tc.loc main_arg2)) (m (c.tc.loc main_arg3)) (bAt t) (sAt t r) ⟨2464 + d.val, _⟩)
  unfold zS
  refine congrArg Ideal.logistic (Finset.sum_congr rfl fun k _ => ?_)
  rw [h_at, ld_gb, win_gb]

/-- What result 7 of the call is shown to hold. -/
abbrev result20 : Buf (Elt Ideal) ((c : Thread nD τ).loc main_v112_7) :=
  gbA (m (c.tc.loc main_arg0)) (m (c.tc.loc main_arg1)) (m (c.tc.loc main_arg2)) (m (c.tc.loc main_arg3))

theorem index_20 : ∀ t : Fin cfg0.N, win0_20.index t 0 = t.val / 8 ∧ win0_20.index t 1 = t.val % 8 ∧ win0_20.index t 2 = 0 := by
  decide +kernel

theorem flushed_20 (t : Fin cfg0.N) (hf : (cfg0.win 20).flush t = true) :
    (dats m 0 c).flushed 20 t = ((cfg0.win 20).blk t).view.read (Elt Ideal) (result20 m c) := by
  obtain ⟨h0, h1, h2⟩ := index_20 t
  rw [Value.flushed20]
  funext y
  obtain ⟨y0, r, d, rfl⟩ : ∃ (a : Fin 1) (r : Fin 512) (d : Fin 1024), y = ix3 a r d := ⟨y 0, y 1, y 2, by funext a; fin_cases a <;> rfl⟩
  obtain rfl : y0 = 0 := Subsingleton.elim _ _
  rw [View.read_apply]
  have hi : (((cfg0.win 20).blk t).view.emb (ix3 0 r d) : S8x4096x1024.Idx) = ix3 (bAt t) (sAt t r) d := by
    funext a
    apply Fin.ext
    match a with
    | ⟨0, _⟩ => show win0_20.index t 0 * 1 + 1 * 0 = t.val / 8; rw [h0]; omega
    | ⟨1, _⟩ => show win0_20.index t 1 * 512 + 1 * r.val = 512 * (t.val % 8) + r.val; rw [h1]; omega
    | ⟨2, _⟩ => show win0_20.index t 2 * 1024 + 1 * d.val = d.val; rw [h2]; omega
  refine Eq.trans ?_ (congrArg (result20 m c) hi.symm)
  exact out20_at m c t r d

theorem final_20 : (dats m 0 c).arrAt 20 cfg0.N = result20 m c :=
  (dats m 0 c).arrAt_eq_of_cover 20 (result20 m c) (flushed_20 m c) fun i => by
    have a0 : (i 0).val < 8 := (i 0).isLt
    have a1 : (i 1).val < 4096 := (i 1).isLt
    have a2 : (i 2).val < 1024 := (i 2).isLt
    have hN : cfg0.N = 64 := N_0
    let t : Fin cfg0.N := ⟨(i 0).val * 8 + (i 1).val / 512, by omega⟩
    have ht : t.val = (i 0).val * 8 + (i 1).val / 512 := rfl
    refine ⟨t, flush0_20 t, ?_⟩
    obtain ⟨h0, h1, h2⟩ := index_20 t
    show i ∈ ((View.whole main_v112_7).slice (win0_20.rect t)).set
    rw [View.set_slice_whole, Rect.mem_set_unit]
    intro a
    match a with
    | ⟨0, _⟩ => show win0_20.index t 0 * 1 ≤ (i 0).val ∧ (i 0).val < win0_20.index t 0 * 1 + 1; rw [h0]; omega
    | ⟨1, _⟩ => show win0_20.index t 1 * 512 ≤ (i 1).val ∧ (i 1).val < win0_20.index t 1 * 512 + 512; rw [h1]; omega
    | ⟨2, _⟩ => show win0_20.index t 2 * 1024 ≤ (i 2).val ∧ (i 2).val < win0_20.index t 2 * 1024 + 1024; rw [h2]; omega

theorem out15_at (r : Fin 512) (d : Fin 256) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d) = vaA (m (c.tc.loc main_arg0)) (m (c.tc.loc main_arg1)) (m (c.tc.loc main_arg2)) (m (c.tc.loc main_arg3)) (ix3 (bAt t) (sAt t r) d) := by
  unfold out0_15
  rw [View.canon_unit_zero hz3, pay35_apply, pay30_apply]
  show _ = vaS (m (c.tc.loc main_arg0)) (m (c.tc.loc main_arg1)) (m (c.tc.loc main_arg2)) (m (c.tc.loc main_arg3)) (bAt t) (sAt t r) d
  have e : ∀ k : Fin 1024, View.ld (iblk m c 3 t : Vec Ideal S1024x3840 .bf16) r0_23 (ix2 k (⟨256 + d.val, by omega⟩ : Fin 512))
      = if h : d.val % 128 < 64 then m (c.tc.loc main_arg3) (ix2 k (⟨640 + (d.val / 128 * 64 + d.val % 128), by omega⟩ : Fin 3488)) else (0 : EReal) := by
    intro k
    rw [ld_va, ← win_va m c k d]
    congr 2
    apply Fin.ext
    dsimp only
    omega
  unfold vaS
  by_cases h1 : d.val % 128 < 64
  · have h2 : ¬ d.val % 128 = 64 := by omega
    rw [if_neg h2, dif_pos h1, add_zero]
    unfold zS
    refine Finset.sum_congr rfl fun k _ => ?_
    rw [h_at, e, dif_pos h1]
  · rw [dif_neg h1]
    refine Eq.trans (congrArg (· + _) (Finset.sum_eq_zero fun k _ => ?_)) (zero_add _)
    rw [e, dif_neg h1, mul_zero]

/-- What result 2 of the call is shown to hold. -/
abbrev result15 : Buf (Elt Ideal) ((c : Thread nD τ).loc main_v112_2) :=
  vaA (m (c.tc.loc main_arg0)) (m (c.tc.loc main_arg1)) (m (c.tc.loc main_arg2)) (m (c.tc.loc main_arg3))

theorem index_15 : ∀ t : Fin cfg0.N, win0_15.index t 0 = t.val / 8 ∧ win0_15.index t 1 = t.val % 8 ∧ win0_15.index t 2 = 0 := by
  decide +kernel

theorem flushed_15 (t : Fin cfg0.N) (hf : (cfg0.win 15).flush t = true) :
    (dats m 0 c).flushed 15 t = ((cfg0.win 15).blk t).view.read (Elt Ideal) (result15 m c) := by
  obtain ⟨h0, h1, h2⟩ := index_15 t
  rw [Value.flushed15]
  funext y
  obtain ⟨y0, r, d, rfl⟩ : ∃ (a : Fin 1) (r : Fin 512) (d : Fin 256), y = ix3 a r d := ⟨y 0, y 1, y 2, by funext a; fin_cases a <;> rfl⟩
  obtain rfl : y0 = 0 := Subsingleton.elim _ _
  rw [View.read_apply]
  have hi : (((cfg0.win 15).blk t).view.emb (ix3 0 r d) : S8x4096x256.Idx) = ix3 (bAt t) (sAt t r) d := by
    funext a
    apply Fin.ext
    match a with
    | ⟨0, _⟩ => show win0_15.index t 0 * 1 + 1 * 0 = t.val / 8; rw [h0]; omega
    | ⟨1, _⟩ => show win0_15.index t 1 * 512 + 1 * r.val = 512 * (t.val % 8) + r.val; rw [h1]; omega
    | ⟨2, _⟩ => show win0_15.index t 2 * 256 + 1 * d.val = d.val; rw [h2]; omega
  refine Eq.trans ?_ (congrArg (result15 m c) hi.symm)
  exact out15_at m c t r d

theorem final_15 : (dats m 0 c).arrAt 15 cfg0.N = result15 m c :=
  (dats m 0 c).arrAt_eq_of_cover 15 (result15 m c) (flushed_15 m c) fun i => by
    have a0 : (i 0).val < 8 := (i 0).isLt
    have a1 : (i 1).val < 4096 := (i 1).isLt
    have a2 : (i 2).val < 256 := (i 2).isLt
    have hN : cfg0.N = 64 := N_0
    let t : Fin cfg0.N := ⟨(i 0).val * 8 + (i 1).val / 512, by omega⟩
    have ht : t.val = (i 0).val * 8 + (i 1).val / 512 := rfl
    refine ⟨t, flush0_15 t, ?_⟩
    obtain ⟨h0, h1, h2⟩ := index_15 t
    show i ∈ ((View.whole main_v112_2).slice (win0_15.rect t)).set
    rw [View.set_slice_whole, Rect.mem_set_unit]
    intro a
    match a with
    | ⟨0, _⟩ => show win0_15.index t 0 * 1 ≤ (i 0).val ∧ (i 0).val < win0_15.index t 0 * 1 + 1; rw [h0]; omega
    | ⟨1, _⟩ => show win0_15.index t 1 * 512 ≤ (i 1).val ∧ (i 1).val < win0_15.index t 1 * 512 + 512; rw [h1]; omega
    | ⟨2, _⟩ => show win0_15.index t 2 * 256 ≤ (i 2).val ∧ (i 2).val < win0_15.index t 2 * 256 + 256; rw [h2]; omega

end Cert.KernelInIdeal.Block

end
-- ==== Proof.InOutV.lean ====
/- The input projection call's latent values: each grid point's block, and the array that the blocks make up. -/
module

public import proofs.«01_k».proof.Proof.InOutG

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise
open Idealize.ShloMosaic.Pipeline (Dat)
open Cert.InSpec

variable (m : (ℓ : Loc nD τ sig) → Buf (Elt Ideal) ℓ) (c : Dev nD) (t : Fin cfg0.N)

/-- The latent rows of a grid point's block before their normalisation. -/
theorem lat_at (r : Fin 512) (d : Fin 768) :
    k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d) = ∑ k : Fin 1024, hS (m (c.tc.loc main_arg0)) (m (c.tc.loc main_arg1)) (m (c.tc.loc main_arg2)) (bAt t) (sAt t r) k
        * (V m c main_v75 : Vec Ideal S1024x3840 .bf16) (ix2 k (⟨1024 + d.val, by omega⟩ : Fin 3840)) := by
  unfold k0_pay81
  rw [pay36_apply]
  simp only [h_at, ld_lat]

theorem lat2_at (r : Fin 512) (d : Fin 384) :
    k0_pay82 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d) = ∑ k : Fin 1024, hS (m (c.tc.loc main_arg0)) (m (c.tc.loc main_arg1)) (m (c.tc.loc main_arg2)) (bAt t) (sAt t r) k
        * (V m c main_v75 : Vec Ideal S1024x3840 .bf16) (ix2 k (⟨1024 + d.val, by omega⟩ : Fin 3840)) := by
  unfold k0_pay82
  rw [pay37_apply]
  simp only [h_at, ld_lat]

/-- The normalised latent row of keys and values. -/
theorem kv_at (r : Fin 512) (e : Fin 256) :
    k0_pay83 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = kvS (m (c.tc.loc main_arg0)) (m (c.tc.loc main_arg1)) (m (c.tc.loc main_arg2)) (m (c.tc.loc main_arg3)) (m (c.tc.loc main_arg7)) (bAt t) (sAt t r) e := by
  unfold k0_pay83
  rw [pay38_apply]
  unfold kvS
  have hu : ∀ j : Fin 256, k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r (⟨384 + j.val, by omega⟩ : Fin 768))
      = zS (m (c.tc.loc main_arg0)) (m (c.tc.loc main_arg1)) (m (c.tc.loc main_arg2)) (m (c.tc.loc main_arg3)) (bAt t) (sAt t r) ⟨1152 + j.val, by omega⟩ := by
    intro j
    rw [lat_at]
    unfold zS
    refine Finset.sum_congr rfl fun k _ => ?_
    rw [← win_kvl m c k j]
    congr 3
    apply Fin.ext
    dsimp only
    omega
  simp only [hu, ld_kvl]

theorem out18_at (r : Fin 512) (d : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d) = vbA (m (c.tc.loc main_arg0)) (m (c.tc.loc main_arg1)) (m (c.tc.loc main_arg2)) (m (c.tc.loc main_arg3)) (m (c.tc.loc main_arg7)) (m (c.tc.loc main_arg9)) (ix3 (bAt t) (sAt t r) d) := by
  unfold out0_18
  rw [View.canon_unit_zero hz3, pay67_apply, pay65_apply]
  show _ = vbS (m (c.tc.loc main_arg0)) (m (c.tc.loc main_arg1)) (m (c.tc.loc main_arg2)) (m (c.tc.loc main_arg3)) (m (c.tc.loc main_arg7)) (m (c.tc.loc main_arg9)) (bAt t) (sAt t r) d
  unfold vbS
  by_cases h1 : d.val % 128 < 64
  · have h2 : ¬ d.val % 128 = 64 := by omega
    rw [if_neg h2, dif_pos h1, add_zero]
    refine Finset.sum_congr rfl fun k _ => ?_
    rw [kv_at, ld_wv, host_wv, dif_pos h1]
  · rw [dif_neg h1]
    refine Eq.trans (congrArg (· + _) (Finset.sum_eq_zero fun k _ => ?_)) (zero_add _)
    rw [ld_wv, host_wv, dif_neg h1, mul_zero]

/-- What result 5 of the call is shown to hold. -/
abbrev result18 : Buf (Elt Ideal) ((c : Thread nD τ).loc main_v112_5) :=
  vbA (m (c.tc.loc main_arg0)) (m (c.tc.loc main_arg1)) (m (c.tc.loc main_arg2)) (m (c.tc.loc main_arg3)) (m (c.tc.loc main_arg7)) (m (c.tc.loc main_arg9))

theorem index_18 : ∀ t : Fin cfg0.N, win0_18.index t 0 = t.val / 8 ∧ win0_18.index t 1 = t.val % 8 ∧ win0_18.index t 2 = 0 := by
  decide +kernel

theorem flushed_18 (t : Fin cfg0.N) (hf : (cfg0.win 18).flush t = true) :
    (dats m 0 c).flushed 18 t = ((cfg0.win 18).blk t).view.read (Elt Ideal) (result18 m c) := by
  obtain ⟨h0, h1, h2⟩ := index_18 t
  rw [Value.flushed18]
  funext y
  obtain ⟨y0, r, d, rfl⟩ : ∃ (a : Fin 1) (r : Fin 512) (d : Fin 1024), y = ix3 a r d := ⟨y 0, y 1, y 2, by funext a; fin_cases a <;> rfl⟩
  obtain rfl : y0 = 0 := Subsingleton.elim _ _
  rw [View.read_apply]
  have hi : (((cfg0.win 18).blk t).view.emb (ix3 0 r d) : S8x4096x1024.Idx) = ix3 (bAt t) (sAt t r) d := by
    funext a
    apply Fin.ext
    match a with
    | ⟨0, _⟩ => show win0_18.index t 0 * 1 + 1 * 0 = t.val / 8; rw [h0]; omega
    | ⟨1, _⟩ => show win0_18.index t 1 * 512 + 1 * r.val = 512 * (t.val % 8) + r.val; rw [h1]; omega
    | ⟨2, _⟩ => show win0_18.index t 2 * 1024 + 1 * d.val = d.val; rw [h2]; omega
  refine Eq.trans ?_ (congrArg (result18 m c) hi.symm)
  exact out18_at m c t r d

theorem final_18 : (dats m 0 c).arrAt 18 cfg0.N = result18 m c :=
  (dats m 0 c).arrAt_eq_of_cover 18 (result18 m c) (flushed_18 m c) fun i => by
    have a0 : (i 0).val < 8 := (i 0).isLt
    have a1 : (i 1).val < 4096 := (i 1).isLt
    have a2 : (i 2).val < 1024 := (i 2).isLt
    have hN : cfg0.N = 64 := N_0
    let t : Fin cfg0.N := ⟨(i 0).val * 8 + (i 1).val / 512, by omega⟩
    have ht : t.val = (i 0).val * 8 + (i 1).val / 512 := rfl
    refine ⟨t, flush0_18 t, ?_⟩
    obtain ⟨h0, h1, h2⟩ := index_18 t
    show i ∈ ((View.whole main_v112_5).slice (win0_18.rect t)).set
    rw [View.set_slice_whole, Rect.mem_set_unit]
    intro a
    match a with
    | ⟨0, _⟩ => show win0_18.index t 0 * 1 ≤ (i 0).val ∧ (i 0).val < win0_18.index t 0 * 1 + 1; rw [h0]; omega
    | ⟨1, _⟩ => show win0_18.index t 1 * 512 ≤ (i 1).val ∧ (i 1).val < win0_18.index t 1 * 512 + 512; rw [h1]; omega
    | ⟨2, _⟩ => show win0_18.index t 2 * 1024 ≤ (i 2).val ∧ (i 2).val < win0_18.index t 2 * 1024 + 1024; rw [h2]; omega

end Cert.KernelInIdeal.Block

end
-- ==== Proof.InTaps.lean ====
/- What the input projection call computes for keys and queries, and the rotary taps of a row of padded lanes. -/
module

public import proofs.«01_k».proof.Proof.InSpec

@[expose] public section

set_option maxRecDepth 16384

noncomputable section

namespace Cert.InSpec

open Cert.KernelInIdeal Idealize.ShloMosaic Idealize.ShloMosaic.TcCoe
open Cert.KernelInIdeal.Block (hrow rms scaleA scaleB taps low)

theorem scaleA_eq : scaleA = ((12102203 / 67108864 : ℝ) : EReal) := by
  simp [scaleA, Ideal.ofBits, Ideal.ieee, -EReal.coe_mul]; norm_num

theorem scaleB_eq : scaleB = ((9881408 / 67108864 : ℝ) : EReal) := by
  simp [scaleB, Ideal.ofBits, Ideal.ieee, -EReal.coe_mul]; norm_num

theorem scaleA_add (a b : EReal) : a * scaleA + b * scaleA = (a + b) * scaleA := by
  rw [scaleA_eq, EReal.right_distrib_of_nonneg_of_ne_top (by exact_mod_cast (by norm_num : (0 : ℝ) ≤ 12102203 / 67108864)) (EReal.coe_ne_top _)]

theorem scaleB_add (a b : EReal) : a * scaleB + b * scaleB = (a + b) * scaleB := by
  rw [scaleB_eq, EReal.right_distrib_of_nonneg_of_ne_top (by exact_mod_cast (by norm_num : (0 : ℝ) ≤ 9881408 / 67108864)) (EReal.coe_ne_top _)]

theorem lane_up (k : Nat) (hk : k ≤ 128) (d : Fin 128) (h : d.val + k < 128) : (d.val + 128 - (128 - k)) % 128 = d.val + k := by omega

theorem lane_down (k : Nat) (d : Fin 128) (h : k ≤ d.val) : (d.val + 128 - k) % 128 = d.val - k := by omega

/-- The rotary key's 32 lanes, at lanes 64 to 95 of a head. -/
def ropeK (x : Fin 32 → EReal) (co si : Fin 16 → EReal) (l : Fin 128) : EReal :=
  if h : 64 ≤ l.val ∧ l.val < 80 then x ⟨l.val - 64, by omega⟩ * co ⟨l.val - 64, by omega⟩ - x ⟨l.val - 48, by omega⟩ * si ⟨l.val - 64, by omega⟩
  else if h : 80 ≤ l.val ∧ l.val < 96 then x ⟨l.val - 64, by omega⟩ * co ⟨l.val - 80, by omega⟩ + x ⟨l.val - 80, by omega⟩ * si ⟨l.val - 80, by omega⟩
  else 0

theorem ropeK_taps (x : Fin 32 → EReal) (co si : Fin 16 → EReal) (u a b c : Fin 128 → EReal)
    (hu : ∀ l : Fin 128, u l = if h : 64 ≤ l.val ∧ l.val < 96 then x ⟨l.val - 64, by omega⟩ else 0)
    (ha : ∀ l : Fin 128, a l = if h : 80 ≤ l.val ∧ l.val < 96 then co ⟨l.val - 80, by omega⟩ else if h : 64 ≤ l.val ∧ l.val < 80 then co ⟨l.val - 64, by omega⟩ else 0)
    (hb : ∀ l : Fin 128, b l = if h : 64 ≤ l.val ∧ l.val < 80 then -(si ⟨l.val - 64, by omega⟩) else 0)
    (hc : ∀ l : Fin 128, c l = if h : 80 ≤ l.val ∧ l.val < 96 then si ⟨l.val - 80, by omega⟩ else 0)
    (l : Fin 128) : taps 16 u a b c l = ropeK x co si l := by
  unfold taps ropeK
  by_cases h1 : 64 ≤ l.val ∧ l.val < 80
  · have n1 : ¬ (80 ≤ l.val ∧ l.val < 96) := by omega
    rw [dif_pos h1, ha, dif_neg n1, dif_pos h1, hb, dif_pos h1, hc, dif_neg n1, mul_zero, add_zero, hu l, dif_pos (by omega),
      hu, dif_pos (by dsimp only; omega), mul_neg, ← sub_eq_add_neg]
    refine congrArg (fun w : Fin 32 => x ⟨l.val - 64, by omega⟩ * co ⟨l.val - 64, by omega⟩ - x w * si ⟨l.val - 64, by omega⟩) (Fin.ext ?_)
    dsimp only
    omega
  · by_cases h2 : 80 ≤ l.val ∧ l.val < 96
    · rw [dif_neg h1, dif_pos h2, ha, dif_pos h2, hb, dif_neg h1, hc, dif_pos h2, mul_zero, add_zero, hu l, dif_pos (by omega),
        hu, dif_pos (by dsimp only; omega)]
      refine congrArg (fun w : Fin 32 => x ⟨l.val - 64, by omega⟩ * co ⟨l.val - 80, by omega⟩ + x w * si ⟨l.val - 80, by omega⟩) (Fin.ext ?_)
      dsimp only
      omega
    · rw [dif_neg h1, dif_neg h2, ha, dif_neg h2, dif_neg h1, hb, dif_neg h1, hc, dif_neg h2, mul_zero, mul_zero, mul_zero, add_zero, add_zero]

/-- A latent query head: 64 lanes as they are, 32 rotary lanes, all scaled. -/
def ropeQ (x : Fin 96 → EReal) (co si : Fin 16 → EReal) (l : Fin 128) : EReal :=
  if h : l.val < 64 then x ⟨l.val, by omega⟩ * scaleB
  else if h : 64 ≤ l.val ∧ l.val < 80 then (x ⟨l.val, by omega⟩ * co ⟨l.val - 64, by omega⟩ - x ⟨l.val + 16, by omega⟩ * si ⟨l.val - 64, by omega⟩) * scaleB
  else if h : 80 ≤ l.val ∧ l.val < 96 then (x ⟨l.val, by omega⟩ * co ⟨l.val - 80, by omega⟩ + x ⟨l.val - 16, by omega⟩ * si ⟨l.val - 80, by omega⟩) * scaleB
  else 0

theorem ropeQ_taps (x : Fin 96 → EReal) (co si : Fin 16 → EReal) (u a b c : Fin 128 → EReal)
    (hu : ∀ l : Fin 128, u l = if h : l.val < 96 then x ⟨l.val, h⟩ else 0)
    (ha : ∀ l : Fin 128, a l = (if h : 80 ≤ l.val ∧ l.val < 96 then co ⟨l.val - 80, by omega⟩ else if h : 64 ≤ l.val ∧ l.val < 80 then co ⟨l.val - 64, by omega⟩ else if l.val < 64 then 1 else 0) * scaleB)
    (hb : ∀ l : Fin 128, b l = (if h : 64 ≤ l.val ∧ l.val < 80 then -(si ⟨l.val - 64, by omega⟩) else 0) * scaleB)
    (hc : ∀ l : Fin 128, c l = (if h : 80 ≤ l.val ∧ l.val < 96 then si ⟨l.val - 80, by omega⟩ else 0) * scaleB)
    (l : Fin 128) : taps 16 u a b c l = ropeQ x co si l := by
  unfold taps ropeQ
  by_cases h0 : l.val < 64
  · have n1 : ¬ (80 ≤ l.val ∧ l.val < 96) := by omega
    have n2 : ¬ (64 ≤ l.val ∧ l.val < 80) := by omega
    rw [dif_pos h0, ha, dif_neg n1, dif_neg n2, if_pos h0, hb, dif_neg n2, hc, dif_neg n1, zero_mul, mul_zero, mul_zero, add_zero, add_zero, one_mul,
      hu l, dif_pos (by omega)]
  · by_cases h1 : 64 ≤ l.val ∧ l.val < 80
    · have n1 : ¬ (80 ≤ l.val ∧ l.val < 96) := by omega
      rw [dif_neg h0, dif_pos h1, ha, dif_neg n1, dif_pos h1, hb, dif_pos h1, hc, dif_neg n1, zero_mul, mul_zero, add_zero, hu l, dif_pos (by omega),
        hu, dif_pos (by dsimp only; omega), ← mul_assoc, ← mul_assoc, mul_neg, scaleB_add, ← sub_eq_add_neg]
      refine congrArg (fun w : Fin 96 => (x ⟨l.val, by omega⟩ * co ⟨l.val - 64, by omega⟩ - x w * si ⟨l.val - 64, by omega⟩) * scaleB) (Fin.ext ?_)
      dsimp only
      omega
    · by_cases h2 : 80 ≤ l.val ∧ l.val < 96
      · rw [dif_neg h0, dif_neg h1, dif_pos h2, ha, dif_pos h2, hb, dif_neg h1, hc, dif_pos h2, zero_mul, mul_zero, add_zero, hu l, dif_pos (by omega),
          hu, dif_pos (by dsimp only; omega), ← mul_assoc, ← mul_assoc, scaleB_add]
        refine congrArg (fun w : Fin 96 => (x ⟨l.val, by omega⟩ * co ⟨l.val - 80, by omega⟩ + x w * si ⟨l.val - 80, by omega⟩) * scaleB) (Fin.ext ?_)
        dsimp only
        omega
      · rw [dif_neg h0, dif_neg h1, dif_neg h2, ha, dif_neg h2, dif_neg h1, if_neg h0, hb, dif_neg h1, hc, dif_neg h2, zero_mul, mul_zero, mul_zero, mul_zero, add_zero, add_zero]

/-- A grouped query head: 64 rotary lanes, scaled. -/
def ropeA (x : Fin 64 → EReal) (co si : Fin 32 → EReal) (l : Fin 128) : EReal :=
  if h : l.val < 32 then (x ⟨l.val, by omega⟩ * co ⟨l.val, h⟩ - x ⟨l.val + 32, by omega⟩ * si ⟨l.val, h⟩) * scaleA
  else if h : 32 ≤ l.val ∧ l.val < 64 then (x ⟨l.val, by omega⟩ * co ⟨l.val - 32, by omega⟩ + x ⟨l.val - 32, by omega⟩ * si ⟨l.val - 32, by omega⟩) * scaleA
  else 0

theorem ropeA_taps (x : Fin 64 → EReal) (co si : Fin 32 → EReal) (u a b c : Fin 128 → EReal)
    (hu : ∀ l : Fin 128, u l = if h : l.val < 64 then x ⟨l.val, h⟩ else 0)
    (ha : ∀ l : Fin 128, a l = (if h : 32 ≤ l.val ∧ l.val < 64 then co ⟨l.val - 32, by omega⟩ else if h : l.val < 32 then co ⟨l.val, by omega⟩ else 0) * scaleA)
    (hb : ∀ l : Fin 128, b l = (if h : l.val < 32 then -(si ⟨l.val, by omega⟩) else 0) * scaleA)
    (hc : ∀ l : Fin 128, c l = (if h : 32 ≤ l.val ∧ l.val < 64 then si ⟨l.val - 32, by omega⟩ else 0) * scaleA)
    (l : Fin 128) : taps 32 u a b c l = ropeA x co si l := by
  unfold taps ropeA
  by_cases h1 : l.val < 32
  · have n1 : ¬ (32 ≤ l.val ∧ l.val < 64) := by omega
    rw [dif_pos h1, ha, dif_neg n1, dif_pos h1, hb, dif_pos h1, hc, dif_neg n1, zero_mul, mul_zero, add_zero, hu l, dif_pos (by omega),
      hu, dif_pos (by dsimp only; omega), ← mul_assoc, ← mul_assoc, mul_neg, scaleA_add, ← sub_eq_add_neg]
    refine congrArg (fun w : Fin 64 => (x ⟨l.val, by omega⟩ * co ⟨l.val, h1⟩ - x w * si ⟨l.val, h1⟩) * scaleA) (Fin.ext ?_)
    dsimp only
    omega
  · by_cases h2 : 32 ≤ l.val ∧ l.val < 64
    · rw [dif_neg h1, dif_pos h2, ha, dif_pos h2, hb, dif_neg h1, hc, dif_pos h2, zero_mul, mul_zero, add_zero, hu l, dif_pos (by omega),
        hu, dif_pos (by dsimp only; omega), ← mul_assoc, ← mul_assoc, scaleA_add]
      refine congrArg (fun w : Fin 64 => (x ⟨l.val, by omega⟩ * co ⟨l.val - 32, by omega⟩ + x w * si ⟨l.val - 32, by omega⟩) * scaleA) (Fin.ext ?_)
      dsimp only
      omega
    · rw [dif_neg h1, dif_neg h2, ha, dif_neg h2, dif_neg h1, hb, dif_neg h1, hc, dif_neg h2, zero_mul, mul_zero, mul_zero, mul_zero, add_zero, add_zero]

theorem low_word (d : Fin 128) : IntOp.cmpi .slt (BitVec.ofNat 32 d.val) 64#32 = if d.val < 64 then 1#1 else 0#1 := by
  revert d
  decide +kernel

theorem low_eq (u : Fin 128 → EReal) (d : Fin 128) : low u d = if d.val < 64 then u d else 0 := by
  unfold low
  rw [low_word]
  by_cases h : d.val < 64
  · rw [if_pos h, if_pos h]
    rfl
  · rw [if_neg h, if_neg h]
    rfl

/-- A padded head's root-mean-square is its 64 lanes' own. -/
theorem rms_low (u : Fin 128 → EReal) (v w : Fin 64 → EReal) (g : Fin 128 → EReal) (q : EReal)
    (hu : ∀ j : Fin 64, u ⟨j.val, by omega⟩ = v j)
    (hg : ∀ d : Fin 128, g d = if h : d.val < 64 then w ⟨d.val, h⟩ else 0) (d : Fin 128) :
    rms q (low u) g d = if h : d.val < 64 then rms q v w ⟨d.val, h⟩ else 0 := by
  unfold rms
  have hs : ∑ j : Fin 128, low u j * low u j = ∑ j : Fin 64, v j * v j := by
    refine (Fin.sum_univ_add (a := 64) (b := 64) fun j => low u j * low u j).trans ?_
    refine (congrArg (_ + ·) (Finset.sum_eq_zero fun j _ => ?_)).trans ((add_zero _).trans (Finset.sum_congr rfl fun j _ => ?_))
    · rw [low_eq, if_neg (by show ¬ 64 + j.val < 64; omega), mul_zero]
    · rw [low_eq, if_pos (show (Fin.castAdd 64 j).val < 64 from j.isLt), ← hu j]
      rfl
  rw [hs, hg, low_eq]
  by_cases h : d.val < 64
  · rw [if_pos h, dif_pos h, dif_pos h, ← hu ⟨d.val, h⟩]
  · rw [dif_neg h, dif_neg h, mul_zero]

variable (a0 : FVec Ideal S8x4096x1024 .f32) (a1 : FVec Ideal S8x6x1024 .f32) (a2 : FVec Ideal S1024 .f32) (a3 : FVec Ideal S1024x3488 .f32)
variable (a4 : FVec Ideal S64 .f32) (a6 : FVec Ideal S384 .f32) (a7 : FVec Ideal S256 .f32) (a8 : FVec Ideal S384x768 .f32) (a9 : FVec Ideal S256x1024 .f32)
variable (a10 a11 : FVec Ideal S4096x32 .f32) (a12 a13 : FVec Ideal S4096x16 .f32)

/-- One lane of the latent call's keys: 64 lanes of the head, 32 rotary lanes shared by the heads, 32 zeros. -/
def kbS (b : Fin 8) (s : Fin 4096) (d : Fin 1024) : EReal :=
  if d.val % 128 < 64 then ∑ k : Fin 256, kvS a0 a1 a2 a3 a7 b s k * a9 (ix2 k d)
  else ropeK (fun l => zS a0 a1 a2 a3 b s ⟨1408 + l.val, by omega⟩) (fun j => a12 (ix2 s j)) (fun j => a13 (ix2 s j)) ⟨d.val % 128, by omega⟩

/-- The keys of the latent call. -/
def kbA : FVec Ideal S8x4096x1024 .bf16 := fun i => kbS a0 a1 a2 a3 a7 a9 a12 a13 (i 0) (i 1) (i 2)

/-- The latent query row: the normalised latent, projected to the heads. -/
def qS (b : Fin 8) (s : Fin 4096) (q : Fin 768) : EReal :=
  ∑ k : Fin 384, rms ((1 / 384 : ℝ) : EReal) (fun j => zS a0 a1 a2 a3 b s ⟨768 + j.val, by omega⟩) (fun j => a6 (ix1 j)) k * a8 (ix2 k q)

/-- One lane of the latent call's queries. -/
def qbS (b : Fin 8) (s : Fin 4096) (d : Fin 1024) : EReal :=
  ropeQ (fun l => qS a0 a1 a2 a3 a6 a8 b s ⟨d.val / 128 * 96 + l.val, by omega⟩) (fun j => a12 (ix2 s j)) (fun j => a13 (ix2 s j)) ⟨d.val % 128, by omega⟩

/-- The queries of the latent call. -/
def qbA : FVec Ideal S8x4096x1024 .bf16 := fun i => qbS a0 a1 a2 a3 a6 a8 a12 a13 (i 0) (i 1) (i 2)

/-- One lane of the grouped call's queries. -/
def qaS (b : Fin 8) (s : Fin 4096) (d : Fin 1024) : EReal :=
  ropeA (rms ((1 / 64 : ℝ) : EReal) (fun j : Fin 64 => zS a0 a1 a2 a3 b s ⟨d.val / 128 * 64 + j.val, by omega⟩) (fun j => a4 (ix1 j)))
    (fun j => a10 (ix2 s j)) (fun j => a11 (ix2 s j)) ⟨d.val % 128, by omega⟩

/-- The queries of the grouped call. -/
def qaA : FVec Ideal S8x4096x1024 .bf16 := fun i => qaS a0 a1 a2 a3 a4 a10 a11 (i 0) (i 1) (i 2)

end Cert.InSpec

end
-- ==== Proof.InOutK.lean ====
/- The input projection call's latent keys: each grid point's block, and the array that the blocks make up. -/
module

public import proofs.«01_k».proof.Proof.InOutV
public import proofs.«01_k».proof.Proof.InTaps

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise
open Idealize.ShloMosaic.Pipeline (Dat)
open Cert.InSpec

variable (m : (ℓ : Loc nD τ sig) → Buf (Elt Ideal) ℓ) (c : Dev nD) (t : Fin cfg0.N)

theorem strip9_at (v : Vec Ideal S1x512x128 .f32) (r : Fin 512) (d : Fin 128) : k0_pay9 v (ix2 r d) = v (ix3 0 r d) := by
  pointwise [k0_pay9]

theorem strip10_at (v : Vec Ideal S1x512x128 .f32) (r : Fin 512) (d : Fin 128) : k0_pay10 v (ix2 r d) = v (ix3 0 r d) := by
  pointwise [k0_pay10]

theorem strip11_at (v : Vec Ideal S1x512x128 .f32) (r : Fin 512) (d : Fin 128) : k0_pay11 v (ix2 r d) = v (ix3 0 r d) := by
  pointwise [k0_pay11]

/-- The rotary lanes that the latent keys' heads share. -/
theorem rot_at (r : Fin 512) (l : Fin 128) :
    k0_pay84 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l) = ropeK (fun l => zS (m (c.tc.loc main_arg0)) (m (c.tc.loc main_arg1)) (m (c.tc.loc main_arg2)) (m (c.tc.loc main_arg3)) (bAt t) (sAt t r) ⟨1408 + l.val, by omega⟩)
      (fun j => m (c.tc.loc main_arg12) (ix2 (sAt t r) j)) (fun j => m (c.tc.loc main_arg13) (ix2 (sAt t r) j)) l := by
  unfold k0_pay84
  rw [pay39_apply]
  refine ropeK_taps _ _ _ _ _ _ _ (fun l => ?_) (fun l => ?_) (fun l => ?_) (fun l => ?_) l
  · have e : ∀ k : Fin 1024, (V m c main_v75 : Vec Ideal S1024x3840 .bf16) (ix2 k (⟨1024 + (640 + l.val), by omega⟩ : Fin 3840))
        = if h : 64 ≤ l.val ∧ l.val < 96 then m (c.tc.loc main_arg3) (ix2 k (⟨1408 + (l.val - 64), by omega⟩ : Fin 3488)) else (0 : EReal) := by
      intro k
      refine Eq.trans ?_ (win_kr m c k l)
      refine congrArg (fun w => (V m c main_v75 : Vec Ideal S1024x3840 .bf16) (ix2 k w)) (Fin.ext ?_)
      dsimp only
      omega
    dsimp only
    rw [lat_at]
    by_cases h : 64 ≤ l.val ∧ l.val < 96
    · rw [dif_pos h]
      unfold zS
      refine Finset.sum_congr rfl fun k _ => ?_
      rw [e, dif_pos h]
    · rw [dif_neg h]
      refine Finset.sum_eq_zero fun k _ => ?_
      rw [e, dif_neg h, mul_zero]
  · rw [strip9_at, ld_tb3, tb3]
  · rw [strip10_at, ld_tb4, tb4]
  · rw [strip11_at, ld_tb5, tb5]

/-- One lane of a head of the latent keys. -/
theorem kb_at (r : Fin 512) (o : Nat) (ho : o % 128 = 0) (hl : o + 128 ≤ 1024) (l : Fin 128) :
    k0_pay55 (k0_pay83 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t : Vec Ideal S256x1024 .bf16) r0_31) (ix2 r (⟨o + l.val, by omega⟩ : Fin 1024))
        + k0_pay84 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
      = kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13)) (ix3 (bAt t) (sAt t r) (⟨o + l.val, by omega⟩ : Fin 1024)) := by
  show _ = kbS (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13)) (bAt t) (sAt t r) ⟨o + l.val, _⟩
  have e1 : (o + l.val) % 128 = l.val := by omega
  rw [pay55_apply, rot_at]
  unfold kbS
  dsimp only
  by_cases h1 : l.val < 64
  · have h2 : (o + l.val) % 128 < 64 := by omega
    rw [if_pos h2]
    refine Eq.trans (congrArg (_ + ·) ?_) ((add_zero _).trans (Finset.sum_congr rfl fun k _ => ?_))
    · unfold ropeK
      rw [dif_neg (by omega), dif_neg (by omega)]
    · rw [kv_at, ld_wk, host_wk, if_pos h2]
  · have h2 : ¬ (o + l.val) % 128 < 64 := by omega
    rw [if_neg h2]
    refine Eq.trans (congrArg (· + _) (Finset.sum_eq_zero fun k _ => ?_)) ((zero_add _).trans ?_)
    · rw [ld_wk, host_wk, if_neg h2, mul_zero]
    · simp only [e1]

theorem out17_at (r : Fin 512) (d : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d) = kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13)) (ix3 (bAt t) (sAt t r) d) := by
  unfold out0_17
  refine View.canon_apply_of_pieces (Val := Elt Ideal) (e := .bf16) (fun y : S1x512x1024.Idx => (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13)) (ix3 (bAt t) (sAt t (y 1)) (y 2)))) _ (fun p hp j => ?_) (ix3 0 r d)
    (cover0_17 _ _ _ _ _ _ _ _ (ix3 0 r d))
  simp only [List.mem_cons, List.mem_nil_iff, or_false] at hp
  rcases hp with rfl | rfl | rfl | rfl | rfl | rfl | rfl | rfl
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb7 _ _ _ _) ?_
    refine Eq.trans (kb_at m c t r' 896 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 896 + e.val = 896 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb6 _ _ _ _) ?_
    refine Eq.trans (kb_at m c t r' 768 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 768 + e.val = 768 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb5 _ _ _ _) ?_
    refine Eq.trans (kb_at m c t r' 640 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 640 + e.val = 640 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb4 _ _ _ _) ?_
    refine Eq.trans (kb_at m c t r' 512 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 512 + e.val = 512 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb3 _ _ _ _ _) ?_
    refine Eq.trans (kb_at m c t r' 384 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 384 + e.val = 384 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb2 _ _ _ _ _) ?_
    refine Eq.trans (kb_at m c t r' 256 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 256 + e.val = 256 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb1 _ _ _ _ _) ?_
    refine Eq.trans (kb_at m c t r' 128 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 128 + e.val = 128 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (kb0 _ _ _ _ _) ?_
    refine Eq.trans (kb_at m c t r' 0 (by norm_num) (by norm_num) e) ?_
    refine congrArg (kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 0 + e.val = 0 + 1 * e.val; omega

/-- What result 4 of the call is shown to hold. -/
abbrev result17 : Buf (Elt Ideal) ((c : Thread nD τ).loc main_v112_4) :=
  kbA (m (c.tc.loc main_arg0)) (m (c.tc.loc main_arg1)) (m (c.tc.loc main_arg2)) (m (c.tc.loc main_arg3)) (m (c.tc.loc main_arg7)) (m (c.tc.loc main_arg9)) (m (c.tc.loc main_arg12)) (m (c.tc.loc main_arg13))

theorem index_17 : ∀ t : Fin cfg0.N, win0_17.index t 0 = t.val / 8 ∧ win0_17.index t 1 = t.val % 8 ∧ win0_17.index t 2 = 0 := by
  decide +kernel

theorem flushed_17 (t : Fin cfg0.N) (hf : (cfg0.win 17).flush t = true) :
    (dats m 0 c).flushed 17 t = ((cfg0.win 17).blk t).view.read (Elt Ideal) (result17 m c) := by
  obtain ⟨h0, h1, h2⟩ := index_17 t
  rw [Value.flushed17]
  funext y
  obtain ⟨y0, r, d, rfl⟩ : ∃ (a : Fin 1) (r : Fin 512) (d : Fin 1024), y = ix3 a r d := ⟨y 0, y 1, y 2, by funext a; fin_cases a <;> rfl⟩
  obtain rfl : y0 = 0 := Subsingleton.elim _ _
  rw [View.read_apply]
  have hi : (((cfg0.win 17).blk t).view.emb (ix3 0 r d) : S8x4096x1024.Idx) = ix3 (bAt t) (sAt t r) d := by
    funext a
    apply Fin.ext
    match a with
    | ⟨0, _⟩ => show win0_17.index t 0 * 1 + 1 * 0 = t.val / 8; rw [h0]; omega
    | ⟨1, _⟩ => show win0_17.index t 1 * 512 + 1 * r.val = 512 * (t.val % 8) + r.val; rw [h1]; omega
    | ⟨2, _⟩ => show win0_17.index t 2 * 1024 + 1 * d.val = d.val; rw [h2]; omega
  refine Eq.trans ?_ (congrArg (result17 m c) hi.symm)
  exact out17_at m c t r d

theorem final_17 : (dats m 0 c).arrAt 17 cfg0.N = result17 m c :=
  (dats m 0 c).arrAt_eq_of_cover 17 (result17 m c) (flushed_17 m c) fun i => by
    have a0 : (i 0).val < 8 := (i 0).isLt
    have a1 : (i 1).val < 4096 := (i 1).isLt
    have a2 : (i 2).val < 1024 := (i 2).isLt
    have hN : cfg0.N = 64 := N_0
    let t : Fin cfg0.N := ⟨(i 0).val * 8 + (i 1).val / 512, by omega⟩
    have ht : t.val = (i 0).val * 8 + (i 1).val / 512 := rfl
    refine ⟨t, flush0_17 t, ?_⟩
    obtain ⟨h0, h1, h2⟩ := index_17 t
    show i ∈ ((View.whole main_v112_4).slice (win0_17.rect t)).set
    rw [View.set_slice_whole, Rect.mem_set_unit]
    intro a
    match a with
    | ⟨0, _⟩ => show win0_17.index t 0 * 1 ≤ (i 0).val ∧ (i 0).val < win0_17.index t 0 * 1 + 1; rw [h0]; omega
    | ⟨1, _⟩ => show win0_17.index t 1 * 512 ≤ (i 1).val ∧ (i 1).val < win0_17.index t 1 * 512 + 512; rw [h1]; omega
    | ⟨2, _⟩ => show win0_17.index t 2 * 1024 ≤ (i 2).val ∧ (i 2).val < win0_17.index t 2 * 1024 + 1024; rw [h2]; omega

end Cert.KernelInIdeal.Block

end
-- ==== Proof.InOutQ.lean ====
/- The input projection call's latent queries: each grid point's block, and the array that the blocks make up. -/
module

public import proofs.«01_k».proof.Proof.InOutV
public import proofs.«01_k».proof.Proof.InTaps

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise
open Idealize.ShloMosaic.Pipeline (Dat)
open Cert.InSpec

variable (m : (ℓ : Loc nD τ sig) → Buf (Elt Ideal) ℓ) (c : Dev nD) (t : Fin cfg0.N)

theorem strip6_at (v : Vec Ideal S1x512x128 .f32) (r : Fin 512) (d : Fin 128) : k0_pay6 v (ix2 r d) = v (ix3 0 r d) := by
  pointwise [k0_pay6]

theorem strip7_at (v : Vec Ideal S1x512x128 .f32) (r : Fin 512) (d : Fin 128) : k0_pay7 v (ix2 r d) = v (ix3 0 r d) := by
  pointwise [k0_pay7]

theorem strip8_at (v : Vec Ideal S1x512x128 .f32) (r : Fin 512) (d : Fin 128) : k0_pay8 v (ix2 r d) = v (ix3 0 r d) := by
  pointwise [k0_pay8]

theorem mean_latent : (Named.named κ "mean_latent" 0x3B2AAAAB#32 : Ideal .f32) = ((1 / 384 : ℝ) : EReal) :=
  IdealRules.named_const.ideal_named_scalar _ _ _ _ rfl

/-- The latent query row of a grid point's block, projected to the padded heads. -/
theorem qup_at (r : Fin 512) (d : Fin 1024) :
    k0_pay85 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = if h : d.val % 128 < 96 then qS (m (c.tc.loc main_arg0)) (m (c.tc.loc main_arg1)) (m (c.tc.loc main_arg2)) (m (c.tc.loc main_arg3)) (m (c.tc.loc main_arg6)) (m (c.tc.loc main_arg8)) (bAt t) (sAt t r) ⟨d.val / 128 * 96 + d.val % 128, by omega⟩ else 0 := by
  unfold k0_pay85
  rw [pay40_apply]
  have hu : ∀ j : Fin 384, k0_pay82 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j) = zS (m (c.tc.loc main_arg0)) (m (c.tc.loc main_arg1)) (m (c.tc.loc main_arg2)) (m (c.tc.loc main_arg3)) (bAt t) (sAt t r) ⟨768 + j.val, by omega⟩ := by
    intro j
    rw [lat2_at]
    unfold zS
    refine Finset.sum_congr rfl fun k _ => ?_
    rw [win_ql m c k j]
  simp only [hu, ld_ql, mean_latent]
  by_cases h : d.val % 128 < 96
  · rw [dif_pos h]
    unfold qS
    refine Finset.sum_congr rfl fun k _ => ?_
    rw [ld_wq, host_wq, dif_pos h]
  · rw [dif_neg h]
    refine Finset.sum_eq_zero fun k _ => ?_
    rw [ld_wq, host_wq, dif_neg h, mul_zero]

/-- One lane of a head of the latent queries. -/
theorem qb_at (r : Fin 512) (o : Nat) (ho : o % 128 = 0) (hl : o + 128 ≤ 1024) (l : Fin 128) :
    qbHead (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) r l
        (fun d => k0_pay85 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r (⟨o + d.val, by omega⟩ : Fin 1024)))
      = qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13)) (ix3 (bAt t) (sAt t r) (⟨o + l.val, by omega⟩ : Fin 1024)) := by
  show _ = qbS (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13)) (bAt t) (sAt t r) ⟨o + l.val, _⟩
  unfold qbS qbHead
  have e0 : ∀ l : Fin 128, (o + l.val) / 128 = o / 128 := fun l => by omega
  have e1 : ∀ l : Fin 128, (o + l.val) % 128 = l.val := fun l => by omega
  refine (ropeQ_taps (fun l => qS (m (c.tc.loc main_arg0)) (m (c.tc.loc main_arg1)) (m (c.tc.loc main_arg2)) (m (c.tc.loc main_arg3)) (m (c.tc.loc main_arg6)) (m (c.tc.loc main_arg8)) (bAt t) (sAt t r) ⟨o / 128 * 96 + l.val, by omega⟩)
    (fun j => m (c.tc.loc main_arg12) (ix2 (sAt t r) j)) (fun j => m (c.tc.loc main_arg13) (ix2 (sAt t r) j)) _ _ _ _ (fun l => ?_) (fun l => ?_) (fun l => ?_) (fun l => ?_) l).trans ?_
  · dsimp only
    rw [qup_at]
    simp only [e0, e1]
  · unfold k0_pay74
    rw [strip6_at, ld_tb0, tb0]
  · unfold k0_pay75
    rw [strip7_at, ld_tb1, tb1]
  · unfold k0_pay76
    rw [strip8_at, ld_tb2, tb2]
  · simp only [e0, e1]

theorem out16_at (r : Fin 512) (d : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d) = qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13)) (ix3 (bAt t) (sAt t r) d) := by
  unfold out0_16
  refine View.canon_apply_of_pieces (Val := Elt Ideal) (e := .bf16) (fun y : S1x512x1024.Idx => (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13)) (ix3 (bAt t) (sAt t (y 1)) (y 2)))) _ (fun p hp j => ?_) (ix3 0 r d)
    (cover0_16 _ _ _ _ _ _ _ _ (ix3 0 r d))
  simp only [List.mem_cons, List.mem_nil_iff, or_false] at hp
  rcases hp with rfl | rfl | rfl | rfl | rfl | rfl | rfl | rfl
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb7 _ _ _ _ _ _) ?_
    refine Eq.trans (qb_at m c t r' 896 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 896 + e.val = 896 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb6 _ _ _ _ _ _) ?_
    refine Eq.trans (qb_at m c t r' 768 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 768 + e.val = 768 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb5 _ _ _ _ _ _) ?_
    refine Eq.trans (qb_at m c t r' 640 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 640 + e.val = 640 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb4 _ _ _ _ _ _) ?_
    refine Eq.trans (qb_at m c t r' 512 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 512 + e.val = 512 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb3 _ _ _ _ _ _) ?_
    refine Eq.trans (qb_at m c t r' 384 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 384 + e.val = 384 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb2 _ _ _ _ _ _) ?_
    refine Eq.trans (qb_at m c t r' 256 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 256 + e.val = 256 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb1 _ _ _ _ _ _) ?_
    refine Eq.trans (qb_at m c t r' 128 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 128 + e.val = 128 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (qb0 _ _ _ _ _ _ _ _) ?_
    refine Eq.trans (qb_at m c t r' 0 (by norm_num) (by norm_num) e) ?_
    refine congrArg (qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))) ?_
    funext a
    apply Fin.ext
    match a with
    | ⟨0, _⟩ => rfl
    | ⟨1, _⟩ => show 512 * (t.val % 8) + r'.val = 512 * (t.val % 8) + (0 + 1 * r'.val); omega
    | ⟨2, _⟩ => show 0 + e.val = 0 + 1 * e.val; omega

/-- What result 3 of the call is shown to hold. -/
abbrev result16 : Buf (Elt Ideal) ((c : Thread nD τ).loc main_v112_3) :=
  qbA (m (c.tc.loc main_arg0)) (m (c.tc.loc main_arg1)) (m (c.tc.loc main_arg2)) (m (c.tc.loc main_arg3)) (m (c.tc.loc main_arg6)) (m (c.tc.loc main_arg8)) (m (c.tc.loc main_arg12)) (m (c.tc.loc main_arg13))

theorem index_16 : ∀ t : Fin cfg0.N, win0_16.index t 0 = t.val / 8 ∧ win0_16.index t 1 = t.val % 8 ∧ win0_16.index t 2 = 0 := by
  decide +kernel

theorem flushed_16 (t : Fin cfg0.N) (hf : (cfg0.win 16).flush t = true) :
    (dats m 0 c).flushed 16 t = ((cfg0.win 16).blk t).view.read (Elt Ideal) (result16 m c) := by
  obtain ⟨h0, h1, h2⟩ := index_16 t
  rw [Value.flushed16]
  funext y
  obtain ⟨y0, r, d, rfl⟩ : ∃ (a : Fin 1) (r : Fin 512) (d : Fin 1024), y = ix3 a r d := ⟨y 0, y 1, y 2, by funext a; fin_cases a <;> rfl⟩
  obtain rfl : y0 = 0 := Subsingleton.elim _ _
  rw [View.read_apply]
  have hi : (((cfg0.win 16).blk t).view.emb (ix3 0 r d) : S8x4096x1024.Idx) = ix3 (bAt t) (sAt t r) d := by
    funext a
    apply Fin.ext
    match a with
    | ⟨0, _⟩ => show win0_16.index t 0 * 1 + 1 * 0 = t.val / 8; rw [h0]; omega
    | ⟨1, _⟩ => show win0_16.index t 1 * 512 + 1 * r.val = 512 * (t.val % 8) + r.val; rw [h1]; omega
    | ⟨2, _⟩ => show win0_16.index t 2 * 1024 + 1 * d.val = d.val; rw [h2]; omega
  refine Eq.trans ?_ (congrArg (result16 m c) hi.symm)
  exact out16_at m c t r d

theorem final_16 : (dats m 0 c).arrAt 16 cfg0.N = result16 m c :=
  (dats m 0 c).arrAt_eq_of_cover 16 (result16 m c) (flushed_16 m c) fun i => by
    have a0 : (i 0).val < 8 := (i 0).isLt
    have a1 : (i 1).val < 4096 := (i 1).isLt
    have a2 : (i 2).val < 1024 := (i 2).isLt
    have hN : cfg0.N = 64 := N_0
    let t : Fin cfg0.N := ⟨(i 0).val * 8 + (i 1).val / 512, by omega⟩
    have ht : t.val = (i 0).val * 8 + (i 1).val / 512 := rfl
    refine ⟨t, flush0_16 t, ?_⟩
    obtain ⟨h0, h1, h2⟩ := index_16 t
    show i ∈ ((View.whole main_v112_3).slice (win0_16.rect t)).set
    rw [View.set_slice_whole, Rect.mem_set_unit]
    intro a
    match a with
    | ⟨0, _⟩ => show win0_16.index t 0 * 1 ≤ (i 0).val ∧ (i 0).val < win0_16.index t 0 * 1 + 1; rw [h0]; omega
    | ⟨1, _⟩ => show win0_16.index t 1 * 512 ≤ (i 1).val ∧ (i 1).val < win0_16.index t 1 * 512 + 512; rw [h1]; omega
    | ⟨2, _⟩ => show win0_16.index t 2 * 1024 ≤ (i 2).val ∧ (i 2).val < win0_16.index t 2 * 1024 + 1024; rw [h2]; omega

end Cert.KernelInIdeal.Block

end
-- ==== Proof.InOutA.lean ====
/- The input projection call's grouped queries: each grid point's block, and the array that the blocks make up. -/
module

public import proofs.«01_k».proof.Proof.InLd
public import proofs.«01_k».proof.Proof.InTaps

@[expose] public section

set_option maxRecDepth 16384

noncomputable section

namespace Cert.KernelInIdeal.Block

open Cert.KernelInIdeal Cert.KernelInIdeal.Gen Idealize.ShloMosaic Idealize.ShloMosaic.TcCoe Idealize.ShloMosaic.Tactic Idealize.SL.Sem
open Idealize.ShloMosaic.Pointwise
open Idealize.ShloMosaic.Pipeline (Dat)
open Cert.InSpec

variable (m : (ℓ : Loc nD τ sig) → Buf (Elt Ideal) ℓ) (c : Dev nD) (t : Fin cfg0.N)

theorem strip3_at (v : Vec Ideal S1x512x128 .f32) (r : Fin 512) (d : Fin 128) : k0_pay3 v (ix2 r d) = v (ix3 0 r d) := by
  pointwise [k0_pay3]

theorem strip4_at (v : Vec Ideal S1x512x128 .f32) (r : Fin 512) (d : Fin 128) : k0_pay4 v (ix2 r d) = v (ix3 0 r d) := by
  pointwise [k0_pay4]

theorem strip5_at (v : Vec Ideal S1x512x128 .f32) (r : Fin 512) (d : Fin 128) : k0_pay5 v (ix2 r d) = v (ix3 0 r d) := by
  pointwise [k0_pay5]

theorem norm12_at (v : Vec Ideal S1x128 .f32) (d : Fin 128) : k0_pay12 v (ix2 0 d) = v (ix2 0 d) := by
  pointwise [k0_pay12]

theorem heads13_at (h : FVec Ideal S512x1024 .bf16) (w : Vec Ideal S1024x512 .bf16) (r : Fin 512) (d : Fin 512) :
    k0_pay13 h w (ix2 r d) = ∑ k : Fin 1024, h (ix2 r k) * w (ix2 k d) := by
  pointwise [k0_pay13]

theorem row_at (r : Fin 512) (d : Fin 512) :
    ∑ k : Fin 1024, k0_pay70 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) * View.ld (iblk m c 3 t : Vec Ideal S1024x3840 .bf16) r0_14 (ix2 k d)
      = zS (m (c.tc.loc main_arg0)) (m (c.tc.loc main_arg1)) (m (c.tc.loc main_arg2)) (m (c.tc.loc main_arg3)) (bAt t) (sAt t r) ⟨d.val, by omega⟩ := by
  unfold zS
  refine Finset.sum_congr rfl fun k _ => ?_
  rw [h_at, ld_qa, win_qa]

theorem row13_at (r : Fin 512) (d : Fin 512) :
    k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d) = zS (m (c.tc.loc main_arg0)) (m (c.tc.loc main_arg1)) (m (c.tc.loc main_arg2)) (m (c.tc.loc main_arg3)) (bAt t) (sAt t r) ⟨d.val, by omega⟩ := by
  unfold k0_pay78
  rw [heads13_at, row_at]

/-- One lane of a head of the grouped queries, out of the head's 64 lanes before the normalisation. -/
theorem qa_at (r : Fin 512) (o : Nat) (ho : o % 128 = 0) (hl : o + 128 ≤ 1024) (l : Fin 128) (u : Fin 128 → EReal)
    (hu : ∀ j : Fin 64, u ⟨j.val, by omega⟩ = zS (m (c.tc.loc main_arg0)) (m (c.tc.loc main_arg1)) (m (c.tc.loc main_arg2)) (m (c.tc.loc main_arg3)) (bAt t) (sAt t r) ⟨o / 2 + j.val, by omega⟩) :
    qaHead (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay77 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) r l u
      = qaA (m (c.tc.loc main_arg0)) (m (c.tc.loc main_arg1)) (m (c.tc.loc main_arg2)) (m (c.tc.loc main_arg3)) (m (c.tc.loc main_arg4)) (m (c.tc.loc main_arg10)) (m (c.tc.loc main_arg11)) (ix3 (bAt t) (sAt t r) (⟨o + l.val, by omega⟩ : Fin 1024)) := by
  show _ = qaS (m (c.tc.loc main_arg0)) (m (c.tc.loc main_arg1)) (m (c.tc.loc main_arg2)) (m (c.tc.loc main_arg3)) (m (c.tc.loc main_arg4)) (m (c.tc.loc main_arg10)) (m (c.tc.loc main_arg11)) (bAt t) (sAt t r) ⟨o + l.val, _⟩
  unfold qaS qaHead
  have e0 : (o + l.val) / 128 * 64 = o / 2 := by omega
  have e1 : (o + l.val) % 128 = l.val := by omega
  refine (ropeA_taps (rms ((1 / 64 : ℝ) : EReal) (fun j : Fin 64 => zS (m (c.tc.loc main_arg0)) (m (c.tc.loc main_arg1)) (m (c.tc.loc main_arg2)) (m (c.tc.loc main_arg3)) (bAt t) (sAt t r) ⟨o / 2 + j.val, by omega⟩) (fun j => m (c.tc.loc main_arg4) (ix1 j)))
    (fun j => m (c.tc.loc main_arg10) (ix2 (sAt t r) j)) (fun j => m (c.tc.loc main_arg11) (ix2 (sAt t r) j)) _ _ _ _ (fun l => ?_) (fun l => ?_) (fun l => ?_) (fun l => ?_) l).trans ?_
  · refine rms_low u _ _ _ _ hu (fun d => ?_) l
    unfold k0_pay77
    rw [norm12_at, ld_gq, host_gq]
  · unfold k0_pay71
    rw [strip3_at, ld_ta0, ta0]
  · unfold k0_pay72
    rw [strip4_at, ld_ta1, ta1]
  · unfold k0_pay73
    rw [strip5_at, ld_ta2, ta2]
  · simp only [e0, e1]

theorem out13_at (r : Fin 512) (d : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d) = qaA (m (c.tc.loc main_arg0)) (m (c.tc.loc main_arg1)) (m (c.tc.loc main_arg2)) (m (c.tc.loc main_arg3)) (m (c.tc.loc main_arg4)) (m (c.tc.loc main_arg10)) (m (c.tc.loc main_arg11)) (ix3 (bAt t) (sAt t r) d) := by
  unfold out0_13
  refine View.canon_apply_of_pieces (Val := Elt Ideal) (e := .bf16) (fun y : S1x512x1024.Idx => (qaA (m (c.tc.loc main_arg0)) (m (c.tc.loc main_arg1)) (m (c.tc.loc main_arg2)) (m (c.tc.loc main_arg3)) (m (c.tc.loc main_arg4)) (m (c.tc.loc main_arg10)) (m (c.tc.loc main_arg11)) (ix3 (bAt t) (sAt t (y 1)) (y 2)))) _ (fun p hp j => ?_) (ix3 0 r d)
    (cover0_13 _ _ _ _ _ _ _ _ (ix3 0 r d))
  simp only [List.mem_cons, List.mem_nil_iff, or_false] at hp
  rcases hp with rfl | rfl | rfl | rfl | rfl | rfl | rfl | rfl
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head7 _ _ _ _ _ _ _) ?_
    refine Eq.trans (qa_at m c t r' 896 (by norm_num) (by norm_num) e _ (fun j => (row13_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 896 + e.val = 896 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head6 _ _ _ _ _ _ _) ?_
    refine Eq.trans (qa_at m c t r' 768 (by norm_num) (by norm_num) e _ (fun j => (row13_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 768 + e.val = 768 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head5 _ _ _ _ _ _ _) ?_
    refine Eq.trans (qa_at m c t r' 640 (by norm_num) (by norm_num) e _ (fun j => (row13_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 640 + e.val = 640 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head4 _ _ _ _ _ _ _) ?_
    refine Eq.trans (qa_at m c t r' 512 (by norm_num) (by norm_num) e _ (fun j => (row13_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 512 + e.val = 512 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head3 _ _ _ _ _ _ _) ?_
    refine Eq.trans (qa_at m c t r' 384 (by norm_num) (by norm_num) e _ (fun j => (row13_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 384 + e.val = 384 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head2 _ _ _ _ _ _ _) ?_
    refine Eq.trans (qa_at m c t r' 256 (by norm_num) (by norm_num) e _ (fun j => (row13_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 256 + e.val = 256 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head1 _ _ _ _ _ _ _) ?_
    refine Eq.trans (qa_at m c t r' 128 (by norm_num) (by norm_num) e _ (fun j => (row13_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 128 + e.val = 128 + 1 * e.val; omega
  · obtain ⟨j0, r', e, rfl⟩ : ∃ (j0 : Fin 1) (r' : Fin 512) (e : Fin 128), j = ix3 j0 r' e := ⟨j 0, j 1, j 2, by funext a; fin_cases a <;> rfl⟩
    obtain rfl : j0 = 0 := Subsingleton.elim _ _
    refine Eq.trans (head0 _ _ _ _ _ _ _ _) ?_
    refine Eq.trans (qa_at m c t r' 0 (by norm_num) (by norm_num) e _ (fun j => (row_at m c t r' _).trans (congrArg (zS (m (c.tc.loc main_arg0)) (m (c.tc.loc main_arg1)) (m (c.tc.loc main_arg2)) (m (c.tc.loc main_arg3)) (bAt t) (sAt t r')) (Fin.ext (by dsimp only <;> omega))))) ?_
    refine congrArg (qaA (m (c.tc.loc main_arg0)) (m (c.tc.loc main_arg1)) (m (c.tc.loc main_arg2)) (m (c.tc.loc main_arg3)) (m (c.tc.loc main_arg4)) (m (c.tc.loc main_arg10)) (m (c.tc.loc main_arg11))) ?_
    funext a
    apply Fin.ext
    match a with
    | ⟨0, _⟩ => rfl
    | ⟨1, _⟩ => show 512 * (t.val % 8) + r'.val = 512 * (t.val % 8) + (0 + 1 * r'.val); omega
    | ⟨2, _⟩ => show 0 + e.val = 0 + 1 * e.val; omega

/-- What result 0 of the call is shown to hold. -/
abbrev result13 : Buf (Elt Ideal) ((c : Thread nD τ).loc main_v112_0) :=
  qaA (m (c.tc.loc main_arg0)) (m (c.tc.loc main_arg1)) (m (c.tc.loc main_arg2)) (m (c.tc.loc main_arg3)) (m (c.tc.loc main_arg4)) (m (c.tc.loc main_arg10)) (m (c.tc.loc main_arg11))

theorem index_13 : ∀ t : Fin cfg0.N, win0_13.index t 0 = t.val / 8 ∧ win0_13.index t 1 = t.val % 8 ∧ win0_13.index t 2 = 0 := by
  decide +kernel

theorem flushed_13 (t : Fin cfg0.N) (hf : (cfg0.win 13).flush t = true) :
    (dats m 0 c).flushed 13 t = ((cfg0.win 13).blk t).view.read (Elt Ideal) (result13 m c) := by
  obtain ⟨h0, h1, h2⟩ := index_13 t
  rw [Value.flushed13]
  funext y
  obtain ⟨y0, r, d, rfl⟩ : ∃ (a : Fin 1) (r : Fin 512) (d : Fin 1024), y = ix3 a r d := ⟨y 0, y 1, y 2, by funext a; fin_cases a <;> rfl⟩
  obtain rfl : y0 = 0 := Subsingleton.elim _ _
  rw [View.read_apply]
  have hi : (((cfg0.win 13).blk t).view.emb (ix3 0 r d) : S8x4096x1024.Idx) = ix3 (bAt t) (sAt t r) d := by
    funext a
    apply Fin.ext
    match a with
    | ⟨0, _⟩ => show win0_13.index t 0 * 1 + 1 * 0 = t.val / 8; rw [h0]; omega
    | ⟨1, _⟩ => show win0_13.index t 1 * 512 + 1 * r.val = 512 * (t.val % 8) + r.val; rw [h1]; omega
    | ⟨2, _⟩ => show win0_13.index t 2 * 1024 + 1 * d.val = d.val; rw [h2]; omega
  refine Eq.trans ?_ (congrArg (result13 m c) hi.symm)
  exact out13_at m c t r d

theorem final_13 : (dats m 0 c).arrAt 13 cfg0.N = result13 m c :=
  (dats m 0 c).arrAt_eq_of_cover 13 (result13 m c) (flushed_13 m c) fun i => by
    have a0 : (i 0).val < 8 := (i 0).isLt
    have a1 : (i 1).val < 4096 := (i 1).isLt
    have a2 : (i 2).val < 1024 := (i 2).isLt
    have hN : cfg0.N = 64 := N_0
    let t : Fin cfg0.N := ⟨(i 0).val * 8 + (i 1).val / 512, by omega⟩
    have ht : t.val = (i 0).val * 8 + (i 1).val / 512 := rfl
    refine ⟨t, flush0_13 t, ?_⟩
    obtain ⟨h0, h1, h2⟩ := index_13 t
    show i ∈ ((View.whole main_v112_0).slice (win0_13.rect t)).set
    rw [View.set_slice_whole, Rect.mem_set_unit]
    intro a
    match a with
    | ⟨0, _⟩ => show win0_13.index t 0 * 1 ≤ (i 0).val ∧ (i 0).val < win0_13.index t 0 * 1 + 1; rw [h0]; omega
    | ⟨1, _⟩ => show win0_13.index t 1 * 512 ≤ (i 1).val ∧ (i 1).val < win0_13.index t 1 * 512 + 512; rw [h1]; omega
    | ⟨2, _⟩ => show win0_13.index t 2 * 1024 ≤ (i 2).val ∧ (i 2).val < win0_13.index t 2 * 1024 + 1024; rw [h2]; omega

end Cert.KernelInIdeal.Block

end
-- ==== Proof.InRefH.lean ====
/- The input projection call's reference, stage by stage, is the specification's function of the arguments. -/
module

public import proofs.«01_k».proof.Proof.InSpec
public import proofs.«01_k».proof.Proof.Gen.ReferenceInIdeal.Run
public import proofs.«01_k».proof.Proof.Gen.ReferenceInIdeal.Read
public import Idealize.ShloMosaic.Lib.Tactic

@[expose] public section

set_option maxRecDepth 16384

noncomputable section

namespace Cert.ReferenceInIdeal.Ref

open Cert.ReferenceInIdeal Cert.ReferenceInIdeal.Gen Cert.ReferenceInIdeal.Read Idealize.ShloMosaic Idealize.ShloMosaic.TcCoe Idealize.ShloMosaic.Tactic
open Idealize.ShloMosaic.Pointwise
open Cert.InSpec
open Cert.KernelInIdeal.Block (hrow rms scaleA scaleB eps)

theorem div1024 (a : EReal) : Ideal.div a (Ideal.ofBits .f32 1149239296#32) = a * ((1 / 1024 : ℝ) : EReal) := by
  rw [← Ideal.div_coe (by norm_num : (1024 : ℝ) ≠ 0)]
  congr 1
  simp [Ideal.ofBits, Ideal.ieee, -EReal.coe_mul]; norm_num

theorem div256 (a : EReal) : Ideal.div a (Ideal.ofBits .f32 1132462080#32) = a * ((1 / 256 : ℝ) : EReal) := by
  rw [← Ideal.div_coe (by norm_num : (256 : ℝ) ≠ 0)]
  congr 1
  simp [Ideal.ofBits, Ideal.ieee, -EReal.coe_mul]; norm_num

theorem div384 (a : EReal) : Ideal.div a (Ideal.ofBits .f32 1136656384#32) = a * ((1 / 384 : ℝ) : EReal) := by
  rw [← Ideal.div_coe (by norm_num : (384 : ℝ) ≠ 0)]
  congr 1
  simp [Ideal.ofBits, Ideal.ieee, -EReal.coe_mul]; norm_num

theorem div64 (a : EReal) : Ideal.div a (Ideal.ofBits .f32 1115684864#32) = a * ((1 / 64 : ℝ) : EReal) := by
  rw [← Ideal.div_coe (by norm_num : (64 : ℝ) ≠ 0)]
  congr 1
  simp [Ideal.ofBits, Ideal.ieee, -EReal.coe_mul]; norm_num

variable (a0 : FVec Ideal S8x4096x1024 .f32) (a1 : FVec Ideal S8x6x1024 .f32) (a2 : FVec Ideal S1024 .f32) (a3 : FVec Ideal S1024x3488 .f32)

theorem h_ref (b : Fin 8) (s : Fin 4096) (d : Fin 1024) : val_main_v20 (F := Ideal) a0 a1 a2 (ix3 b s d) = hS a0 a1 a2 b s d := by
  unfold hS hrow eps
  rw [← div1024]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]

theorem z_ref (b : Fin 8) (s : Fin 4096) (q : Fin 3488) : val_main_v21 (F := Ideal) a0 a1 a2 a3 (ix3 b s q) = zS a0 a1 a2 a3 b s q := by
  refine Eq.trans (b := ∑ k : Fin 1024, val_main_v20 (F := Ideal) a0 a1 a2 (ix3 b s k) * a3 (ix2 k q)) (by pointwise [val_main_v21]) ?_
  unfold zS
  simp only [h_ref]

/-- The heads of a row laid side by side. -/
theorem heads_at (v : FVec Ideal S8x4096x8x128 .f32) (b : Fin 8) (s : Fin 4096) (d : Fin 1024) :
    (truncf .bf16 (shapeCast S8x4096x1024 v shapeCasts_S8x4096x8x128_S8x4096x1024) bitsLt_bf16_f32 : FVec Ideal S8x4096x1024 .bf16) (ix3 b s d)
      = v (ix4 b s (⟨d.val / 128, by omega⟩ : Fin 8) (⟨d.val % 128, by omega⟩ : Fin 128)) := by
  pointwise

end Cert.ReferenceInIdeal.Ref

end
-- ==== Proof.InRef.lean ====
/- The input projection call's reference: the gates, the grouped call's values and the latent row of keys and values. -/
module

public import proofs.«01_k».proof.Proof.InRefH
public import Idealize.ShloMosaic.Lib.Tactic

@[expose] public section

set_option maxRecDepth 16384

noncomputable section

namespace Cert.ReferenceInIdeal.Ref

open Cert.ReferenceInIdeal Cert.ReferenceInIdeal.Gen Cert.ReferenceInIdeal.Read Idealize.ShloMosaic Idealize.ShloMosaic.TcCoe Idealize.ShloMosaic.Tactic
open Idealize.ShloMosaic.Pointwise
open Cert.InSpec
open Cert.KernelInIdeal.Block (hrow rms scaleA scaleB eps)

variable (a0 : FVec Ideal S8x4096x1024 .f32) (a1 : FVec Ideal S8x6x1024 .f32) (a2 : FVec Ideal S1024 .f32) (a3 : FVec Ideal S1024x3488 .f32)

theorem ga_ref : val_main_v36 (F := Ideal) a0 a1 a2 a3 = gaA a0 a1 a2 a3 := by
  funext i
  obtain ⟨b, s, d, rfl⟩ : ∃ (b : Fin 8) (s : Fin 4096) (d : Fin 1024), i = ix3 b s d := ⟨i 0, i 1, i 2, by funext a; fin_cases a <;> rfl⟩
  show _ = Ideal.logistic (zS a0 a1 a2 a3 b s ⟨1440 + d.val, _⟩)
  rw [← z_ref]
  unfold Ideal.logistic
  pointwise [val_main_v28, val_main_v30, val_main_v31, val_main_v32, val_main_v33, val_main_v34, val_main_v35, val_main_v36, val_main_cst_3, val_main_cst_4]

theorem gb_ref : val_main_v43 (F := Ideal) a0 a1 a2 a3 = gbA a0 a1 a2 a3 := by
  funext i
  obtain ⟨b, s, d, rfl⟩ : ∃ (b : Fin 8) (s : Fin 4096) (d : Fin 1024), i = ix3 b s d := ⟨i 0, i 1, i 2, by funext a; fin_cases a <;> rfl⟩
  show _ = Ideal.logistic (zS a0 a1 a2 a3 b s ⟨2464 + d.val, _⟩)
  rw [← z_ref]
  unfold Ideal.logistic
  pointwise [val_main_v29, val_main_v37, val_main_v38, val_main_v39, val_main_v40, val_main_v41, val_main_v42, val_main_v43, val_main_cst_5, val_main_cst_6]

theorem va_ref : val_main_v49 (F := Ideal) a0 a1 a2 a3 = vaA a0 a1 a2 a3 := by
  funext i
  obtain ⟨b, s, d, rfl⟩ : ∃ (b : Fin 8) (s : Fin 4096) (d : Fin 256), i = ix3 b s d := ⟨i 0, i 1, i 2, by funext a; fin_cases a <;> rfl⟩
  show _ = vaS a0 a1 a2 a3 b s d
  unfold vaS
  simp only [← z_ref]
  pointwise [val_main_v24, val_main_v44, val_main_v45, val_main_v46, val_main_v47, val_main_v48, val_main_v49, val_main_cst_7, val_main_cst_8]
  by_cases h1 : d.val % 128 < 64
  · simp only [h1, ↓reduceDIte]
  · simp only [h1, ↓reduceDIte]
    by_cases h2 : d.val % 128 = 64
    · simp [h2]
    · have h3 : ¬ d.val % 128 - 64 < 1 := by omega
      simp [h2, h3]

variable (a7 : FVec Ideal S256 .f32) (a9 : FVec Ideal S256x1024 .f32)

theorem kv_ref (b : Fin 8) (s : Fin 4096) (e : Fin 256) : val_main_v62 (F := Ideal) a0 a1 a2 a3 a7 (ix3 b s e) = kvS a0 a1 a2 a3 a7 b s e := by
  unfold kvS rms eps
  rw [← div256]
  simp only [← z_ref]
  pointwise [val_main_v26, val_main_v50, val_main_v51, val_main_v52, val_main_v53, val_main_v54, val_main_v55, val_main_v56, val_main_v57, val_main_v58, val_main_v59, val_main_v60, val_main_v61, val_main_v62, val_main_cst_9, val_main_cst_10, val_main_cst_11]

theorem kvup_ref (b : Fin 8) (s : Fin 4096) (d : Fin 1024) :
    val_main_v63 (F := Ideal) a0 a1 a2 a3 a7 a9 (ix3 b s d) = ∑ k : Fin 256, kvS a0 a1 a2 a3 a7 b s k * a9 (ix2 k d) := by
  refine Eq.trans (b := ∑ k : Fin 256, val_main_v62 (F := Ideal) a0 a1 a2 a3 a7 (ix3 b s k) * a9 (ix2 k d)) (by pointwise [val_main_v63]) ?_
  simp only [kv_ref]

end Cert.ReferenceInIdeal.Ref

end
-- ==== Proof.InRefV.lean ====
/- The input projection call's reference: the latent call's values. -/
module

public import proofs.«01_k».proof.Proof.InRef
public import Idealize.ShloMosaic.Lib.Tactic

@[expose] public section

set_option maxRecDepth 16384

noncomputable section

namespace Cert.ReferenceInIdeal.Ref

open Cert.ReferenceInIdeal Cert.ReferenceInIdeal.Gen Cert.ReferenceInIdeal.Read Idealize.ShloMosaic Idealize.ShloMosaic.TcCoe Idealize.ShloMosaic.Tactic
open Idealize.ShloMosaic.Pointwise
open Cert.InSpec
open Cert.KernelInIdeal.Block (hrow rms scaleA scaleB eps)

variable (a0 : FVec Ideal S8x4096x1024 .f32) (a1 : FVec Ideal S8x6x1024 .f32) (a2 : FVec Ideal S1024 .f32) (a3 : FVec Ideal S1024x3488 .f32)
variable (a7 : FVec Ideal S256 .f32) (a9 : FVec Ideal S256x1024 .f32)

theorem v64_at (b : Fin 8) (s : Fin 4096) (h : Fin 8) (l : Fin 128) :
    val_main_v64 (F := Ideal) a0 a1 a2 a3 a7 a9 (ix4 b s h l) = ∑ k : Fin 256, kvS a0 a1 a2 a3 a7 b s k * a9 (ix2 k (⟨h.val * 128 + l.val, by omega⟩ : Fin 1024)) := by
  rw [← kvup_ref]
  pointwise [val_main_v64]

theorem v69_at (b : Fin 8) (s : Fin 4096) (h : Fin 8) (l : Fin 128) :
    val_main_v69 (F := Ideal) a0 a1 a2 a3 a7 a9 (ix4 b s h l)
      = if hl : l.val < 64 then val_main_v64 (F := Ideal) a0 a1 a2 a3 a7 a9 (ix4 b s h ⟨64 + l.val, by omega⟩) else if hk : l.val - 64 < 1 then (1 : EReal) else 0 := by
  pointwise [val_main_v66, val_main_v67, val_main_v68, val_main_v69, val_main_cst_12, val_main_cst_13]

theorem v71_at (b : Fin 8) (s : Fin 4096) (d : Fin 1024) :
    val_main_v71 (F := Ideal) a0 a1 a2 a3 a7 a9 (ix3 b s d)
      = val_main_v69 (F := Ideal) a0 a1 a2 a3 a7 a9 (ix4 b s (⟨d.val / 128, by omega⟩ : Fin 8) (⟨d.val % 128, by omega⟩ : Fin 128)) :=
  heads_at (val_main_v69 (F := Ideal) a0 a1 a2 a3 a7 a9) b s d

theorem vb_ref : val_main_v71 (F := Ideal) a0 a1 a2 a3 a7 a9 = vbA a0 a1 a2 a3 a7 a9 := by
  funext i
  obtain ⟨b, s, d, rfl⟩ : ∃ (b : Fin 8) (s : Fin 4096) (d : Fin 1024), i = ix3 b s d := ⟨i 0, i 1, i 2, by funext a; fin_cases a <;> rfl⟩
  show _ = vbS a0 a1 a2 a3 a7 a9 b s d
  unfold vbS
  rw [v71_at, v69_at]
  by_cases h1 : d.val % 128 < 64
  · rw [dif_pos h1, dif_pos h1, v64_at]
    refine Finset.sum_congr rfl fun k _ => congrArg (fun w => kvS a0 a1 a2 a3 a7 b s k * a9 (ix2 k w)) (Fin.ext ?_)
    show d.val / 128 * 128 + (64 + d.val % 128) = d.val + 64
    omega
  · rw [dif_neg h1, dif_neg h1]
    by_cases h2 : d.val % 128 = 64
    · rw [if_pos h2, dif_pos (show (⟨d.val % 128, _⟩ : Fin 128).val - 64 < 1 by show d.val % 128 - 64 < 1; omega)]
    · rw [if_neg h2, dif_neg (show ¬ (⟨d.val % 128, _⟩ : Fin 128).val - 64 < 1 by show ¬ d.val % 128 - 64 < 1; omega)]

end Cert.ReferenceInIdeal.Ref

end
-- ==== Proof.InRefK.lean ====
/- The input projection call's reference: the latent call's keys. -/
module

public import proofs.«01_k».proof.Proof.InRef
public import proofs.«01_k».proof.Proof.InTaps
public import Idealize.ShloMosaic.Lib.Tactic

@[expose] public section

set_option maxRecDepth 16384

noncomputable section

namespace Cert.ReferenceInIdeal.Ref

open Cert.ReferenceInIdeal Cert.ReferenceInIdeal.Gen Cert.ReferenceInIdeal.Read Idealize.ShloMosaic Idealize.ShloMosaic.TcCoe Idealize.ShloMosaic.Tactic
open Idealize.ShloMosaic.Pointwise
open Cert.InSpec
open Cert.KernelInIdeal.Block (hrow rms scaleA scaleB eps)

variable (a0 : FVec Ideal S8x4096x1024 .f32) (a1 : FVec Ideal S8x6x1024 .f32) (a2 : FVec Ideal S1024 .f32) (a3 : FVec Ideal S1024x3488 .f32)
variable (a7 : FVec Ideal S256 .f32) (a9 : FVec Ideal S256x1024 .f32) (a12 a13 : FVec Ideal S4096x16 .f32)

theorem v64_low (b : Fin 8) (s : Fin 4096) (h : Fin 8) (l : Fin 64) :
    val_main_v65 (F := Ideal) a0 a1 a2 a3 a7 a9 (ix4 b s h l) = ∑ k : Fin 256, kvS a0 a1 a2 a3 a7 b s k * a9 (ix2 k (⟨h.val * 128 + l.val, by omega⟩ : Fin 1024)) := by
  rw [← kvup_ref]
  pointwise [val_main_v65, val_main_v64]

theorem v88_at (b : Fin 8) (s : Fin 4096) (l : Fin 32) :
    val_main_v88 (F := Ideal) a0 a1 a2 a3 a12 a13 (ix3 b s l)
      = if h : l.val < 16 then
          val_main_v21 (F := Ideal) a0 a1 a2 a3 (ix3 b s (⟨1408 + l.val, by omega⟩ : Fin 3488)) * a12 (ix2 s (⟨l.val, h⟩ : Fin 16))
            - val_main_v21 (F := Ideal) a0 a1 a2 a3 (ix3 b s (⟨1408 + (16 + l.val), by omega⟩ : Fin 3488)) * a13 (ix2 s (⟨l.val, h⟩ : Fin 16))
        else
          val_main_v21 (F := Ideal) a0 a1 a2 a3 (ix3 b s (⟨1408 + (16 + (l.val - 16)), by omega⟩ : Fin 3488)) * a12 (ix2 s (⟨l.val - 16, by omega⟩ : Fin 16))
            + val_main_v21 (F := Ideal) a0 a1 a2 a3 (ix3 b s (⟨1408 + (l.val - 16), by omega⟩ : Fin 3488)) * a13 (ix2 s (⟨l.val - 16, by omega⟩ : Fin 16)) := by
  pointwise [val_main_v27, val_main_v72, val_main_v73, val_main_v74, val_main_v75, val_main_v76, val_main_v77, val_main_v78, val_main_v79, val_main_v80, val_main_v81, val_main_v82, val_main_v83, val_main_v84, val_main_v85, val_main_v86, val_main_v87, val_main_v88]

theorem v92_at (b : Fin 8) (s : Fin 4096) (h : Fin 8) (l : Fin 128) :
    val_main_v92 (F := Ideal) a0 a1 a2 a3 a7 a9 a12 a13 (ix4 b s h l)
      = if hl : l.val < 64 then val_main_v65 (F := Ideal) a0 a1 a2 a3 a7 a9 (ix4 b s h ⟨l.val, hl⟩)
        else if h2 : l.val - 64 < 32 then val_main_v88 (F := Ideal) a0 a1 a2 a3 a12 a13 (ix3 b s ⟨l.val - 64, h2⟩) else 0 := by
  pointwise [val_main_v89, val_main_v90, val_main_v91, val_main_v92, val_main_cst_14]

theorem v94_at (b : Fin 8) (s : Fin 4096) (d : Fin 1024) :
    val_main_v94 (F := Ideal) a0 a1 a2 a3 a7 a9 a12 a13 (ix3 b s d)
      = val_main_v92 (F := Ideal) a0 a1 a2 a3 a7 a9 a12 a13 (ix4 b s (⟨d.val / 128, by omega⟩ : Fin 8) (⟨d.val % 128, by omega⟩ : Fin 128)) :=
  heads_at (val_main_v92 (F := Ideal) a0 a1 a2 a3 a7 a9 a12 a13) b s d

theorem kb_ref : val_main_v94 (F := Ideal) a0 a1 a2 a3 a7 a9 a12 a13 = kbA a0 a1 a2 a3 a7 a9 a12 a13 := by
  funext i
  obtain ⟨b, s, d, rfl⟩ : ∃ (b : Fin 8) (s : Fin 4096) (d : Fin 1024), i = ix3 b s d := ⟨i 0, i 1, i 2, by funext a; fin_cases a <;> rfl⟩
  show _ = kbS a0 a1 a2 a3 a7 a9 a12 a13 b s d
  unfold kbS
  rw [v94_at, v92_at]
  by_cases h1 : d.val % 128 < 64
  · rw [dif_pos h1, if_pos h1, v64_low]
    refine Finset.sum_congr rfl fun k _ => congrArg (fun w => kvS a0 a1 a2 a3 a7 b s k * a9 (ix2 k w)) (Fin.ext ?_)
    show d.val / 128 * 128 + d.val % 128 = d.val
    omega
  · rw [dif_neg h1, if_neg h1]
    unfold ropeK
    dsimp only
    by_cases h2 : d.val % 128 - 64 < 32
    · rw [dif_pos h2, v88_at]
      dsimp only
      by_cases h3 : d.val % 128 - 64 < 16
      · rw [dif_pos h3, dif_pos (show 64 ≤ d.val % 128 ∧ d.val % 128 < 80 by omega), z_ref, z_ref]
        refine congrArg (fun w => zS a0 a1 a2 a3 b s ⟨1408 + (d.val % 128 - 64), by omega⟩ * a12 (ix2 s (⟨d.val % 128 - 64, h3⟩ : Fin 16)) - zS a0 a1 a2 a3 b s w * a13 (ix2 s (⟨d.val % 128 - 64, h3⟩ : Fin 16))) (Fin.ext ?_)
        dsimp only
        omega
      · rw [dif_neg h3, dif_neg (show ¬ (64 ≤ d.val % 128 ∧ d.val % 128 < 80) by omega), dif_pos (show 80 ≤ d.val % 128 ∧ d.val % 128 < 96 by omega), z_ref, z_ref]
        have e1 : 1408 + (16 + (d.val % 128 - 80)) = 1408 + (d.val % 128 - 64) := by omega
        have e2 : d.val % 128 - 64 - 16 = d.val % 128 - 80 := by omega
        simp only [e1, e2]
    · rw [dif_neg h2, dif_neg (show ¬ (64 ≤ d.val % 128 ∧ d.val % 128 < 80) by omega), dif_neg (show ¬ (80 ≤ d.val % 128 ∧ d.val % 128 < 96) by omega)]

end Cert.ReferenceInIdeal.Ref

end
-- ==== Proof.InRefQ.lean ====
/- The input projection call's reference: the latent call's queries. -/
module

public import proofs.«01_k».proof.Proof.InRefH
public import proofs.«01_k».proof.Proof.InTaps
public import Idealize.ShloMosaic.Lib.Tactic

@[expose] public section

set_option maxRecDepth 16384

noncomputable section

namespace Cert.ReferenceInIdeal.Ref

open Cert.ReferenceInIdeal Cert.ReferenceInIdeal.Gen Cert.ReferenceInIdeal.Read Idealize.ShloMosaic Idealize.ShloMosaic.TcCoe Idealize.ShloMosaic.Tactic
open Idealize.ShloMosaic.Pointwise
open Cert.InSpec
open Cert.KernelInIdeal.Block (hrow rms scaleA scaleB eps)

variable (a0 : FVec Ideal S8x4096x1024 .f32) (a1 : FVec Ideal S8x6x1024 .f32) (a2 : FVec Ideal S1024 .f32) (a3 : FVec Ideal S1024x3488 .f32)
variable (a6 : FVec Ideal S384 .f32) (a8 : FVec Ideal S384x768 .f32) (a12 a13 : FVec Ideal S4096x16 .f32)

theorem ql_ref (b : Fin 8) (s : Fin 4096) (e : Fin 384) : val_main_v107 (F := Ideal) a0 a1 a2 a3 a6 (ix3 b s e)
    = rms ((1 / 384 : ℝ) : EReal) (fun j => zS a0 a1 a2 a3 b s ⟨768 + j.val, by omega⟩) (fun j => a6 (ix1 j)) e := by
  unfold rms eps
  rw [← div384]
  simp only [← z_ref]
  pointwise [val_main_v25, val_main_v95, val_main_v96, val_main_v97, val_main_v98, val_main_v99, val_main_v100, val_main_v101, val_main_v102, val_main_v103, val_main_v104, val_main_v105, val_main_v106, val_main_v107, val_main_cst_15, val_main_cst_16, val_main_cst_17]

theorem qup_ref (b : Fin 8) (s : Fin 4096) (q : Fin 768) : val_main_v108 (F := Ideal) a0 a1 a2 a3 a6 a8 (ix3 b s q) = qS a0 a1 a2 a3 a6 a8 b s q := by
  refine Eq.trans (b := ∑ k : Fin 384, val_main_v107 (F := Ideal) a0 a1 a2 a3 a6 (ix3 b s k) * a8 (ix2 k q)) (by pointwise [val_main_v108]) ?_
  unfold qS
  simp only [ql_ref]

theorem v109_at (b : Fin 8) (s : Fin 4096) (h : Fin 8) (l : Fin 96) :
    val_main_v109 (F := Ideal) a0 a1 a2 a3 a6 a8 (ix4 b s h l) = qS a0 a1 a2 a3 a6 a8 b s ⟨h.val * 96 + l.val, by omega⟩ := by
  rw [← qup_ref]
  pointwise [val_main_v109]

theorem v129_at (b : Fin 8) (s : Fin 4096) (h : Fin 8) (l : Fin 32) :
    val_main_v129 (F := Ideal) a0 a1 a2 a3 a6 a8 a12 a13 (ix4 b s h l)
      = if hl : l.val < 16 then
          val_main_v109 (F := Ideal) a0 a1 a2 a3 a6 a8 (ix4 b s h (⟨64 + l.val, by omega⟩ : Fin 96)) * a12 (ix2 s (⟨l.val, hl⟩ : Fin 16))
            - val_main_v109 (F := Ideal) a0 a1 a2 a3 a6 a8 (ix4 b s h (⟨64 + (16 + l.val), by omega⟩ : Fin 96)) * a13 (ix2 s (⟨l.val, hl⟩ : Fin 16))
        else
          val_main_v109 (F := Ideal) a0 a1 a2 a3 a6 a8 (ix4 b s h (⟨64 + (16 + (l.val - 16)), by omega⟩ : Fin 96)) * a12 (ix2 s (⟨l.val - 16, by omega⟩ : Fin 16))
            + val_main_v109 (F := Ideal) a0 a1 a2 a3 a6 a8 (ix4 b s h (⟨64 + (l.val - 16), by omega⟩ : Fin 96)) * a13 (ix2 s (⟨l.val - 16, by omega⟩ : Fin 16)) := by
  pointwise [val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129]

theorem v136_at (b : Fin 8) (s : Fin 4096) (h : Fin 8) (l : Fin 128) :
    val_main_v136 (F := Ideal) a0 a1 a2 a3 a6 a8 a12 a13 (ix4 b s h l)
      = if hl : l.val < 64 then val_main_v109 (F := Ideal) a0 a1 a2 a3 a6 a8 (ix4 b s h (⟨l.val, by omega⟩ : Fin 96)) * scaleB
        else if h2 : l.val - 64 < 32 then val_main_v129 (F := Ideal) a0 a1 a2 a3 a6 a8 a12 a13 (ix4 b s h ⟨l.val - 64, h2⟩) * scaleB else 0 := by
  unfold scaleB
  pointwise [val_main_v130, val_main_v131, val_main_v132, val_main_v133, val_main_v134, val_main_v135, val_main_v136, val_main_cst_18, val_main_cst_19, val_main_cst_20]

theorem v138_at (b : Fin 8) (s : Fin 4096) (d : Fin 1024) :
    val_main_v138 (F := Ideal) a0 a1 a2 a3 a6 a8 a12 a13 (ix3 b s d)
      = val_main_v136 (F := Ideal) a0 a1 a2 a3 a6 a8 a12 a13 (ix4 b s (⟨d.val / 128, by omega⟩ : Fin 8) (⟨d.val % 128, by omega⟩ : Fin 128)) :=
  heads_at (val_main_v136 (F := Ideal) a0 a1 a2 a3 a6 a8 a12 a13) b s d

theorem qb_ref : val_main_v138 (F := Ideal) a0 a1 a2 a3 a6 a8 a12 a13 = qbA a0 a1 a2 a3 a6 a8 a12 a13 := by
  funext i
  obtain ⟨b, s, d, rfl⟩ : ∃ (b : Fin 8) (s : Fin 4096) (d : Fin 1024), i = ix3 b s d := ⟨i 0, i 1, i 2, by funext a; fin_cases a <;> rfl⟩
  show _ = qbS a0 a1 a2 a3 a6 a8 a12 a13 b s d
  unfold qbS ropeQ
  rw [v138_at, v136_at]
  dsimp only
  by_cases h1 : d.val % 128 < 64
  · rw [dif_pos h1, dif_pos h1, v109_at]
  · rw [dif_neg h1, dif_neg h1]
    by_cases h2 : d.val % 128 - 64 < 32
    · rw [dif_pos h2, v129_at]
      dsimp only
      by_cases h3 : d.val % 128 - 64 < 16
      · rw [dif_pos h3, dif_pos (show 64 ≤ d.val % 128 ∧ d.val % 128 < 80 by omega), v109_at, v109_at]
        have e1 : 64 + (d.val % 128 - 64) = d.val % 128 := by omega
        have e2 : 64 + (16 + (d.val % 128 - 64)) = d.val % 128 + 16 := by omega
        simp only [e1, e2]
      · rw [dif_neg h3, dif_neg (show ¬ (64 ≤ d.val % 128 ∧ d.val % 128 < 80) by omega), dif_pos (show 80 ≤ d.val % 128 ∧ d.val % 128 < 96 by omega), v109_at, v109_at]
        have e0 : d.val % 128 - 64 - 16 = d.val % 128 - 80 := by omega
        have e1 : 64 + (16 + (d.val % 128 - 80)) = d.val % 128 := by omega
        have e2 : 64 + (d.val % 128 - 80) = d.val % 128 - 16 := by omega
        simp only [e0, e1, e2]
    · rw [dif_neg h2, dif_neg (show ¬ (64 ≤ d.val % 128 ∧ d.val % 128 < 80) by omega), dif_neg (show ¬ (80 ≤ d.val % 128 ∧ d.val % 128 < 96) by omega)]

end Cert.ReferenceInIdeal.Ref

end
-- ==== Proof.InRefA.lean ====
/- The input projection call's reference: the grouped call's queries. -/
module

public import proofs.«01_k».proof.Proof.InRefH
public import proofs.«01_k».proof.Proof.InTaps
public import Idealize.ShloMosaic.Lib.Tactic

@[expose] public section

set_option maxRecDepth 16384

noncomputable section

namespace Cert.ReferenceInIdeal.Ref

open Cert.ReferenceInIdeal Cert.ReferenceInIdeal.Gen Cert.ReferenceInIdeal.Read Idealize.ShloMosaic Idealize.ShloMosaic.TcCoe Idealize.ShloMosaic.Tactic
open Idealize.ShloMosaic.Pointwise
open Cert.InSpec
open Cert.KernelInIdeal.Block (hrow rms scaleA scaleB eps)

variable (a0 : FVec Ideal S8x4096x1024 .f32) (a1 : FVec Ideal S8x6x1024 .f32) (a2 : FVec Ideal S1024 .f32) (a3 : FVec Ideal S1024x3488 .f32)
variable (a4 : FVec Ideal S64 .f32) (a10 a11 : FVec Ideal S4096x32 .f32)

theorem v139_at (b : Fin 8) (s : Fin 4096) (h : Fin 8) (l : Fin 64) :
    val_main_v139 (F := Ideal) a0 a1 a2 a3 (ix4 b s h l) = zS a0 a1 a2 a3 b s ⟨h.val * 64 + l.val, by omega⟩ := by
  rw [← z_ref]
  pointwise [val_main_v22, val_main_v139]

theorem qn_ref (b : Fin 8) (s : Fin 4096) (h : Fin 8) (l : Fin 64) : val_main_v152 (F := Ideal) a0 a1 a2 a3 a4 (ix4 b s h l)
    = rms ((1 / 64 : ℝ) : EReal) (fun j => zS a0 a1 a2 a3 b s ⟨h.val * 64 + j.val, by omega⟩) (fun j => a4 (ix1 j)) l := by
  unfold rms eps
  rw [← div64]
  simp only [← v139_at]
  pointwise [val_main_v140, val_main_v141, val_main_v142, val_main_v143, val_main_v144, val_main_v145, val_main_v146, val_main_v147, val_main_v148, val_main_v149, val_main_v150, val_main_v151, val_main_v152, val_main_cst_21, val_main_cst_22, val_main_cst_23]

theorem v171_at (b : Fin 8) (s : Fin 4096) (h : Fin 8) (l : Fin 64) :
    val_main_v171 (F := Ideal) a0 a1 a2 a3 a4 a10 a11 (ix4 b s h l)
      = if hl : l.val < 32 then
          val_main_v152 (F := Ideal) a0 a1 a2 a3 a4 (ix4 b s h (⟨l.val, by omega⟩ : Fin 64)) * a10 (ix2 s (⟨l.val, hl⟩ : Fin 32))
            - val_main_v152 (F := Ideal) a0 a1 a2 a3 a4 (ix4 b s h (⟨32 + l.val, by omega⟩ : Fin 64)) * a11 (ix2 s (⟨l.val, hl⟩ : Fin 32))
        else
          val_main_v152 (F := Ideal) a0 a1 a2 a3 a4 (ix4 b s h (⟨32 + (l.val - 32), by omega⟩ : Fin 64)) * a10 (ix2 s (⟨l.val - 32, by omega⟩ : Fin 32))
            + val_main_v152 (F := Ideal) a0 a1 a2 a3 a4 (ix4 b s h (⟨l.val - 32, by omega⟩ : Fin 64)) * a11 (ix2 s (⟨l.val - 32, by omega⟩ : Fin 32)) := by
  pointwise [val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171]

theorem v175_at (b : Fin 8) (s : Fin 4096) (h : Fin 8) (l : Fin 128) :
    val_main_v175 (F := Ideal) a0 a1 a2 a3 a4 a10 a11 (ix4 b s h l)
      = if hl : l.val < 64 then val_main_v171 (F := Ideal) a0 a1 a2 a3 a4 a10 a11 (ix4 b s h ⟨l.val, hl⟩) * scaleA else 0 := by
  unfold scaleA
  pointwise [val_main_v172, val_main_v173, val_main_v174, val_main_v175, val_main_cst_24, val_main_cst_25]

theorem v177_at (b : Fin 8) (s : Fin 4096) (d : Fin 1024) :
    val_main_v177 (F := Ideal) a0 a1 a2 a3 a4 a10 a11 (ix3 b s d)
      = val_main_v175 (F := Ideal) a0 a1 a2 a3 a4 a10 a11 (ix4 b s (⟨d.val / 128, by omega⟩ : Fin 8) (⟨d.val % 128, by omega⟩ : Fin 128)) :=
  heads_at (val_main_v175 (F := Ideal) a0 a1 a2 a3 a4 a10 a11) b s d

theorem qa_ref : val_main_v177 (F := Ideal) a0 a1 a2 a3 a4 a10 a11 = qaA a0 a1 a2 a3 a4 a10 a11 := by
  funext i
  obtain ⟨b, s, d, rfl⟩ : ∃ (b : Fin 8) (s : Fin 4096) (d : Fin 1024), i = ix3 b s d := ⟨i 0, i 1, i 2, by funext a; fin_cases a <;> rfl⟩
  show _ = qaS a0 a1 a2 a3 a4 a10 a11 b s d
  unfold qaS ropeA
  rw [v177_at, v175_at]
  dsimp only
  by_cases h1 : d.val % 128 < 64
  · rw [dif_pos h1, v171_at]
    dsimp only
    by_cases h3 : d.val % 128 < 32
    · rw [dif_pos h3, dif_pos h3, qn_ref, qn_ref]
      have e2 : 32 + d.val % 128 = d.val % 128 + 32 := by omega
      simp only [e2]
    · rw [dif_neg h3, dif_neg h3, dif_pos (show 32 ≤ d.val % 128 ∧ d.val % 128 < 64 by omega), qn_ref, qn_ref]
      have e1 : 32 + (d.val % 128 - 32) = d.val % 128 := by omega
      simp only [e1]
  · rw [dif_neg h1, dif_neg (show ¬ d.val % 128 < 32 by omega), dif_neg (show ¬ (32 ≤ d.val % 128 ∧ d.val % 128 < 64) by omega)]

end Cert.ReferenceInIdeal.Ref

end
-- ==== Proof.InEnd.lean ====
/- The input projection call's claims. -/
module

public import proofs.«01_k».proof.Proof.InOutK
public import proofs.«01_k».proof.Proof.InOutQ
public import proofs.«01_k».proof.Proof.InOutA
public import proofs.«01_k».proof.Proof.InRefV
public import proofs.«01_k».proof.Proof.InRefK
public import proofs.«01_k».proof.Proof.InRefQ
public import proofs.«01_k».proof.Proof.InRefA
public import Idealize.ShloMosaic.Lib.Quiescent

@[expose] public section

set_option maxRecDepth 16384

noncomputable section

namespace Cert.EndIn

open Idealize.ShloMosaic Idealize.ShloMosaic.TcCoe Idealize.SL.Sem

/-- The reference runs, leaves its arguments unchanged, and declares no semaphore. -/
theorem frame_r : Cert.quiescent_ReferenceInIdeal := fun m g _ =>
  (θ_run Cert.ReferenceInIdeal.defs _ _).mono (fun r h => ⟨fun c => (h c).2.2.2.2.2.2.2, sem_eq_zero_of_no_sems rfl r.2⟩)
    (Cert.ReferenceInIdeal.Value.run (F := Ideal) m g)

/-- Each result of the kernel is the reference's: both are the specification's function of the arguments. -/
theorem algebraic : Cert.algebraic_KernelInIdeal_ReferenceInIdeal := by
  intro m g m' g' _ ha
  refine ⟨fun c => Cert.KernelInIdeal.Block.result19 m c, fun c => Cert.KernelInIdeal.Block.result20 m c, fun c => Cert.KernelInIdeal.Block.result15 m c, fun c => Cert.KernelInIdeal.Block.result18 m c, fun c => Cert.KernelInIdeal.Block.result17 m c, fun c => Cert.KernelInIdeal.Block.result16 m c, fun c => Cert.KernelInIdeal.Block.result13 m c, ?_, ?_⟩
  · refine (θ_run Cert.KernelInIdeal.defs _ _).mono (fun r h c => ?_) (Cert.KernelInIdeal.Value.run_blocks m g)
    obtain ⟨h13, _, h15, h16, h17, h18, h19, h20, hr⟩ := h c
    exact ⟨h19.trans (Cert.KernelInIdeal.Block.final_19 m c), h20.trans (Cert.KernelInIdeal.Block.final_20 m c), h15.trans (Cert.KernelInIdeal.Block.final_15 m c), h18.trans (Cert.KernelInIdeal.Block.final_18 m c), h17.trans (Cert.KernelInIdeal.Block.final_17 m c), h16.trans (Cert.KernelInIdeal.Block.final_16 m c), h13.trans (Cert.KernelInIdeal.Block.final_13 m c), hr⟩
  · refine (θ_run Cert.ReferenceInIdeal.defs _ _).mono (fun r h c => ?_) (Cert.ReferenceInIdeal.Value.run (F := Ideal) m' g')
    obtain ⟨r36, r43, r49, r71, r94, r138, r177, hr⟩ := h c
    obtain ⟨a0, a1, a2, a3, a4, a5, a6, a7, a8, a9, a10, a11, a12, a13⟩ := ha c
    refine ⟨r36.trans ?_, r43.trans ?_, r49.trans ?_, r71.trans ?_, r94.trans ?_, r138.trans ?_, r177.trans ?_, hr⟩
    · refine (Cert.ReferenceInIdeal.Read.val_main_v36_eq _).trans ?_
      show Cert.ReferenceInIdeal.Read.val_main_v36 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) = _
      rw [a0, a1, a2, a3]
      exact Cert.ReferenceInIdeal.Ref.ga_ref _ _ _ _
    · refine (Cert.ReferenceInIdeal.Read.val_main_v43_eq _).trans ?_
      show Cert.ReferenceInIdeal.Read.val_main_v43 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) = _
      rw [a0, a1, a2, a3]
      exact Cert.ReferenceInIdeal.Ref.gb_ref _ _ _ _
    · refine (Cert.ReferenceInIdeal.Read.val_main_v49_eq _).trans ?_
      show Cert.ReferenceInIdeal.Read.val_main_v49 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) = _
      rw [a0, a1, a2, a3]
      exact Cert.ReferenceInIdeal.Ref.va_ref _ _ _ _
    · refine (Cert.ReferenceInIdeal.Read.val_main_v71_eq _).trans ?_
      show Cert.ReferenceInIdeal.Read.val_main_v71 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg7)) (m' ((c.tc : Thread Cert.ReferenceInIdeal.nD Cert.ReferenceInIdeal.τ).loc Cert.ReferenceInIdeal.main_arg9)) = _
      rw [a0, a1, a2, a3, a7, a9]
      exact Cert.ReferenceInIdeal.Ref.vb_ref _ _ _ _ _ _
    · refine (Cert.ReferenceInIdeal.Read.val_main_v94_eq _).trans ?_
      show Cert.ReferenceInIdeal.Read.val_main_v94 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg7)) (m' ((c.tc : Thread Cert.ReferenceInIdeal.nD Cert.ReferenceInIdeal.τ).loc Cert.ReferenceInIdeal.main_arg9)) (m' ((c.tc : Thread Cert.ReferenceInIdeal.nD Cert.ReferenceInIdeal.τ).loc Cert.ReferenceInIdeal.main_arg12)) (m' ((c.tc : Thread Cert.ReferenceInIdeal.nD Cert.ReferenceInIdeal.τ).loc Cert.ReferenceInIdeal.main_arg13)) = _
      rw [a0, a1, a2, a3, a7, a9, a12, a13]
      exact Cert.ReferenceInIdeal.Ref.kb_ref _ _ _ _ _ _ _ _
    · refine (Cert.ReferenceInIdeal.Read.val_main_v138_eq _).trans ?_
      show Cert.ReferenceInIdeal.Read.val_main_v138 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg6)) (m' ((c.tc : Thread Cert.ReferenceInIdeal.nD Cert.ReferenceInIdeal.τ).loc Cert.ReferenceInIdeal.main_arg8)) (m' ((c.tc : Thread Cert.ReferenceInIdeal.nD Cert.ReferenceInIdeal.τ).loc Cert.ReferenceInIdeal.main_arg12)) (m' ((c.tc : Thread Cert.ReferenceInIdeal.nD Cert.ReferenceInIdeal.τ).loc Cert.ReferenceInIdeal.main_arg13)) = _
      rw [a0, a1, a2, a3, a6, a8, a12, a13]
      exact Cert.ReferenceInIdeal.Ref.qb_ref _ _ _ _ _ _ _ _
    · refine (Cert.ReferenceInIdeal.Read.val_main_v177_eq _).trans ?_
      show Cert.ReferenceInIdeal.Read.val_main_v177 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg4)) (m' ((c.tc : Thread Cert.ReferenceInIdeal.nD Cert.ReferenceInIdeal.τ).loc Cert.ReferenceInIdeal.main_arg10)) (m' ((c.tc : Thread Cert.ReferenceInIdeal.nD Cert.ReferenceInIdeal.τ).loc Cert.ReferenceInIdeal.main_arg11)) = _
      rw [a0, a1, a2, a3, a4, a10, a11]
      exact Cert.ReferenceInIdeal.Ref.qa_ref _ _ _ _ _ _ _

end Cert.EndIn

end
-- ==== Proof.lean ====
module

public import proofs.«01_k».proof.Defs
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Value
public import proofs.«01_k».proof.Proof.Gen.KernelBIdeal.Value
public import proofs.«01_k».proof.Proof.Gen.ReferenceAIdeal.Run
public import proofs.«01_k».proof.Proof.Gen.ReferenceAIdeal.Read
public import proofs.«01_k».proof.Proof.Gen.ReferenceBIdeal.Run
public import proofs.«01_k».proof.Proof.Gen.ReferenceBIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.ReferenceAIdeal
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.Pre_operands_a
public import proofs.«01_k».proof.Proof.Gen.Pre_operands_b
public import proofs.«01_k».proof.Proof.EndA
public import proofs.«01_k».proof.Proof.InEnd
public import Idealize.ShloMosaic.Adequacy
public import Idealize.ShloMosaic.Init

@[expose] public section

noncomputable section

namespace Cert.Proof

open Idealize.ShloMosaic Idealize.SL.Sem Cert.KernelA

theorem claim : Cert.Claim := ⟨Cert.KernelA.Gen.facts, Cert.KernelAIdeal.Gen.facts, Cert.ReferenceAIdeal.Gen.facts, Cert.KernelB.Gen.facts, Cert.KernelBIdeal.Gen.facts, Cert.ReferenceBIdeal.Gen.facts, Cert.KernelIn.Gen.facts, Cert.KernelInIdeal.Gen.facts, Cert.ReferenceInIdeal.Gen.facts, Cert.Pre_operands_a.Gen.facts, Cert.Pre_operands_b.Gen.facts,
  fun m ρ _ => Cert.KernelA.Gen.frame m ρ, fun m ρ _ => Cert.KernelAIdeal.Gen.frame m ρ, fun m ρ _ => Cert.KernelAIdeal.Gen.frame m ρ,
  Cert.EndA.frame_r, fun m g _ => Cert.EndA.frame_r m g trivial,
  fun m ρ _ => Cert.KernelB.Gen.frame m ρ, fun m ρ _ => Cert.KernelBIdeal.Gen.frame m ρ, fun m ρ _ => Cert.KernelBIdeal.Gen.frame m ρ,
  Cert.EndB.frame_r, fun m g _ => Cert.EndB.frame_r m g trivial,
  fun m ρ _ => Cert.KernelIn.Gen.frame m ρ, fun m ρ _ => Cert.KernelInIdeal.Gen.frame m ρ, Cert.EndIn.frame_r,
  trivial, Cert.EndA.algebraic, trivial, Cert.EndB.algebraic,
  IdealRules.named_const.statement Cert.KernelInIdeal.κ "mean_latent" .f32 0x3B2AAAAB#32 ((1 / 384 : ℝ) : EReal) rfl, Cert.EndIn.algebraic⟩

end Cert.Proof

end
